-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_KernelIdeal [hPre_within_KernelIdeal : Cert.Pre_within_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def Pre_ClippedIdeal_within_ClippedIdeal [hPre_within_ClippedIdeal : Cert.Pre_within_ClippedIdeal.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_within_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1)) (m ((c.tc : Thread Cert.ClippedIdeal.nD Cert.ClippedIdeal.τ).loc Cert.ClippedIdeal.main_arg2)) (m ((c.tc : Thread Cert.ClippedIdeal.nD Cert.ClippedIdeal.τ).loc Cert.ClippedIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_within_KernelIdeal [hKernelIdeal : Cert.KernelIdeal.Facts] [hPre_within_KernelIdeal : Cert.Pre_within_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2)
      ∧ r.2.mem ((c.tc : Thread Cert.ClippedIdeal.nD Cert.ClippedIdeal.τ).loc Cert.ClippedIdeal.main_arg3) = m ((c.tc : Thread Cert.ClippedIdeal.nD Cert.ClippedIdeal.τ).loc Cert.ClippedIdeal.main_arg3))
      ∧ r.2.sem = fun _ => 0)

def quiescent_ClippedIdeal_pre_within_ClippedIdeal [hClippedIdeal : Cert.ClippedIdeal.Facts] [hPre_within_ClippedIdeal : Cert.Pre_within_ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_within_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2)
      ∧ r.2.mem ((c.tc : Thread Cert.ClippedIdeal.nD Cert.ClippedIdeal.τ).loc Cert.ClippedIdeal.main_arg3) = m ((c.tc : Thread Cert.ClippedIdeal.nD Cert.ClippedIdeal.τ).loc Cert.ClippedIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_ClippedIdeal_pre_within_KernelIdeal [hKernelIdeal : Cert.KernelIdeal.Facts] [hClippedIdeal : Cert.ClippedIdeal.Facts] [hPre_within_KernelIdeal : Cert.Pre_within_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal_within_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)
      ∧ m ((c.tc : Thread Cert.KernelIdeal.nD Cert.KernelIdeal.τ).loc Cert.KernelIdeal.main_arg2) = m' (((0 : Dev Cert.ClippedIdeal.nD).tc : Thread Cert.ClippedIdeal.nD Cert.ClippedIdeal.τ).loc Cert.ClippedIdeal.main_arg2)
      ∧ m ((c.tc : Thread Cert.KernelIdeal.nD Cert.KernelIdeal.τ).loc Cert.KernelIdeal.main_arg3) = m' (((0 : Dev Cert.ClippedIdeal.nD).tc : Thread Cert.ClippedIdeal.nD Cert.ClippedIdeal.τ).loc Cert.ClippedIdeal.main_arg3)) →
    ∃ (v0 : Buf (Elt Ideal) (((0 : Dev Cert.ClippedIdeal.nD).tc : Thread Cert.ClippedIdeal.nD Cert.ClippedIdeal.τ).loc Cert.ClippedIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ClippedIdeal.defs (F := Ideal)) (onTc (τ := Cert.ClippedIdeal.τ) (Cert.ClippedIdeal.main (F := Ideal))) ⟨m', fun _ => 0, g'⟩ (fun r =>
          r.2.mem (((0 : Dev Cert.ClippedIdeal.nD).tc : Thread Cert.ClippedIdeal.nD Cert.ClippedIdeal.τ).loc Cert.ClippedIdeal.main_v10) = v0
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1)
          ∧ r.2.mem (((0 : Dev Cert.ClippedIdeal.nD).tc : Thread Cert.ClippedIdeal.nD Cert.ClippedIdeal.τ).loc Cert.ClippedIdeal.main_arg2) = m' (((0 : Dev Cert.ClippedIdeal.nD).tc : Thread Cert.ClippedIdeal.nD Cert.ClippedIdeal.τ).loc Cert.ClippedIdeal.main_arg2)
          ∧ r.2.mem (((0 : Dev Cert.ClippedIdeal.nD).tc : Thread Cert.ClippedIdeal.nD Cert.ClippedIdeal.τ).loc Cert.ClippedIdeal.main_arg3) = m' (((0 : Dev Cert.ClippedIdeal.nD).tc : Thread Cert.ClippedIdeal.nD Cert.ClippedIdeal.τ).loc Cert.ClippedIdeal.main_arg3))

def Claim : Prop :=
  ∃ (hKernel : Cert.Kernel.Facts) (hKernelIdeal : Cert.KernelIdeal.Facts) (hReferenceIdeal : Cert.ReferenceIdeal.Facts) (hClippedIdeal : Cert.ClippedIdeal.Facts) (hPre_within_KernelIdeal : Cert.Pre_within_KernelIdeal.Facts) (hPre_within_ClippedIdeal : Cert.Pre_within_ClippedIdeal.Facts),
    quiescent_Kernel (hKernel := hKernel)
    ∧ quiescent_KernelIdeal (hKernelIdeal := hKernelIdeal)
    ∧ quiescent_KernelIdeal_pre_within_KernelIdeal (hKernelIdeal := hKernelIdeal) (hPre_within_KernelIdeal := hPre_within_KernelIdeal)
    ∧ quiescent_ReferenceIdeal (hReferenceIdeal := hReferenceIdeal)
    ∧ quiescent_ClippedIdeal (hClippedIdeal := hClippedIdeal)
    ∧ quiescent_ClippedIdeal_pre_within_ClippedIdeal (hClippedIdeal := hClippedIdeal) (hPre_within_ClippedIdeal := hPre_within_ClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_pre_within_KernelIdeal (hKernelIdeal := hKernelIdeal) (hClippedIdeal := hClippedIdeal) (hPre_within_KernelIdeal := hPre_within_KernelIdeal)
-- ==== Pre_within_ClippedIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) (main_arg2 : FVec F S1 .f32) (main_arg3 : FVec F S1 .f32) : IVec S4096x2048 1 :=
  let main_v0 : FVec F S4096x2048 .f32 := (fun l r => Host.dotGeneral dot_S4096x4096_S4096x2048_S4096x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x2048 .f32 := broadcastInDim S4096x2048 ![0, 1] bcast_S1x1_S4096x2048_0_1 main_v2
  let main_v4 : FVec F S4096x2048 .f32 := mulf main_v0 main_v3
  let main_v5 : FVec F S4096x2048 .f32 := Host.absf main_v4
  let main_cst : FVec F S_ .f32 := constant S_ .f32 0x42700000#32
  let main_v6 : FVec F S4096x2048 .f32 := broadcastInDim S4096x2048 ![] bcast_S_S4096x2048 main_cst
  let main_v7 : IVec S4096x2048 1 := cmpf .ole main_v5 main_v6
  main_v7
-- ==== Pre_within_KernelIdeal.lean ====
abbrev S128x4096 : Shape := ⟨2, ![128, 4096]⟩
abbrev S4096x2048 : Shape := ⟨2, ![4096, 2048]⟩
abbrev S1 : Shape := ⟨1, ![1]⟩
abbrev S128x2048 : Shape := ⟨2, ![128, 2048]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S128x2048_0_1 : S1x1.BroadcastsInDim S128x2048 (![0, 1] : Fin 2 → Fin S128x2048.rank)
  bcast_S_S128x2048 : S_.BroadcastsInDim S128x2048 (![] : Fin 0 → Fin S128x2048.rank)
  dot_S128x4096_S4096x2048_S128x2048_1_0_0_1_n_n_wf : DotDims.WF S128x4096 S4096x2048 S128x2048 [1] [0] [0] [1] [] []

variable [Facts]

def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf
def fn {F : FTy → Type} [FloatOps F] (main_arg0 : FVec F S128x4096 .f32) (main_arg1 : FVec F S4096x2048 .f32) (main_arg2 : FVec F S1 .f32) (main_arg3 : FVec F S1 .f32) : IVec S128x2048 1 :=
  let main_v0 : FVec F S128x2048 .f32 := (fun l r => Host.dotGeneral dot_S128x4096_S4096x2048_S128x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S128x2048 .f32 := broadcastInDim S128x2048 ![0, 1] bcast_S1x1_S128x2048_0_1 main_v2
  let main_v4 : FVec F S128x2048 .f32 := mulf main_v0 main_v3
  let main_v5 : FVec F S128x2048 .f32 := Host.absf main_v4
  let main_cst : FVec F S_ .f32 := constant S_ .f32 0x42700000#32
  let main_v6 : FVec F S128x2048 .f32 := broadcastInDim S128x2048 ![] bcast_S_S128x2048 main_cst
  let main_v7 : IVec S128x2048 1 := cmpf .ole main_v5 main_v6
  main_v7
-- ==== Kernel.lean ====
abbrev S128x4096 : Shape := ⟨2, ![128, 4096]⟩
abbrev S4096x2048 : Shape := ⟨2, ![4096, 2048]⟩
abbrev S1 : Shape := ⟨1, ![1]⟩
abbrev S4096x64 : Shape := ⟨2, ![4096, 64]⟩
abbrev S8x1024x512 : Shape := ⟨3, ![8, 1024, 512]⟩
abbrev S32x128x64 : Shape := ⟨3, ![32, 128, 64]⟩
abbrev S8 : Shape := ⟨1, ![8]⟩
abbrev S32 : Shape := ⟨1, ![32]⟩
abbrev S_ : Shape := ⟨0, ![]⟩
abbrev S1x1024x512 : Shape := ⟨3, ![1, 1024, 512]⟩
abbrev S1024x512 : Shape := ⟨2, ![1024, 512]⟩
abbrev S128x1024 : Shape := ⟨2, ![128, 1024]⟩
abbrev S128x512 : Shape := ⟨2, ![128, 512]⟩
abbrev S128x64 : Shape := ⟨2, ![128, 64]⟩
abbrev S1x128x64 : Shape := ⟨3, ![1, 128, 64]⟩

abbrev nBuf : Space → Nat
  | .hbm => 5
  | .vmem => 5
  | .smem => 2
  | _ => 0

abbrev bufTy : (tb : Table) → Fin (tcTables nBuf tb) → BufTy
  | .hbm, ⟨0, _⟩ => ⟨S128x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x64, .f32⟩
  | .local _ .vmem, ⟨0, _⟩ => ⟨S128x4096, .f32⟩
  | .local _ .vmem, ⟨1, _⟩ => ⟨S4096x64, .f32⟩
  | .local _ .vmem, ⟨2, _⟩ => ⟨S8x1024x512, .f32⟩
  | .local _ .vmem, ⟨3, _⟩ => ⟨S32x128x64, .bf16⟩
  | .local _ .vmem, ⟨4, _⟩ => ⟨S32x128x64, .bf16⟩
  | .local _ .smem, ⟨0, _⟩ => ⟨S1, .f32⟩
  | .local _ .smem, ⟨1, _⟩ => ⟨S1, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  (ofTc nBuf bufTy 1 77 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v34 : BitVec 32 := Scalar.addi v2 c1_i32_27
  let c32_i32_28 : BitVec 32 := 32#32
  let c0_i32_29 : BitVec 32 := 0#32
  let v35 : BitVec 1 := Scalar.cmpi .eq c32_i32_28 c0_i32_29
  let c1_i32_30 : BitVec 32 := 1#32
  let v36 : BitVec 32 := Scalar.select v35 c1_i32_30 c32_i32_28
  let v37 : BitVec 32 := Scalar.remsi v34 v36
  let c0_i32_32 : BitVec 32 := 0#32
  let v39 : BitVec 1 := Scalar.cmpi .slt v37 c0_i32_32
  let c0_i32_33 : BitVec 32 := 0#32
  let v40 : BitVec 1 := Scalar.cmpi .slt v36 c0_i32_33
  let v41 : BitVec 1 := Scalar.xori v39 v40
  let c0_i32_31 : BitVec 32 := 0#32
  let v38 : BitVec 1 := Scalar.cmpi .ne v37 c0_i32_31
  let v42 : BitVec 1 := Scalar.andi v41 v38
  let v43 : BitVec 32 := Scalar.addi v37 v36
  let v44 : BitVec 32 := Scalar.select v42 v43 v37
  let c1_i32_35 : BitVec 32 := 1#32
  let v45 : BitVec 32 := Scalar.muli v44 c1_i32_35
  let v46 : BitVec 32 := Scalar.addi c0_i32_36 v45
  v46.toNat
def k0_dev2 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_37 : BitVec 32 := 2#32
  let v47 : BitVec 32 := Scalar.addi v2 c2_i32_37
  let c32_i32_38 : BitVec 32 := 32#32
  let c0_i32_39 : BitVec 32 := 0#32
  let v48 : BitVec 1 := Scalar.cmpi .eq c32_i32_38 c0_i32_39
  let c1_i32_40 : BitVec 32 := 1#32
  let v49 : BitVec 32 := Scalar.select v48 c1_i32_40 c32_i32_38
  let v50 : BitVec 32 := Scalar.remsi v47 v49
  let c0_i32_42 : BitVec 32 := 0#32
  let v52 : BitVec 1 := Scalar.cmpi .slt v50 c0_i32_42
  let c0_i32_43 : BitVec 32 := 0#32
  let v53 : BitVec 1 := Scalar.cmpi .slt v49 c0_i32_43
  let v54 : BitVec 1 := Scalar.xori v52 v53
  let c0_i32_41 : BitVec 32 := 0#32
  let v51 : BitVec 1 := Scalar.cmpi .ne v50 c0_i32_41
  let v55 : BitVec 1 := Scalar.andi v54 v51
  let v56 : BitVec 32 := Scalar.addi v50 v49
  let v57 : BitVec 32 := Scalar.select v55 v56 v50
  let c1_i32_45 : BitVec 32 := 1#32
  let v58 : BitVec 32 := Scalar.muli v57 c1_i32_45
  let v59 : BitVec 32 := Scalar.addi c0_i32_46 v58
  v59.toNat
def k0_dev3 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_47 : BitVec 32 := 3#32
  let v60 : BitVec 32 := Scalar.addi v2 c3_i32_47
  let c32_i32_48 : BitVec 32 := 32#32
  let c0_i32_49 : BitVec 32 := 0#32
  let v61 : BitVec 1 := Scalar.cmpi .eq c32_i32_48 c0_i32_49
  let c1_i32_50 : BitVec 32 := 1#32
  let v62 : BitVec 32 := Scalar.select v61 c1_i32_50 c32_i32_48
  let v63 : BitVec 32 := Scalar.remsi v60 v62
  let c0_i32_52 : BitVec 32 := 0#32
  let v65 : BitVec 1 := Scalar.cmpi .slt v63 c0_i32_52
  let c0_i32_53 : BitVec 32 := 0#32
  let v66 : BitVec 1 := Scalar.cmpi .slt v62 c0_i32_53
  let v67 : BitVec 1 := Scalar.xori v65 v66
  let c0_i32_51 : BitVec 32 := 0#32
  let v64 : BitVec 1 := Scalar.cmpi .ne v63 c0_i32_51
  let v68 : BitVec 1 := Scalar.andi v67 v64
  let v69 : BitVec 32 := Scalar.addi v63 v62
  let v70 : BitVec 32 := Scalar.select v68 v69 v63
  let c1_i32_55 : BitVec 32 := 1#32
  let v71 : BitVec 32 := Scalar.muli v70 c1_i32_55
  let v72 : BitVec 32 := Scalar.addi c0_i32_56 v71
  v72.toNat
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_57 : BitVec 32 := 4#32
  let v73 : BitVec 32 := Scalar.addi v2 c4_i32_57
  let c32_i32_58 : BitVec 32 := 32#32
  let c0_i32_59 : BitVec 32 := 0#32
  let v74 : BitVec 1 := Scalar.cmpi .eq c32_i32_58 c0_i32_59
  let c1_i32_60 : BitVec 32 := 1#32
  let v75 : BitVec 32 := Scalar.select v74 c1_i32_60 c32_i32_58
  let v76 : BitVec 32 := Scalar.remsi v73 v75
  let c0_i32_62 : BitVec 32 := 0#32
  let v78 : BitVec 1 := Scalar.cmpi .slt v76 c0_i32_62
  let c0_i32_63 : BitVec 32 := 0#32
  let v79 : BitVec 1 := Scalar.cmpi .slt v75 c0_i32_63
  let v80 : BitVec 1 := Scalar.xori v78 v79
  let c0_i32_61 : BitVec 32 := 0#32
  let v77 : BitVec 1 := Scalar.cmpi .ne v76 c0_i32_61
  let v81 : BitVec 1 := Scalar.andi v80 v77
  let v82 : BitVec 32 := Scalar.addi v76 v75
  let v83 : BitVec 32 := Scalar.select v81 v82 v76
  let c1_i32_65 : BitVec 32 := 1#32
  let v84 : BitVec 32 := Scalar.muli v83 c1_i32_65
  let v85 : BitVec 32 := Scalar.addi c0_i32_66 v84
  v85.toNat
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_67 : BitVec 32 := 5#32
  let v86 : BitVec 32 := Scalar.addi v2 c5_i32_67
  let c32_i32_68 : BitVec 32 := 32#32
  let c0_i32_69 : BitVec 32 := 0#32
  let v87 : BitVec 1 := Scalar.cmpi .eq c32_i32_68 c0_i32_69
  let c1_i32_70 : BitVec 32 := 1#32
  let v88 : BitVec 32 := Scalar.select v87 c1_i32_70 c32_i32_68
  let v89 : BitVec 32 := Scalar.remsi v86 v88
  let c0_i32_72 : BitVec 32 := 0#32
  let v91 : BitVec 1 := Scalar.cmpi .slt v89 c0_i32_72
  let c0_i32_73 : BitVec 32 := 0#32
  let v92 : BitVec 1 := Scalar.cmpi .slt v88 c0_i32_73
  let v93 : BitVec 1 := Scalar.xori v91 v92
  let c0_i32_71 : BitVec 32 := 0#32
  let v90 : BitVec 1 := Scalar.cmpi .ne v89 c0_i32_71
  let v94 : BitVec 1 := Scalar.andi v93 v90
  let v95 : BitVec 32 := Scalar.addi v89 v88
  let v96 : BitVec 32 := Scalar.select v94 v95 v89
  let c1_i32_75 : BitVec 32 := 1#32
  let v97 : BitVec 32 := Scalar.muli v96 c1_i32_75
  let v98 : BitVec 32 := Scalar.addi c0_i32_76 v97
  v98.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v99 : BitVec 32 := Scalar.addi v2 c6_i32
  let c32_i32_77 : BitVec 32 := 32#32
  let c0_i32_78 : BitVec 32 := 0#32
  let v100 : BitVec 1 := Scalar.cmpi .eq c32_i32_77 c0_i32_78
  let c1_i32_79 : BitVec 32 := 1#32
  let v101 : BitVec 32 := Scalar.select v100 c1_i32_79 c32_i32_77
  let v102 : BitVec 32 := Scalar.remsi v99 v101
  let c0_i32_81 : BitVec 32 := 0#32
  let v104 : BitVec 1 := Scalar.cmpi .slt v102 c0_i32_81
  let c0_i32_82 : BitVec 32 := 0#32
  let v105 : BitVec 1 := Scalar.cmpi .slt v101 c0_i32_82
  let v106 : BitVec 1 := Scalar.xori v104 v105
  let c0_i32_80 : BitVec 32 := 0#32
  let v103 : BitVec 1 := Scalar.cmpi .ne v102 c0_i32_80
  let v107 : BitVec 1 := Scalar.andi v106 v103
  let v108 : BitVec 32 := Scalar.addi v102 v101
  let v109 : BitVec 32 := Scalar.select v107 v108 v102
  let c1_i32_84 : BitVec 32 := 1#32
  let v110 : BitVec 32 := Scalar.muli v109 c1_i32_84
  let v111 : BitVec 32 := Scalar.addi c0_i32_85 v110
  v111.toNat
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v112 : BitVec 32 := Scalar.addi v2 c7_i32
  let c32_i32_86 : BitVec 32 := 32#32
  let c0_i32_87 : BitVec 32 := 0#32
  let v113 : BitVec 1 := Scalar.cmpi .eq c32_i32_86 c0_i32_87
  let c1_i32_88 : BitVec 32 := 1#32
  let v114 : BitVec 32 := Scalar.select v113 c1_i32_88 c32_i32_86
  let v115 : BitVec 32 := Scalar.remsi v112 v114
  let c0_i32_90 : BitVec 32 := 0#32
  let v117 : BitVec 1 := Scalar.cmpi .slt v115 c0_i32_90
  let c0_i32_91 : BitVec 32 := 0#32
  let v118 : BitVec 1 := Scalar.cmpi .slt v114 c0_i32_91
  let v119 : BitVec 1 := Scalar.xori v117 v118
  let c0_i32_89 : BitVec 32 := 0#32
  let v116 : BitVec 1 := Scalar.cmpi .ne v115 c0_i32_89
  let v120 : BitVec 1 := Scalar.andi v119 v116
  let v121 : BitVec 32 := Scalar.addi v115 v114
  let v122 : BitVec 32 := Scalar.select v120 v121 v115
  let c1_i32_93 : BitVec 32 := 1#32
  let v123 : BitVec 32 := Scalar.muli v122 c1_i32_93
  let v124 : BitVec 32 := Scalar.addi c0_i32_94 v123
  v124.toNat
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v125 : BitVec 32 := Scalar.addi v2 c8_i32
  let c32_i32_95 : BitVec 32 := 32#32
  let c0_i32_96 : BitVec 32 := 0#32
  let v126 : BitVec 1 := Scalar.cmpi .eq c32_i32_95 c0_i32_96
  let c1_i32_97 : BitVec 32 := 1#32
  let v127 : BitVec 32 := Scalar.select v126 c1_i32_97 c32_i32_95
  let v128 : BitVec 32 := Scalar.remsi v125 v127
  let c0_i32_99 : BitVec 32 := 0#32
  let v130 : BitVec 1 := Scalar.cmpi .slt v128 c0_i32_99
  let c0_i32_100 : BitVec 32 := 0#32
  let v131 : BitVec 1 := Scalar.cmpi .slt v127 c0_i32_100
  let v132 : BitVec 1 := Scalar.xori v130 v131
  let c0_i32_98 : BitVec 32 := 0#32
  let v129 : BitVec 1 := Scalar.cmpi .ne v128 c0_i32_98
  let v133 : BitVec 1 := Scalar.andi v132 v129
  let v134 : BitVec 32 := Scalar.addi v128 v127
  let v135 : BitVec 32 := Scalar.select v133 v134 v128
  let c1_i32_102 : BitVec 32 := 1#32
  let v136 : BitVec 32 := Scalar.muli v135 c1_i32_102
  let v137 : BitVec 32 := Scalar.addi c0_i32_103 v136
  v137.toNat
def k0_dev9 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v138 : BitVec 32 := Scalar.addi v2 c9_i32
  let c32_i32_104 : BitVec 32 := 32#32
  let c0_i32_105 : BitVec 32 := 0#32
  let v139 : BitVec 1 := Scalar.cmpi .eq c32_i32_104 c0_i32_105
  let c1_i32_106 : BitVec 32 := 1#32
  let v140 : BitVec 32 := Scalar.select v139 c1_i32_106 c32_i32_104
  let v141 : BitVec 32 := Scalar.remsi v138 v140
  let c0_i32_108 : BitVec 32 := 0#32
  let v143 : BitVec 1 := Scalar.cmpi .slt v141 c0_i32_108
  let c0_i32_109 : BitVec 32 := 0#32
  let v144 : BitVec 1 := Scalar.cmpi .slt v140 c0_i32_109
  let v145 : BitVec 1 := Scalar.xori v143 v144
  let c0_i32_107 : BitVec 32 := 0#32
  let v142 : BitVec 1 := Scalar.cmpi .ne v141 c0_i32_107
  let v146 : BitVec 1 := Scalar.andi v145 v142
  let v147 : BitVec 32 := Scalar.addi v141 v140
  let v148 : BitVec 32 := Scalar.select v146 v147 v141
  let c1_i32_111 : BitVec 32 := 1#32
  let v149 : BitVec 32 := Scalar.muli v148 c1_i32_111
  let v150 : BitVec 32 := Scalar.addi c0_i32_112 v149
  v150.toNat
def k0_dev10 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v151 : BitVec 32 := Scalar.addi v2 c10_i32
  let c32_i32_113 : BitVec 32 := 32#32
  let c0_i32_114 : BitVec 32 := 0#32
  let v152 : BitVec 1 := Scalar.cmpi .eq c32_i32_113 c0_i32_114
  let c1_i32_115 : BitVec 32 := 1#32
  let v153 : BitVec 32 := Scalar.select v152 c1_i32_115 c32_i32_113
  let v154 : BitVec 32 := Scalar.remsi v151 v153
  let c0_i32_117 : BitVec 32 := 0#32
  let v156 : BitVec 1 := Scalar.cmpi .slt v154 c0_i32_117
  let c0_i32_118 : BitVec 32 := 0#32
  let v157 : BitVec 1 := Scalar.cmpi .slt v153 c0_i32_118
  let v158 : BitVec 1 := Scalar.xori v156 v157
  let c0_i32_116 : BitVec 32 := 0#32
  let v155 : BitVec 1 := Scalar.cmpi .ne v154 c0_i32_116
  let v159 : BitVec 1 := Scalar.andi v158 v155
  let v160 : BitVec 32 := Scalar.addi v154 v153
  let v161 : BitVec 32 := Scalar.select v159 v160 v154
  let c1_i32_120 : BitVec 32 := 1#32
  let v162 : BitVec 32 := Scalar.muli v161 c1_i32_120
  let v163 : BitVec 32 := Scalar.addi c0_i32_121 v162
  v163.toNat
def k0_dev11 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v164 : BitVec 32 := Scalar.addi v2 c11_i32
  let c32_i32_122 : BitVec 32 := 32#32
  let c0_i32_123 : BitVec 32 := 0#32
  let v165 : BitVec 1 := Scalar.cmpi .eq c32_i32_122 c0_i32_123
  let c1_i32_124 : BitVec 32 := 1#32
  let v166 : BitVec 32 := Scalar.select v165 c1_i32_124 c32_i32_122
  let v167 : BitVec 32 := Scalar.remsi v164 v166
  let c0_i32_126 : BitVec 32 := 0#32
  let v169 : BitVec 1 := Scalar.cmpi .slt v167 c0_i32_126
  let c0_i32_127 : BitVec 32 := 0#32
  let v170 : BitVec 1 := Scalar.cmpi .slt v166 c0_i32_127
  let v171 : BitVec 1 := Scalar.xori v169 v170
  let c0_i32_125 : BitVec 32 := 0#32
  let v168 : BitVec 1 := Scalar.cmpi .ne v167 c0_i32_125
  let v172 : BitVec 1 := Scalar.andi v171 v168
  let v173 : BitVec 32 := Scalar.addi v167 v166
  let v174 : BitVec 32 := Scalar.select v172 v173 v167
  let c1_i32_129 : BitVec 32 := 1#32
  let v175 : BitVec 32 := Scalar.muli v174 c1_i32_129
  let v176 : BitVec 32 := Scalar.addi c0_i32_130 v175
  v176.toNat
def k0_dev12 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v177 : BitVec 32 := Scalar.addi v2 c12_i32
  let c32_i32_131 : BitVec 32 := 32#32
  let c0_i32_132 : BitVec 32 := 0#32
  let v178 : BitVec 1 := Scalar.cmpi .eq c32_i32_131 c0_i32_132
  let c1_i32_133 : BitVec 32 := 1#32
  let v179 : BitVec 32 := Scalar.select v178 c1_i32_133 c32_i32_131
  let v180 : BitVec 32 := Scalar.remsi v177 v179
  let c0_i32_135 : BitVec 32 := 0#32
  let v182 : BitVec 1 := Scalar.cmpi .slt v180 c0_i32_135
  let c0_i32_136 : BitVec 32 := 0#32
  let v183 : BitVec 1 := Scalar.cmpi .slt v179 c0_i32_136
  let v184 : BitVec 1 := Scalar.xori v182 v183
  let c0_i32_134 : BitVec 32 := 0#32
  let v181 : BitVec 1 := Scalar.cmpi .ne v180 c0_i32_134
  let v185 : BitVec 1 := Scalar.andi v184 v181
  let v186 : BitVec 32 := Scalar.addi v180 v179
  let v187 : BitVec 32 := Scalar.select v185 v186 v180
  let c1_i32_138 : BitVec 32 := 1#32
  let v188 : BitVec 32 := Scalar.muli v187 c1_i32_138
  let v189 : BitVec 32 := Scalar.addi c0_i32_139 v188
  v189.toNat
def k0_dev13 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v190 : BitVec 32 := Scalar.addi v2 c13_i32
  let c32_i32_140 : BitVec 32 := 32#32
  let c0_i32_141 : BitVec 32 := 0#32
  let v191 : BitVec 1 := Scalar.cmpi .eq c32_i32_140 c0_i32_141
  let c1_i32_142 : BitVec 32 := 1#32
  let v192 : BitVec 32 := Scalar.select v191 c1_i32_142 c32_i32_140
  let v193 : BitVec 32 := Scalar.remsi v190 v192
  let c0_i32_144 : BitVec 32 := 0#32
  let v195 : BitVec 1 := Scalar.cmpi .slt v193 c0_i32_144
  let c0_i32_145 : BitVec 32 := 0#32
  let v196 : BitVec 1 := Scalar.cmpi .slt v192 c0_i32_145
  let v197 : BitVec 1 := Scalar.xori v195 v196
  let c0_i32_143 : BitVec 32 := 0#32
  let v194 : BitVec 1 := Scalar.cmpi .ne v193 c0_i32_143
  let v198 : BitVec 1 := Scalar.andi v197 v194
  let v199 : BitVec 32 := Scalar.addi v193 v192
  let v200 : BitVec 32 := Scalar.select v198 v199 v193
  let c1_i32_147 : BitVec 32 := 1#32
  let v201 : BitVec 32 := Scalar.muli v200 c1_i32_147
  let v202 : BitVec 32 := Scalar.addi c0_i32_148 v201
  v202.toNat
def k0_dev14 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v203 : BitVec 32 := Scalar.addi v2 c14_i32
  let c32_i32_149 : BitVec 32 := 32#32
  let c0_i32_150 : BitVec 32 := 0#32
  let v204 : BitVec 1 := Scalar.cmpi .eq c32_i32_149 c0_i32_150
  let c1_i32_151 : BitVec 32 := 1#32
  let v205 : BitVec 32 := Scalar.select v204 c1_i32_151 c32_i32_149
  let v206 : BitVec 32 := Scalar.remsi v203 v205
  let c0_i32_153 : BitVec 32 := 0#32
  let v208 : BitVec 1 := Scalar.cmpi .slt v206 c0_i32_153
  let c0_i32_154 : BitVec 32 := 0#32
  let v209 : BitVec 1 := Scalar.cmpi .slt v205 c0_i32_154
  let v210 : BitVec 1 := Scalar.xori v208 v209
  let c0_i32_152 : BitVec 32 := 0#32
  let v207 : BitVec 1 := Scalar.cmpi .ne v206 c0_i32_152
  let v211 : BitVec 1 := Scalar.andi v210 v207
  let v212 : BitVec 32 := Scalar.addi v206 v205
  let v213 : BitVec 32 := Scalar.select v211 v212 v206
  let c1_i32_156 : BitVec 32 := 1#32
  let v214 : BitVec 32 := Scalar.muli v213 c1_i32_156
  let v215 : BitVec 32 := Scalar.addi c0_i32_157 v214
  v215.toNat
def k0_dev15 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v216 : BitVec 32 := Scalar.addi v2 c15_i32
  let c32_i32_158 : BitVec 32 := 32#32
  let c0_i32_159 : BitVec 32 := 0#32
  let v217 : BitVec 1 := Scalar.cmpi .eq c32_i32_158 c0_i32_159
  let c1_i32_160 : BitVec 32 := 1#32
  let v218 : BitVec 32 := Scalar.select v217 c1_i32_160 c32_i32_158
  let v219 : BitVec 32 := Scalar.remsi v216 v218
  let c0_i32_162 : BitVec 32 := 0#32
  let v221 : BitVec 1 := Scalar.cmpi .slt v219 c0_i32_162
  let c0_i32_163 : BitVec 32 := 0#32
  let v222 : BitVec 1 := Scalar.cmpi .slt v218 c0_i32_163
  let v223 : BitVec 1 := Scalar.xori v221 v222
  let c0_i32_161 : BitVec 32 := 0#32
  let v220 : BitVec 1 := Scalar.cmpi .ne v219 c0_i32_161
  let v224 : BitVec 1 := Scalar.andi v223 v220
  let v225 : BitVec 32 := Scalar.addi v219 v218
  let v226 : BitVec 32 := Scalar.select v224 v225 v219
  let c1_i32_165 : BitVec 32 := 1#32
  let v227 : BitVec 32 := Scalar.muli v226 c1_i32_165
  let v228 : BitVec 32 := Scalar.addi c0_i32_166 v227
  v228.toNat
def k0_dev16 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v229 : BitVec 32 := Scalar.addi v2 c16_i32
  let c32_i32_167 : BitVec 32 := 32#32
  let c0_i32_168 : BitVec 32 := 0#32
  let v230 : BitVec 1 := Scalar.cmpi .eq c32_i32_167 c0_i32_168
  let c1_i32_169 : BitVec 32 := 1#32
  let v231 : BitVec 32 := Scalar.select v230 c1_i32_169 c32_i32_167
  let v232 : BitVec 32 := Scalar.remsi v229 v231
  let c0_i32_171 : BitVec 32 := 0#32
  let v234 : BitVec 1 := Scalar.cmpi .slt v232 c0_i32_171
  let c0_i32_172 : BitVec 32 := 0#32
  let v235 : BitVec 1 := Scalar.cmpi .slt v231 c0_i32_172
  let v236 : BitVec 1 := Scalar.xori v234 v235
  let c0_i32_170 : BitVec 32 := 0#32
  let v233 : BitVec 1 := Scalar.cmpi .ne v232 c0_i32_170
  let v237 : BitVec 1 := Scalar.andi v236 v233
  let v238 : BitVec 32 := Scalar.addi v232 v231
  let v239 : BitVec 32 := Scalar.select v237 v238 v232
  let c1_i32_174 : BitVec 32 := 1#32
  let v240 : BitVec 32 := Scalar.muli v239 c1_i32_174
  let v241 : BitVec 32 := Scalar.addi c0_i32_175 v240
  v241.toNat
def k0_dev17 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v242 : BitVec 32 := Scalar.addi v2 c17_i32
  let c32_i32_176 : BitVec 32 := 32#32
  let c0_i32_177 : BitVec 32 := 0#32
  let v243 : BitVec 1 := Scalar.cmpi .eq c32_i32_176 c0_i32_177
  let c1_i32_178 : BitVec 32 := 1#32
  let v244 : BitVec 32 := Scalar.select v243 c1_i32_178 c32_i32_176
  let v245 : BitVec 32 := Scalar.remsi v242 v244
  let c0_i32_180 : BitVec 32 := 0#32
  let v247 : BitVec 1 := Scalar.cmpi .slt v245 c0_i32_180
  let c0_i32_181 : BitVec 32 := 0#32
  let v248 : BitVec 1 := Scalar.cmpi .slt v244 c0_i32_181
  let v249 : BitVec 1 := Scalar.xori v247 v248
  let c0_i32_179 : BitVec 32 := 0#32
  let v246 : BitVec 1 := Scalar.cmpi .ne v245 c0_i32_179
  let v250 : BitVec 1 := Scalar.andi v249 v246
  let v251 : BitVec 32 := Scalar.addi v245 v244
  let v252 : BitVec 32 := Scalar.select v250 v251 v245
  let c1_i32_183 : BitVec 32 := 1#32
  let v253 : BitVec 32 := Scalar.muli v252 c1_i32_183
  let v254 : BitVec 32 := Scalar.addi c0_i32_184 v253
  v254.toNat
def k0_dev18 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v255 : BitVec 32 := Scalar.addi v2 c18_i32
  let c32_i32_185 : BitVec 32 := 32#32
  let c0_i32_186 : BitVec 32 := 0#32
  let v256 : BitVec 1 := Scalar.cmpi .eq c32_i32_185 c0_i32_186
  let c1_i32_187 : BitVec 32 := 1#32
  let v257 : BitVec 32 := Scalar.select v256 c1_i32_187 c32_i32_185
  let v258 : BitVec 32 := Scalar.remsi v255 v257
  let c0_i32_189 : BitVec 32 := 0#32
  let v260 : BitVec 1 := Scalar.cmpi .slt v258 c0_i32_189
  let c0_i32_190 : BitVec 32 := 0#32
  let v261 : BitVec 1 := Scalar.cmpi .slt v257 c0_i32_190
  let v262 : BitVec 1 := Scalar.xori v260 v261
  let c0_i32_188 : BitVec 32 := 0#32
  let v259 : BitVec 1 := Scalar.cmpi .ne v258 c0_i32_188
  let v263 : BitVec 1 := Scalar.andi v262 v259
  let v264 : BitVec 32 := Scalar.addi v258 v257
  let v265 : BitVec 32 := Scalar.select v263 v264 v258
  let c1_i32_192 : BitVec 32 := 1#32
  let v266 : BitVec 32 := Scalar.muli v265 c1_i32_192
  let v267 : BitVec 32 := Scalar.addi c0_i32_193 v266
  v267.toNat
def k0_dev19 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v268 : BitVec 32 := Scalar.addi v2 c19_i32
  let c32_i32_194 : BitVec 32 := 32#32
  let c0_i32_195 : BitVec 32 := 0#32
  let v269 : BitVec 1 := Scalar.cmpi .eq c32_i32_194 c0_i32_195
  let c1_i32_196 : BitVec 32 := 1#32
  let v270 : BitVec 32 := Scalar.select v269 c1_i32_196 c32_i32_194
  let v271 : BitVec 32 := Scalar.remsi v268 v270
  let c0_i32_198 : BitVec 32 := 0#32
  let v273 : BitVec 1 := Scalar.cmpi .slt v271 c0_i32_198
  let c0_i32_199 : BitVec 32 := 0#32
  let v274 : BitVec 1 := Scalar.cmpi .slt v270 c0_i32_199
  let v275 : BitVec 1 := Scalar.xori v273 v274
  let c0_i32_197 : BitVec 32 := 0#32
  let v272 : BitVec 1 := Scalar.cmpi .ne v271 c0_i32_197
  let v276 : BitVec 1 := Scalar.andi v275 v272
  let v277 : BitVec 32 := Scalar.addi v271 v270
  let v278 : BitVec 32 := Scalar.select v276 v277 v271
  let c1_i32_201 : BitVec 32 := 1#32
  let v279 : BitVec 32 := Scalar.muli v278 c1_i32_201
  let v280 : BitVec 32 := Scalar.addi c0_i32_202 v279
  v280.toNat
def k0_dev20 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v281 : BitVec 32 := Scalar.addi v2 c20_i32
  let c32_i32_203 : BitVec 32 := 32#32
  let c0_i32_204 : BitVec 32 := 0#32
  let v282 : BitVec 1 := Scalar.cmpi .eq c32_i32_203 c0_i32_204
  let c1_i32_205 : BitVec 32 := 1#32
  let v283 : BitVec 32 := Scalar.select v282 c1_i32_205 c32_i32_203
  let v284 : BitVec 32 := Scalar.remsi v281 v283
  let c0_i32_207 : BitVec 32 := 0#32
  let v286 : BitVec 1 := Scalar.cmpi .slt v284 c0_i32_207
  let c0_i32_208 : BitVec 32 := 0#32
  let v287 : BitVec 1 := Scalar.cmpi .slt v283 c0_i32_208
  let v288 : BitVec 1 := Scalar.xori v286 v287
  let c0_i32_206 : BitVec 32 := 0#32
  let v285 : BitVec 1 := Scalar.cmpi .ne v284 c0_i32_206
  let v289 : BitVec 1 := Scalar.andi v288 v285
  let v290 : BitVec 32 := Scalar.addi v284 v283
  let v291 : BitVec 32 := Scalar.select v289 v290 v284
  let c1_i32_210 : BitVec 32 := 1#32
  let v292 : BitVec 32 := Scalar.muli v291 c1_i32_210
  let v293 : BitVec 32 := Scalar.addi c0_i32_211 v292
  v293.toNat
def k0_dev21 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v294 : BitVec 32 := Scalar.addi v2 c21_i32
  let c32_i32_212 : BitVec 32 := 32#32
  let c0_i32_213 : BitVec 32 := 0#32
  let v295 : BitVec 1 := Scalar.cmpi .eq c32_i32_212 c0_i32_213
  let c1_i32_214 : BitVec 32 := 1#32
  let v296 : BitVec 32 := Scalar.select v295 c1_i32_214 c32_i32_212
  let v297 : BitVec 32 := Scalar.remsi v294 v296
  let c0_i32_216 : BitVec 32 := 0#32
  let v299 : BitVec 1 := Scalar.cmpi .slt v297 c0_i32_216
  let c0_i32_217 : BitVec 32 := 0#32
  let v300 : BitVec 1 := Scalar.cmpi .slt v296 c0_i32_217
  let v301 : BitVec 1 := Scalar.xori v299 v300
  let c0_i32_215 : BitVec 32 := 0#32
  let v298 : BitVec 1 := Scalar.cmpi .ne v297 c0_i32_215
  let v302 : BitVec 1 := Scalar.andi v301 v298
  let v303 : BitVec 32 := Scalar.addi v297 v296
  let v304 : BitVec 32 := Scalar.select v302 v303 v297
  let c1_i32_219 : BitVec 32 := 1#32
  let v305 : BitVec 32 := Scalar.muli v304 c1_i32_219
  let v306 : BitVec 32 := Scalar.addi c0_i32_220 v305
  v306.toNat
def k0_dev22 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v307 : BitVec 32 := Scalar.addi v2 c22_i32
  let c32_i32_221 : BitVec 32 := 32#32
  let c0_i32_222 : BitVec 32 := 0#32
  let v308 : BitVec 1 := Scalar.cmpi .eq c32_i32_221 c0_i32_222
  let c1_i32_223 : BitVec 32 := 1#32
  let v309 : BitVec 32 := Scalar.select v308 c1_i32_223 c32_i32_221
  let v310 : BitVec 32 := Scalar.remsi v307 v309
  let c0_i32_225 : BitVec 32 := 0#32
  let v312 : BitVec 1 := Scalar.cmpi .slt v310 c0_i32_225
  let c0_i32_226 : BitVec 32 := 0#32
  let v313 : BitVec 1 := Scalar.cmpi .slt v309 c0_i32_226
  let v314 : BitVec 1 := Scalar.xori v312 v313
  let c0_i32_224 : BitVec 32 := 0#32
  let v311 : BitVec 1 := Scalar.cmpi .ne v310 c0_i32_224
  let v315 : BitVec 1 := Scalar.andi v314 v311
  let v316 : BitVec 32 := Scalar.addi v310 v309
  let v317 : BitVec 32 := Scalar.select v315 v316 v310
  let c1_i32_228 : BitVec 32 := 1#32
  let v318 : BitVec 32 := Scalar.muli v317 c1_i32_228
  let v319 : BitVec 32 := Scalar.addi c0_i32_229 v318
  v319.toNat
def k0_dev23 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v320 : BitVec 32 := Scalar.addi v2 c23_i32
  let c32_i32_230 : BitVec 32 := 32#32
  let c0_i32_231 : BitVec 32 := 0#32
  let v321 : BitVec 1 := Scalar.cmpi .eq c32_i32_230 c0_i32_231
  let c1_i32_232 : BitVec 32 := 1#32
  let v322 : BitVec 32 := Scalar.select v321 c1_i32_232 c32_i32_230
  let v323 : BitVec 32 := Scalar.remsi v320 v322
  let c0_i32_234 : BitVec 32 := 0#32
  let v325 : BitVec 1 := Scalar.cmpi .slt v323 c0_i32_234
  let c0_i32_235 : BitVec 32 := 0#32
  let v326 : BitVec 1 := Scalar.cmpi .slt v322 c0_i32_235
  let v327 : BitVec 1 := Scalar.xori v325 v326
  let c0_i32_233 : BitVec 32 := 0#32
  let v324 : BitVec 1 := Scalar.cmpi .ne v323 c0_i32_233
  let v328 : BitVec 1 := Scalar.andi v327 v324
  let v329 : BitVec 32 := Scalar.addi v323 v322
  let v330 : BitVec 32 := Scalar.select v328 v329 v323
  let c1_i32_237 : BitVec 32 := 1#32
  let v331 : BitVec 32 := Scalar.muli v330 c1_i32_237
  let v332 : BitVec 32 := Scalar.addi c0_i32_238 v331
  v332.toNat
def k0_dev24 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v333 : BitVec 32 := Scalar.addi v2 c24_i32
  let c32_i32_239 : BitVec 32 := 32#32
  let c0_i32_240 : BitVec 32 := 0#32
  let v334 : BitVec 1 := Scalar.cmpi .eq c32_i32_239 c0_i32_240
  let c1_i32_241 : BitVec 32 := 1#32
  let v335 : BitVec 32 := Scalar.select v334 c1_i32_241 c32_i32_239
  let v336 : BitVec 32 := Scalar.remsi v333 v335
  let c0_i32_243 : BitVec 32 := 0#32
  let v338 : BitVec 1 := Scalar.cmpi .slt v336 c0_i32_243
  let c0_i32_244 : BitVec 32 := 0#32
  let v339 : BitVec 1 := Scalar.cmpi .slt v335 c0_i32_244
  let v340 : BitVec 1 := Scalar.xori v338 v339
  let c0_i32_242 : BitVec 32 := 0#32
  let v337 : BitVec 1 := Scalar.cmpi .ne v336 c0_i32_242
  let v341 : BitVec 1 := Scalar.andi v340 v337
  let v342 : BitVec 32 := Scalar.addi v336 v335
  let v343 : BitVec 32 := Scalar.select v341 v342 v336
  let c1_i32_246 : BitVec 32 := 1#32
  let v344 : BitVec 32 := Scalar.muli v343 c1_i32_246
  let v345 : BitVec 32 := Scalar.addi c0_i32_247 v344
  v345.toNat
def k0_dev25 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v346 : BitVec 32 := Scalar.addi v2 c25_i32
  let c32_i32_248 : BitVec 32 := 32#32
  let c0_i32_249 : BitVec 32 := 0#32
  let v347 : BitVec 1 := Scalar.cmpi .eq c32_i32_248 c0_i32_249
  let c1_i32_250 : BitVec 32 := 1#32
  let v348 : BitVec 32 := Scalar.select v347 c1_i32_250 c32_i32_248
  let v349 : BitVec 32 := Scalar.remsi v346 v348
  let c0_i32_252 : BitVec 32 := 0#32
  let v351 : BitVec 1 := Scalar.cmpi .slt v349 c0_i32_252
  let c0_i32_253 : BitVec 32 := 0#32
  let v352 : BitVec 1 := Scalar.cmpi .slt v348 c0_i32_253
  let v353 : BitVec 1 := Scalar.xori v351 v352
  let c0_i32_251 : BitVec 32 := 0#32
  let v350 : BitVec 1 := Scalar.cmpi .ne v349 c0_i32_251
  let v354 : BitVec 1 := Scalar.andi v353 v350
  let v355 : BitVec 32 := Scalar.addi v349 v348
  let v356 : BitVec 32 := Scalar.select v354 v355 v349
  let c1_i32_255 : BitVec 32 := 1#32
  let v357 : BitVec 32 := Scalar.muli v356 c1_i32_255
  let v358 : BitVec 32 := Scalar.addi c0_i32_256 v357
  v358.toNat
def k0_dev26 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v359 : BitVec 32 := Scalar.addi v2 c26_i32
  let c32_i32_257 : BitVec 32 := 32#32
  let c0_i32_258 : BitVec 32 := 0#32
  let v360 : BitVec 1 := Scalar.cmpi .eq c32_i32_257 c0_i32_258
  let c1_i32_259 : BitVec 32 := 1#32
  let v361 : BitVec 32 := Scalar.select v360 c1_i32_259 c32_i32_257
  let v362 : BitVec 32 := Scalar.remsi v359 v361
  let c0_i32_261 : BitVec 32 := 0#32
  let v364 : BitVec 1 := Scalar.cmpi .slt v362 c0_i32_261
  let c0_i32_262 : BitVec 32 := 0#32
  let v365 : BitVec 1 := Scalar.cmpi .slt v361 c0_i32_262
  let v366 : BitVec 1 := Scalar.xori v364 v365
  let c0_i32_260 : BitVec 32 := 0#32
  let v363 : BitVec 1 := Scalar.cmpi .ne v362 c0_i32_260
  let v367 : BitVec 1 := Scalar.andi v366 v363
  let v368 : BitVec 32 := Scalar.addi v362 v361
  let v369 : BitVec 32 := Scalar.select v367 v368 v362
  let c1_i32_264 : BitVec 32 := 1#32
  let v370 : BitVec 32 := Scalar.muli v369 c1_i32_264
  let v371 : BitVec 32 := Scalar.addi c0_i32_265 v370
  v371.toNat
def k0_dev27 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v372 : BitVec 32 := Scalar.addi v2 c27_i32
  let c32_i32_266 : BitVec 32 := 32#32
  let c0_i32_267 : BitVec 32 := 0#32
  let v373 : BitVec 1 := Scalar.cmpi .eq c32_i32_266 c0_i32_267
  let c1_i32_268 : BitVec 32 := 1#32
  let v374 : BitVec 32 := Scalar.select v373 c1_i32_268 c32_i32_266
  let v375 : BitVec 32 := Scalar.remsi v372 v374
  let c0_i32_270 : BitVec 32 := 0#32
  let v377 : BitVec 1 := Scalar.cmpi .slt v375 c0_i32_270
  let c0_i32_271 : BitVec 32 := 0#32
  let v378 : BitVec 1 := Scalar.cmpi .slt v374 c0_i32_271
  let v379 : BitVec 1 := Scalar.xori v377 v378
  let c0_i32_269 : BitVec 32 := 0#32
  let v376 : BitVec 1 := Scalar.cmpi .ne v375 c0_i32_269
  let v380 : BitVec 1 := Scalar.andi v379 v376
  let v381 : BitVec 32 := Scalar.addi v375 v374
  let v382 : BitVec 32 := Scalar.select v380 v381 v375
  let c1_i32_273 : BitVec 32 := 1#32
  let v383 : BitVec 32 := Scalar.muli v382 c1_i32_273
  let v384 : BitVec 32 := Scalar.addi c0_i32_274 v383
  v384.toNat
def k0_dev28 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v385 : BitVec 32 := Scalar.addi v2 c28_i32
  let c32_i32_275 : BitVec 32 := 32#32
  let c0_i32_276 : BitVec 32 := 0#32
  let v386 : BitVec 1 := Scalar.cmpi .eq c32_i32_275 c0_i32_276
  let c1_i32_277 : BitVec 32 := 1#32
  let v387 : BitVec 32 := Scalar.select v386 c1_i32_277 c32_i32_275
  let v388 : BitVec 32 := Scalar.remsi v385 v387
  let c0_i32_279 : BitVec 32 := 0#32
  let v390 : BitVec 1 := Scalar.cmpi .slt v388 c0_i32_279
  let c0_i32_280 : BitVec 32 := 0#32
  let v391 : BitVec 1 := Scalar.cmpi .slt v387 c0_i32_280
  let v392 : BitVec 1 := Scalar.xori v390 v391
  let c0_i32_278 : BitVec 32 := 0#32
  let v389 : BitVec 1 := Scalar.cmpi .ne v388 c0_i32_278
  let v393 : BitVec 1 := Scalar.andi v392 v389
  let v394 : BitVec 32 := Scalar.addi v388 v387
  let v395 : BitVec 32 := Scalar.select v393 v394 v388
  let c1_i32_282 : BitVec 32 := 1#32
  let v396 : BitVec 32 := Scalar.muli v395 c1_i32_282
  let v397 : BitVec 32 := Scalar.addi c0_i32_283 v396
  v397.toNat
def k0_dev29 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v398 : BitVec 32 := Scalar.addi v2 c29_i32
  let c32_i32_284 : BitVec 32 := 32#32
  let c0_i32_285 : BitVec 32 := 0#32
  let v399 : BitVec 1 := Scalar.cmpi .eq c32_i32_284 c0_i32_285
  let c1_i32_286 : BitVec 32 := 1#32
  let v400 : BitVec 32 := Scalar.select v399 c1_i32_286 c32_i32_284
  let v401 : BitVec 32 := Scalar.remsi v398 v400
  let c0_i32_288 : BitVec 32 := 0#32
  let v403 : BitVec 1 := Scalar.cmpi .slt v401 c0_i32_288
  let c0_i32_289 : BitVec 32 := 0#32
  let v404 : BitVec 1 := Scalar.cmpi .slt v400 c0_i32_289
  let v405 : BitVec 1 := Scalar.xori v403 v404
  let c0_i32_287 : BitVec 32 := 0#32
  let v402 : BitVec 1 := Scalar.cmpi .ne v401 c0_i32_287
  let v406 : BitVec 1 := Scalar.andi v405 v402
  let v407 : BitVec 32 := Scalar.addi v401 v400
  let v408 : BitVec 32 := Scalar.select v406 v407 v401
  let c1_i32_291 : BitVec 32 := 1#32
  let v409 : BitVec 32 := Scalar.muli v408 c1_i32_291
  let v410 : BitVec 32 := Scalar.addi c0_i32_292 v409
  v410.toNat
def k0_dev30 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v411 : BitVec 32 := Scalar.addi v2 c30_i32
  let c32_i32_293 : BitVec 32 := 32#32
  let c0_i32_294 : BitVec 32 := 0#32
  let v412 : BitVec 1 := Scalar.cmpi .eq c32_i32_293 c0_i32_294
  let c1_i32_295 : BitVec 32 := 1#32
  let v413 : BitVec 32 := Scalar.select v412 c1_i32_295 c32_i32_293
  let v414 : BitVec 32 := Scalar.remsi v411 v413
  let c0_i32_297 : BitVec 32 := 0#32
  let v416 : BitVec 1 := Scalar.cmpi .slt v414 c0_i32_297
  let c0_i32_298 : BitVec 32 := 0#32
  let v417 : BitVec 1 := Scalar.cmpi .slt v413 c0_i32_298
  let v418 : BitVec 1 := Scalar.xori v416 v417
  let c0_i32_296 : BitVec 32 := 0#32
  let v415 : BitVec 1 := Scalar.cmpi .ne v414 c0_i32_296
  let v419 : BitVec 1 := Scalar.andi v418 v415
  let v420 : BitVec 32 := Scalar.addi v414 v413
  let v421 : BitVec 32 := Scalar.select v419 v420 v414
  let c1_i32_300 : BitVec 32 := 1#32
  let v422 : BitVec 32 := Scalar.muli v421 c1_i32_300
  let v423 : BitVec 32 := Scalar.addi c0_i32_301 v422
  v423.toNat
def k0_dev31 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v424 : BitVec 32 := Scalar.addi v2 c31_i32
  let c32_i32_302 : BitVec 32 := 32#32
  let c0_i32_303 : BitVec 32 := 0#32
  let v425 : BitVec 1 := Scalar.cmpi .eq c32_i32_302 c0_i32_303
  let c1_i32_304 : BitVec 32 := 1#32
  let v426 : BitVec 32 := Scalar.select v425 c1_i32_304 c32_i32_302
  let v427 : BitVec 32 := Scalar.remsi v424 v426
  let c0_i32_306 : BitVec 32 := 0#32
  let v429 : BitVec 1 := Scalar.cmpi .slt v427 c0_i32_306
  let c0_i32_307 : BitVec 32 := 0#32
  let v430 : BitVec 1 := Scalar.cmpi .slt v426 c0_i32_307
  let v431 : BitVec 1 := Scalar.xori v429 v430
  let c0_i32_305 : BitVec 32 := 0#32
  let v428 : BitVec 1 := Scalar.cmpi .ne v427 c0_i32_305
  let v432 : BitVec 1 := Scalar.andi v431 v428
  let v433 : BitVec 32 := Scalar.addi v427 v426
  let v434 : BitVec 32 := Scalar.select v432 v433 v427
  let c1_i32_309 : BitVec 32 := 1#32
  let v435 : BitVec 32 := Scalar.muli v434 c1_i32_309
  let v436 : BitVec 32 := Scalar.addi c0_i32_310 v435
  v436.toNat
def k0_cond1 (d0 : Dev nD) : BitVec 1 :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_395 : BitVec 32 := 0#32
  let v543 : BitVec 32 := Scalar.addi v2 c0_i32_395
  let c8_i32_396 : BitVec 32 := 8#32
  let v544 : BitVec 32 := Scalar.remsi v543 c8_i32_396
  let v545 : BitVec 32 := Scalar.addi c0_i32_397 v544
  let v546 : BitVec 1 := Scalar.cmpi .ne v545 v2
  let v547 : BitVec 32 := Scalar.extui v546
  let c0_i32_398 : BitVec 32 := 0#32
  let v548 : BitVec 1 := Scalar.cmpi .ne v547 c0_i32_398
  v548

def k0_off1 (d0 : Dev nD) : Fin 1 → Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_395 : BitVec 32 := 0#32
  let v543 : BitVec 32 := Scalar.addi v2 c0_i32_395
  let c8_i32_396 : BitVec 32 := 8#32
  let v544 : BitVec 32 := Scalar.remsi v543 c8_i32_396
  let v545 : BitVec 32 := Scalar.addi c0_i32_397 v544
  ![v545.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off4 (d0 : Dev nD) : Fin 3 → Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_395 : BitVec 32 := 0#32
  let v543 : BitVec 32 := Scalar.addi v2 c0_i32_395
  let c8_i32_396 : BitVec 32 := 8#32
  let v544 : BitVec 32 := Scalar.remsi v543 c8_i32_396
  let v545 : BitVec 32 := Scalar.addi c0_i32_397 v544
  let c0_i32_1296 : BitVec 32 := 0#32
  let c0_i32_1297 : BitVec 32 := 0#32
  ![v545.toNat, 0, 0]
def k0_dev32 (d0 : Dev nD) : Nat :=
  let c0_i32_1293 : BitVec 32 := 0#32
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_395 : BitVec 32 := 0#32
  let v543 : BitVec 32 := Scalar.addi v2 c0_i32_395
  let c8_i32_396 : BitVec 32 := 8#32
  let v544 : BitVec 32 := Scalar.remsi v543 c8_i32_396
  let v545 : BitVec 32 := Scalar.addi c0_i32_397 v544
  let c1_i32_1292 : BitVec 32 := 1#32
  let v1790 : BitVec 32 := Scalar.muli v545 c1_i32_1292
  let v1791 : BitVec 32 := Scalar.addi c0_i32_1293 v1790
  v1791.toNat
def k0_cond2 (d0 : Dev nD) : BitVec 1 :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_395 : BitVec 32 := 0#32
  let v543 : BitVec 32 := Scalar.addi v2 c0_i32_395
  let c8_i32_396 : BitVec 32 := 8#32
  let v544 : BitVec 32 := Scalar.remsi v543 c8_i32_396
  let v545 : BitVec 32 := Scalar.addi c0_i32_397 v544
  let v549 : BitVec 1 := Scalar.cmpi .eq v545 v2
  let v550 : BitVec 32 := Scalar.extui v549
  let c0_i32_399 : BitVec 32 := 0#32
  let v551 : BitVec 1 := Scalar.cmpi .ne v550 c0_i32_399
  v551

def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond3 (d0 : Dev nD) : BitVec 1 :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_400 : BitVec 32 := 1#32
  let v552 : BitVec 32 := Scalar.addi v2 c1_i32_400
  let c8_i32_401 : BitVec 32 := 8#32
  let v553 : BitVec 32 := Scalar.remsi v552 c8_i32_401
  let v554 : BitVec 32 := Scalar.addi c0_i32_402 v553
  let v555 : BitVec 1 := Scalar.cmpi .ne v554 v2
  let v556 : BitVec 32 := Scalar.extui v555
  let c0_i32_403 : BitVec 32 := 0#32
  let v557 : BitVec 1 := Scalar.cmpi .ne v556 c0_i32_403
  v557

def k0_off6 (d0 : Dev nD) : Fin 1 → Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_400 : BitVec 32 := 1#32
  let v552 : BitVec 32 := Scalar.addi v2 c1_i32_400
  let c8_i32_401 : BitVec 32 := 8#32
  let v553 : BitVec 32 := Scalar.remsi v552 c8_i32_401
  let v554 : BitVec 32 := Scalar.addi c0_i32_402 v553
  ![v554.toNat]
def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off9 (d0 : Dev nD) : Fin 3 → Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_400 : BitVec 32 := 1#32
  let v552 : BitVec 32 := Scalar.addi v2 c1_i32_400
  let c8_i32_401 : BitVec 32 := 8#32
  let v553 : BitVec 32 := Scalar.remsi v552 c8_i32_401
  let v554 : BitVec 32 := Scalar.addi c0_i32_402 v553
  let c0_i32_1296 : BitVec 32 := 0#32
  let c0_i32_1297 : BitVec 32 := 0#32
  ![v554.toNat, 0, 0]
def k0_dev33 (d0 : Dev nD) : Nat :=
  let c0_i32_1293 : BitVec 32 := 0#32
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_400 : BitVec 32 := 1#32
  let v552 : BitVec 32 := Scalar.addi v2 c1_i32_400
  let c8_i32_401 : BitVec 32 := 8#32
  let v553 : BitVec 32 := Scalar.remsi v552 c8_i32_401
  let v554 : BitVec 32 := Scalar.addi c0_i32_402 v553
  let c1_i32_1292 : BitVec 32 := 1#32
  let v1790 : BitVec 32 := Scalar.muli v554 c1_i32_1292
  let v1791 : BitVec 32 := Scalar.addi c0_i32_1293 v1790
  v1791.toNat
def k0_cond4 (d0 : Dev nD) : BitVec 1 :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_400 : BitVec 32 := 1#32
  let v552 : BitVec 32 := Scalar.addi v2 c1_i32_400
  let c8_i32_401 : BitVec 32 := 8#32
  let v553 : BitVec 32 := Scalar.remsi v552 c8_i32_401
  let v554 : BitVec 32 := Scalar.addi c0_i32_402 v553
  let v558 : BitVec 1 := Scalar.cmpi .eq v554 v2
  let v559 : BitVec 32 := Scalar.extui v558
  let c0_i32_404 : BitVec 32 := 0#32
  let v560 : BitVec 1 := Scalar.cmpi .ne v559 c0_i32_404
  v560

def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond5 (d0 : Dev nD) : BitVec 1 :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_405 : BitVec 32 := 2#32
  let v561 : BitVec 32 := Scalar.addi v2 c2_i32_405
  let c8_i32_406 : BitVec 32 := 8#32
  let v562 : BitVec 32 := Scalar.remsi v561 c8_i32_406
  let v563 : BitVec 32 := Scalar.addi c0_i32_407 v562
  let v564 : BitVec 1 := Scalar.cmpi .ne v563 v2
  let v565 : BitVec 32 := Scalar.extui v564
  let c0_i32_408 : BitVec 32 := 0#32
  let v566 : BitVec 1 := Scalar.cmpi .ne v565 c0_i32_408
  v566

def k0_off11 (d0 : Dev nD) : Fin 1 → Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_405 : BitVec 32 := 2#32
  let v561 : BitVec 32 := Scalar.addi v2 c2_i32_405
  let c8_i32_406 : BitVec 32 := 8#32
  let v562 : BitVec 32 := Scalar.remsi v561 c8_i32_406
  let v563 : BitVec 32 := Scalar.addi c0_i32_407 v562
  ![v563.toNat]
def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off14 (d0 : Dev nD) : Fin 3 → Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_405 : BitVec 32 := 2#32
  let v561 : BitVec 32 := Scalar.addi v2 c2_i32_405
  let c8_i32_406 : BitVec 32 := 8#32
  let v562 : BitVec 32 := Scalar.remsi v561 c8_i32_406
  let v563 : BitVec 32 := Scalar.addi c0_i32_407 v562
  let c0_i32_1296 : BitVec 32 := 0#32
  let c0_i32_1297 : BitVec 32 := 0#32
  ![v563.toNat, 0, 0]
def k0_dev34 (d0 : Dev nD) : Nat :=
  let c0_i32_1293 : BitVec 32 := 0#32
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_405 : BitVec 32 := 2#32
  let v561 : BitVec 32 := Scalar.addi v2 c2_i32_405
  let c8_i32_406 : BitVec 32 := 8#32
  let v562 : BitVec 32 := Scalar.remsi v561 c8_i32_406
  let v563 : BitVec 32 := Scalar.addi c0_i32_407 v562
  let c1_i32_1292 : BitVec 32 := 1#32
  let v1790 : BitVec 32 := Scalar.muli v563 c1_i32_1292
  let v1791 : BitVec 32 := Scalar.addi c0_i32_1293 v1790
  v1791.toNat
def k0_cond6 (d0 : Dev nD) : BitVec 1 :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_405 : BitVec 32 := 2#32
  let v561 : BitVec 32 := Scalar.addi v2 c2_i32_405
  let c8_i32_406 : BitVec 32 := 8#32
  let v562 : BitVec 32 := Scalar.remsi v561 c8_i32_406
  let v563 : BitVec 32 := Scalar.addi c0_i32_407 v562
  let v567 : BitVec 1 := Scalar.cmpi .eq v563 v2
  let v568 : BitVec 32 := Scalar.extui v567
  let c0_i32_409 : BitVec 32 := 0#32
  let v569 : BitVec 1 := Scalar.cmpi .ne v568 c0_i32_409
  v569

def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond7 (d0 : Dev nD) : BitVec 1 :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_410 : BitVec 32 := 3#32
  let v570 : BitVec 32 := Scalar.addi v2 c3_i32_410
  let c8_i32_411 : BitVec 32 := 8#32
  let v571 : BitVec 32 := Scalar.remsi v570 c8_i32_411
  let v572 : BitVec 32 := Scalar.addi c0_i32_412 v571
  let v573 : BitVec 1 := Scalar.cmpi .ne v572 v2
  let v574 : BitVec 32 := Scalar.extui v573
  let c0_i32_413 : BitVec 32 := 0#32
  let v575 : BitVec 1 := Scalar.cmpi .ne v574 c0_i32_413
  v575

def k0_off16 (d0 : Dev nD) : Fin 1 → Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_410 : BitVec 32 := 3#32
  let v570 : BitVec 32 := Scalar.addi v2 c3_i32_410
  let c8_i32_411 : BitVec 32 := 8#32
  let v571 : BitVec 32 := Scalar.remsi v570 c8_i32_411
  let v572 : BitVec 32 := Scalar.addi c0_i32_412 v571
  ![v572.toNat]
def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off19 (d0 : Dev nD) : Fin 3 → Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_410 : BitVec 32 := 3#32
  let v570 : BitVec 32 := Scalar.addi v2 c3_i32_410
  let c8_i32_411 : BitVec 32 := 8#32
  let v571 : BitVec 32 := Scalar.remsi v570 c8_i32_411
  let v572 : BitVec 32 := Scalar.addi c0_i32_412 v571
  let c0_i32_1296 : BitVec 32 := 0#32
  let c0_i32_1297 : BitVec 32 := 0#32
  ![v572.toNat, 0, 0]
def k0_dev35 (d0 : Dev nD) : Nat :=
  let c0_i32_1293 : BitVec 32 := 0#32
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_410 : BitVec 32 := 3#32
  let v570 : BitVec 32 := Scalar.addi v2 c3_i32_410
  let c8_i32_411 : BitVec 32 := 8#32
  let v571 : BitVec 32 := Scalar.remsi v570 c8_i32_411
  let v572 : BitVec 32 := Scalar.addi c0_i32_412 v571
  let c1_i32_1292 : BitVec 32 := 1#32
  let v1790 : BitVec 32 := Scalar.muli v572 c1_i32_1292
  let v1791 : BitVec 32 := Scalar.addi c0_i32_1293 v1790
  v1791.toNat
def k0_cond8 (d0 : Dev nD) : BitVec 1 :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_410 : BitVec 32 := 3#32
  let v570 : BitVec 32 := Scalar.addi v2 c3_i32_410
  let c8_i32_411 : BitVec 32 := 8#32
  let v571 : BitVec 32 := Scalar.remsi v570 c8_i32_411
  let v572 : BitVec 32 := Scalar.addi c0_i32_412 v571
  let v576 : BitVec 1 := Scalar.cmpi .eq v572 v2
  let v577 : BitVec 32 := Scalar.extui v576
  let c0_i32_414 : BitVec 32 := 0#32
  let v578 : BitVec 1 := Scalar.cmpi .ne v577 c0_i32_414
  v578

def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond9 (d0 : Dev nD) : BitVec 1 :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_415 : BitVec 32 := 4#32
  let v579 : BitVec 32 := Scalar.addi v2 c4_i32_415
  let c8_i32_416 : BitVec 32 := 8#32
  let v580 : BitVec 32 := Scalar.remsi v579 c8_i32_416
  let v581 : BitVec 32 := Scalar.addi c0_i32_417 v580
  let v582 : BitVec 1 := Scalar.cmpi .ne v581 v2
  let v583 : BitVec 32 := Scalar.extui v582
  let c0_i32_418 : BitVec 32 := 0#32
  let v584 : BitVec 1 := Scalar.cmpi .ne v583 c0_i32_418
  v584

def k0_off21 (d0 : Dev nD) : Fin 1 → Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_415 : BitVec 32 := 4#32
  let v579 : BitVec 32 := Scalar.addi v2 c4_i32_415
  let c8_i32_416 : BitVec 32 := 8#32
  let v580 : BitVec 32 := Scalar.remsi v579 c8_i32_416
  let v581 : BitVec 32 := Scalar.addi c0_i32_417 v580
  ![v581.toNat]
def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off24 (d0 : Dev nD) : Fin 3 → Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_415 : BitVec 32 := 4#32
  let v579 : BitVec 32 := Scalar.addi v2 c4_i32_415
  let c8_i32_416 : BitVec 32 := 8#32
  let v580 : BitVec 32 := Scalar.remsi v579 c8_i32_416
  let v581 : BitVec 32 := Scalar.addi c0_i32_417 v580
  let c0_i32_1296 : BitVec 32 := 0#32
  let c0_i32_1297 : BitVec 32 := 0#32
  ![v581.toNat, 0, 0]
def k0_dev36 (d0 : Dev nD) : Nat :=
  let c0_i32_1293 : BitVec 32 := 0#32
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_415 : BitVec 32 := 4#32
  let v579 : BitVec 32 := Scalar.addi v2 c4_i32_415
  let c8_i32_416 : BitVec 32 := 8#32
  let v580 : BitVec 32 := Scalar.remsi v579 c8_i32_416
  let v581 : BitVec 32 := Scalar.addi c0_i32_417 v580
  let c1_i32_1292 : BitVec 32 := 1#32
  let v1790 : BitVec 32 := Scalar.muli v581 c1_i32_1292
  let v1791 : BitVec 32 := Scalar.addi c0_i32_1293 v1790
  v1791.toNat
def k0_cond10 (d0 : Dev nD) : BitVec 1 :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_415 : BitVec 32 := 4#32
  let v579 : BitVec 32 := Scalar.addi v2 c4_i32_415
  let c8_i32_416 : BitVec 32 := 8#32
  let v580 : BitVec 32 := Scalar.remsi v579 c8_i32_416
  let v581 : BitVec 32 := Scalar.addi c0_i32_417 v580
  let v585 : BitVec 1 := Scalar.cmpi .eq v581 v2
  let v586 : BitVec 32 := Scalar.extui v585
  let c0_i32_419 : BitVec 32 := 0#32
  let v587 : BitVec 1 := Scalar.cmpi .ne v586 c0_i32_419
  v587

def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond11 (d0 : Dev nD) : BitVec 1 :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_420 : BitVec 32 := 5#32
  let v588 : BitVec 32 := Scalar.addi v2 c5_i32_420
  let c8_i32_421 : BitVec 32 := 8#32
  let v589 : BitVec 32 := Scalar.remsi v588 c8_i32_421
  let v590 : BitVec 32 := Scalar.addi c0_i32_422 v589
  let v591 : BitVec 1 := Scalar.cmpi .ne v590 v2
  let v592 : BitVec 32 := Scalar.extui v591
  let c0_i32_423 : BitVec 32 := 0#32
  let v593 : BitVec 1 := Scalar.cmpi .ne v592 c0_i32_423
  v593

def k0_off26 (d0 : Dev nD) : Fin 1 → Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_420 : BitVec 32 := 5#32
  let v588 : BitVec 32 := Scalar.addi v2 c5_i32_420
  let c8_i32_421 : BitVec 32 := 8#32
  let v589 : BitVec 32 := Scalar.remsi v588 c8_i32_421
  let v590 : BitVec 32 := Scalar.addi c0_i32_422 v589
  ![v590.toNat]
def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off29 (d0 : Dev nD) : Fin 3 → Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_420 : BitVec 32 := 5#32
  let v588 : BitVec 32 := Scalar.addi v2 c5_i32_420
  let c8_i32_421 : BitVec 32 := 8#32
  let v589 : BitVec 32 := Scalar.remsi v588 c8_i32_421
  let v590 : BitVec 32 := Scalar.addi c0_i32_422 v589
  let c0_i32_1296 : BitVec 32 := 0#32
  let c0_i32_1297 : BitVec 32 := 0#32
  ![v590.toNat, 0, 0]
def k0_dev37 (d0 : Dev nD) : Nat :=
  let c0_i32_1293 : BitVec 32 := 0#32
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_420 : BitVec 32 := 5#32
  let v588 : BitVec 32 := Scalar.addi v2 c5_i32_420
  let c8_i32_421 : BitVec 32 := 8#32
  let v589 : BitVec 32 := Scalar.remsi v588 c8_i32_421
  let v590 : BitVec 32 := Scalar.addi c0_i32_422 v589
  let c1_i32_1292 : BitVec 32 := 1#32
  let v1790 : BitVec 32 := Scalar.muli v590 c1_i32_1292
  let v1791 : BitVec 32 := Scalar.addi c0_i32_1293 v1790
  v1791.toNat
def k0_cond12 (d0 : Dev nD) : BitVec 1 :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_420 : BitVec 32 := 5#32
  let v588 : BitVec 32 := Scalar.addi v2 c5_i32_420
  let c8_i32_421 : BitVec 32 := 8#32
  let v589 : BitVec 32 := Scalar.remsi v588 c8_i32_421
  let v590 : BitVec 32 := Scalar.addi c0_i32_422 v589
  let v594 : BitVec 1 := Scalar.cmpi .eq v590 v2
  let v595 : BitVec 32 := Scalar.extui v594
  let c0_i32_424 : BitVec 32 := 0#32
  let v596 : BitVec 1 := Scalar.cmpi .ne v595 c0_i32_424
  v596

def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond13 (d0 : Dev nD) : BitVec 1 :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_425 : BitVec 32 := 6#32
  let v597 : BitVec 32 := Scalar.addi v2 c6_i32_425
  let c8_i32_426 : BitVec 32 := 8#32
  let v598 : BitVec 32 := Scalar.remsi v597 c8_i32_426
  let v599 : BitVec 32 := Scalar.addi c0_i32_427 v598
  let v600 : BitVec 1 := Scalar.cmpi .ne v599 v2
  let v601 : BitVec 32 := Scalar.extui v600
  let c0_i32_428 : BitVec 32 := 0#32
  let v602 : BitVec 1 := Scalar.cmpi .ne v601 c0_i32_428
  v602

def k0_off31 (d0 : Dev nD) : Fin 1 → Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_425 : BitVec 32 := 6#32
  let v597 : BitVec 32 := Scalar.addi v2 c6_i32_425
  let c8_i32_426 : BitVec 32 := 8#32
  let v598 : BitVec 32 := Scalar.remsi v597 c8_i32_426
  let v599 : BitVec 32 := Scalar.addi c0_i32_427 v598
  ![v599.toNat]
def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off34 (d0 : Dev nD) : Fin 3 → Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_425 : BitVec 32 := 6#32
  let v597 : BitVec 32 := Scalar.addi v2 c6_i32_425
  let c8_i32_426 : BitVec 32 := 8#32
  let v598 : BitVec 32 := Scalar.remsi v597 c8_i32_426
  let v599 : BitVec 32 := Scalar.addi c0_i32_427 v598
  let c0_i32_1296 : BitVec 32 := 0#32
  let c0_i32_1297 : BitVec 32 := 0#32
  ![v599.toNat, 0, 0]
def k0_dev38 (d0 : Dev nD) : Nat :=
  let c0_i32_1293 : BitVec 32 := 0#32
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_425 : BitVec 32 := 6#32
  let v597 : BitVec 32 := Scalar.addi v2 c6_i32_425
  let c8_i32_426 : BitVec 32 := 8#32
  let v598 : BitVec 32 := Scalar.remsi v597 c8_i32_426
  let v599 : BitVec 32 := Scalar.addi c0_i32_427 v598
  let c1_i32_1292 : BitVec 32 := 1#32
  let v1790 : BitVec 32 := Scalar.muli v599 c1_i32_1292
  let v1791 : BitVec 32 := Scalar.addi c0_i32_1293 v1790
  v1791.toNat
def k0_cond14 (d0 : Dev nD) : BitVec 1 :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_425 : BitVec 32 := 6#32
  let v597 : BitVec 32 := Scalar.addi v2 c6_i32_425
  let c8_i32_426 : BitVec 32 := 8#32
  let v598 : BitVec 32 := Scalar.remsi v597 c8_i32_426
  let v599 : BitVec 32 := Scalar.addi c0_i32_427 v598
  let v603 : BitVec 1 := Scalar.cmpi .eq v599 v2
  let v604 : BitVec 32 := Scalar.extui v603
  let c0_i32_429 : BitVec 32 := 0#32
  let v605 : BitVec 1 := Scalar.cmpi .ne v604 c0_i32_429
  v605

def k0_off35 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond15 (d0 : Dev nD) : BitVec 1 :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_430 : BitVec 32 := 7#32
  let v606 : BitVec 32 := Scalar.addi v2 c7_i32_430
  let c8_i32_431 : BitVec 32 := 8#32
  let v607 : BitVec 32 := Scalar.remsi v606 c8_i32_431
  let v608 : BitVec 32 := Scalar.addi c0_i32_432 v607
  let v609 : BitVec 1 := Scalar.cmpi .ne v608 v2
  let v610 : BitVec 32 := Scalar.extui v609
  let c0_i32_433 : BitVec 32 := 0#32
  let v611 : BitVec 1 := Scalar.cmpi .ne v610 c0_i32_433
  v611

def k0_off36 (d0 : Dev nD) : Fin 1 → Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_430 : BitVec 32 := 7#32
  let v606 : BitVec 32 := Scalar.addi v2 c7_i32_430
  let c8_i32_431 : BitVec 32 := 8#32
  let v607 : BitVec 32 := Scalar.remsi v606 c8_i32_431
  let v608 : BitVec 32 := Scalar.addi c0_i32_432 v607
  ![v608.toNat]
def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off39 (d0 : Dev nD) : Fin 3 → Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_430 : BitVec 32 := 7#32
  let v606 : BitVec 32 := Scalar.addi v2 c7_i32_430
  let c8_i32_431 : BitVec 32 := 8#32
  let v607 : BitVec 32 := Scalar.remsi v606 c8_i32_431
  let v608 : BitVec 32 := Scalar.addi c0_i32_432 v607
  let c0_i32_1296 : BitVec 32 := 0#32
  let c0_i32_1297 : BitVec 32 := 0#32
  ![v608.toNat, 0, 0]
def k0_dev39 (d0 : Dev nD) : Nat :=
  let c0_i32_1293 : BitVec 32 := 0#32
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_430 : BitVec 32 := 7#32
  let v606 : BitVec 32 := Scalar.addi v2 c7_i32_430
  let c8_i32_431 : BitVec 32 := 8#32
  let v607 : BitVec 32 := Scalar.remsi v606 c8_i32_431
  let v608 : BitVec 32 := Scalar.addi c0_i32_432 v607
  let c1_i32_1292 : BitVec 32 := 1#32
  let v1790 : BitVec 32 := Scalar.muli v608 c1_i32_1292
  let v1791 : BitVec 32 := Scalar.addi c0_i32_1293 v1790
  v1791.toNat
def k0_cond16 (d0 : Dev nD) : BitVec 1 :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_430 : BitVec 32 := 7#32
  let v606 : BitVec 32 := Scalar.addi v2 c7_i32_430
  let c8_i32_431 : BitVec 32 := 8#32
  let v607 : BitVec 32 := Scalar.remsi v606 c8_i32_431
  let v608 : BitVec 32 := Scalar.addi c0_i32_432 v607
  let v612 : BitVec 1 := Scalar.cmpi .eq v608 v2
  let v613 : BitVec 32 := Scalar.extui v612
  let c0_i32_434 : BitVec 32 := 0#32
  let v614 : BitVec 1 := Scalar.cmpi .ne v613 c0_i32_434
  v614

def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond17 (d0 : Dev nD) : BitVec 1 :=
  let c8_i32_516 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_514 : BitVec 32 := 0#32
  let v715 : BitVec 32 := Scalar.addi v2 c0_i32_514
  let c8_i32_515 : BitVec 32 := 8#32
  let v716 : BitVec 32 := Scalar.remsi v715 c8_i32_515
  let v717 : BitVec 32 := Scalar.addi c8_i32_516 v716
  let v718 : BitVec 1 := Scalar.cmpi .ne v717 v2
  let v719 : BitVec 32 := Scalar.extui v718
  let c0_i32_517 : BitVec 32 := 0#32
  let v720 : BitVec 1 := Scalar.cmpi .ne v719 c0_i32_517
  v720

def k0_off41 (d0 : Dev nD) : Fin 1 → Nat :=
  let c8_i32_516 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_514 : BitVec 32 := 0#32
  let v715 : BitVec 32 := Scalar.addi v2 c0_i32_514
  let c8_i32_515 : BitVec 32 := 8#32
  let v716 : BitVec 32 := Scalar.remsi v715 c8_i32_515
  let v717 : BitVec 32 := Scalar.addi c8_i32_516 v716
  ![v717.toNat]
def k0_off42 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off44 (d0 : Dev nD) : Fin 3 → Nat :=
  let c8_i32_516 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_514 : BitVec 32 := 0#32
  let v715 : BitVec 32 := Scalar.addi v2 c0_i32_514
  let c8_i32_515 : BitVec 32 := 8#32
  let v716 : BitVec 32 := Scalar.remsi v715 c8_i32_515
  let v717 : BitVec 32 := Scalar.addi c8_i32_516 v716
  let c0_i32_1296 : BitVec 32 := 0#32
  let c0_i32_1297 : BitVec 32 := 0#32
  ![v717.toNat, 0, 0]
def k0_dev40 (d0 : Dev nD) : Nat :=
  let c0_i32_1293 : BitVec 32 := 0#32
  let c8_i32_516 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_514 : BitVec 32 := 0#32
  let v715 : BitVec 32 := Scalar.addi v2 c0_i32_514
  let c8_i32_515 : BitVec 32 := 8#32
  let v716 : BitVec 32 := Scalar.remsi v715 c8_i32_515
  let v717 : BitVec 32 := Scalar.addi c8_i32_516 v716
  let c1_i32_1292 : BitVec 32 := 1#32
  let v1790 : BitVec 32 := Scalar.muli v717 c1_i32_1292
  let v1791 : BitVec 32 := Scalar.addi c0_i32_1293 v1790
  v1791.toNat
def k0_cond18 (d0 : Dev nD) : BitVec 1 :=
  let c8_i32_516 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_514 : BitVec 32 := 0#32
  let v715 : BitVec 32 := Scalar.addi v2 c0_i32_514
  let c8_i32_515 : BitVec 32 := 8#32
  let v716 : BitVec 32 := Scalar.remsi v715 c8_i32_515
  let v717 : BitVec 32 := Scalar.addi c8_i32_516 v716
  let v721 : BitVec 1 := Scalar.cmpi .eq v717 v2
  let v722 : BitVec 32 := Scalar.extui v721
  let c0_i32_518 : BitVec 32 := 0#32
  let v723 : BitVec 1 := Scalar.cmpi .ne v722 c0_i32_518
  v723

def k0_off45 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond19 (d0 : Dev nD) : BitVec 1 :=
  let c8_i32_521 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_519 : BitVec 32 := 1#32
  let v724 : BitVec 32 := Scalar.addi v2 c1_i32_519
  let c8_i32_520 : BitVec 32 := 8#32
  let v725 : BitVec 32 := Scalar.remsi v724 c8_i32_520
  let v726 : BitVec 32 := Scalar.addi c8_i32_521 v725
  let v727 : BitVec 1 := Scalar.cmpi .ne v726 v2
  let v728 : BitVec 32 := Scalar.extui v727
  let c0_i32_522 : BitVec 32 := 0#32
  let v729 : BitVec 1 := Scalar.cmpi .ne v728 c0_i32_522
  v729

def k0_off46 (d0 : Dev nD) : Fin 1 → Nat :=
  let c8_i32_521 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_519 : BitVec 32 := 1#32
  let v724 : BitVec 32 := Scalar.addi v2 c1_i32_519
  let c8_i32_520 : BitVec 32 := 8#32
  let v725 : BitVec 32 := Scalar.remsi v724 c8_i32_520
  let v726 : BitVec 32 := Scalar.addi c8_i32_521 v725
  ![v726.toNat]
def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off49 (d0 : Dev nD) : Fin 3 → Nat :=
  let c8_i32_521 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_519 : BitVec 32 := 1#32
  let v724 : BitVec 32 := Scalar.addi v2 c1_i32_519
  let c8_i32_520 : BitVec 32 := 8#32
  let v725 : BitVec 32 := Scalar.remsi v724 c8_i32_520
  let v726 : BitVec 32 := Scalar.addi c8_i32_521 v725
  let c0_i32_1296 : BitVec 32 := 0#32
  let c0_i32_1297 : BitVec 32 := 0#32
  ![v726.toNat, 0, 0]
def k0_dev41 (d0 : Dev nD) : Nat :=
  let c0_i32_1293 : BitVec 32 := 0#32
  let c8_i32_521 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_519 : BitVec 32 := 1#32
  let v724 : BitVec 32 := Scalar.addi v2 c1_i32_519
  let c8_i32_520 : BitVec 32 := 8#32
  let v725 : BitVec 32 := Scalar.remsi v724 c8_i32_520
  let v726 : BitVec 32 := Scalar.addi c8_i32_521 v725
  let c1_i32_1292 : BitVec 32 := 1#32
  let v1790 : BitVec 32 := Scalar.muli v726 c1_i32_1292
  let v1791 : BitVec 32 := Scalar.addi c0_i32_1293 v1790
  v1791.toNat
def k0_cond20 (d0 : Dev nD) : BitVec 1 :=
  let c8_i32_521 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_519 : BitVec 32 := 1#32
  let v724 : BitVec 32 := Scalar.addi v2 c1_i32_519
  let c8_i32_520 : BitVec 32 := 8#32
  let v725 : BitVec 32 := Scalar.remsi v724 c8_i32_520
  let v726 : BitVec 32 := Scalar.addi c8_i32_521 v725
  let v730 : BitVec 1 := Scalar.cmpi .eq v726 v2
  let v731 : BitVec 32 := Scalar.extui v730
  let c0_i32_523 : BitVec 32 := 0#32
  let v732 : BitVec 1 := Scalar.cmpi .ne v731 c0_i32_523
  v732

def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond21 (d0 : Dev nD) : BitVec 1 :=
  let c8_i32_526 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_524 : BitVec 32 := 2#32
  let v733 : BitVec 32 := Scalar.addi v2 c2_i32_524
  let c8_i32_525 : BitVec 32 := 8#32
  let v734 : BitVec 32 := Scalar.remsi v733 c8_i32_525
  let v735 : BitVec 32 := Scalar.addi c8_i32_526 v734
  let v736 : BitVec 1 := Scalar.cmpi .ne v735 v2
  let v737 : BitVec 32 := Scalar.extui v736
  let c0_i32_527 : BitVec 32 := 0#32
  let v738 : BitVec 1 := Scalar.cmpi .ne v737 c0_i32_527
  v738

def k0_off51 (d0 : Dev nD) : Fin 1 → Nat :=
  let c8_i32_526 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_524 : BitVec 32 := 2#32
  let v733 : BitVec 32 := Scalar.addi v2 c2_i32_524
  let c8_i32_525 : BitVec 32 := 8#32
  let v734 : BitVec 32 := Scalar.remsi v733 c8_i32_525
  let v735 : BitVec 32 := Scalar.addi c8_i32_526 v734
  ![v735.toNat]
def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off54 (d0 : Dev nD) : Fin 3 → Nat :=
  let c8_i32_526 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_524 : BitVec 32 := 2#32
  let v733 : BitVec 32 := Scalar.addi v2 c2_i32_524
  let c8_i32_525 : BitVec 32 := 8#32
  let v734 : BitVec 32 := Scalar.remsi v733 c8_i32_525
  let v735 : BitVec 32 := Scalar.addi c8_i32_526 v734
  let c0_i32_1296 : BitVec 32 := 0#32
  let c0_i32_1297 : BitVec 32 := 0#32
  ![v735.toNat, 0, 0]
def k0_dev42 (d0 : Dev nD) : Nat :=
  let c0_i32_1293 : BitVec 32 := 0#32
  let c8_i32_526 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_524 : BitVec 32 := 2#32
  let v733 : BitVec 32 := Scalar.addi v2 c2_i32_524
  let c8_i32_525 : BitVec 32 := 8#32
  let v734 : BitVec 32 := Scalar.remsi v733 c8_i32_525
  let v735 : BitVec 32 := Scalar.addi c8_i32_526 v734
  let c1_i32_1292 : BitVec 32 := 1#32
  let v1790 : BitVec 32 := Scalar.muli v735 c1_i32_1292
  let v1791 : BitVec 32 := Scalar.addi c0_i32_1293 v1790
  v1791.toNat
def k0_cond22 (d0 : Dev nD) : BitVec 1 :=
  let c8_i32_526 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_524 : BitVec 32 := 2#32
  let v733 : BitVec 32 := Scalar.addi v2 c2_i32_524
  let c8_i32_525 : BitVec 32 := 8#32
  let v734 : BitVec 32 := Scalar.remsi v733 c8_i32_525
  let v735 : BitVec 32 := Scalar.addi c8_i32_526 v734
  let v739 : BitVec 1 := Scalar.cmpi .eq v735 v2
  let v740 : BitVec 32 := Scalar.extui v739
  let c0_i32_528 : BitVec 32 := 0#32
  let v741 : BitVec 1 := Scalar.cmpi .ne v740 c0_i32_528
  v741

def k0_off55 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond23 (d0 : Dev nD) : BitVec 1 :=
  let c8_i32_531 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_529 : BitVec 32 := 3#32
  let v742 : BitVec 32 := Scalar.addi v2 c3_i32_529
  let c8_i32_530 : BitVec 32 := 8#32
  let v743 : BitVec 32 := Scalar.remsi v742 c8_i32_530
  let v744 : BitVec 32 := Scalar.addi c8_i32_531 v743
  let v745 : BitVec 1 := Scalar.cmpi .ne v744 v2
  let v746 : BitVec 32 := Scalar.extui v745
  let c0_i32_532 : BitVec 32 := 0#32
  let v747 : BitVec 1 := Scalar.cmpi .ne v746 c0_i32_532
  v747

def k0_off56 (d0 : Dev nD) : Fin 1 → Nat :=
  let c8_i32_531 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_529 : BitVec 32 := 3#32
  let v742 : BitVec 32 := Scalar.addi v2 c3_i32_529
  let c8_i32_530 : BitVec 32 := 8#32
  let v743 : BitVec 32 := Scalar.remsi v742 c8_i32_530
  let v744 : BitVec 32 := Scalar.addi c8_i32_531 v743
  ![v744.toNat]
def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off59 (d0 : Dev nD) : Fin 3 → Nat :=
  let c8_i32_531 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_529 : BitVec 32 := 3#32
  let v742 : BitVec 32 := Scalar.addi v2 c3_i32_529
  let c8_i32_530 : BitVec 32 := 8#32
  let v743 : BitVec 32 := Scalar.remsi v742 c8_i32_530
  let v744 : BitVec 32 := Scalar.addi c8_i32_531 v743
  let c0_i32_1296 : BitVec 32 := 0#32
  let c0_i32_1297 : BitVec 32 := 0#32
  ![v744.toNat, 0, 0]
def k0_dev43 (d0 : Dev nD) : Nat :=
  let c0_i32_1293 : BitVec 32 := 0#32
  let c8_i32_531 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_529 : BitVec 32 := 3#32
  let v742 : BitVec 32 := Scalar.addi v2 c3_i32_529
  let c8_i32_530 : BitVec 32 := 8#32
  let v743 : BitVec 32 := Scalar.remsi v742 c8_i32_530
  let v744 : BitVec 32 := Scalar.addi c8_i32_531 v743
  let c1_i32_1292 : BitVec 32 := 1#32
  let v1790 : BitVec 32 := Scalar.muli v744 c1_i32_1292
  let v1791 : BitVec 32 := Scalar.addi c0_i32_1293 v1790
  v1791.toNat
def k0_cond24 (d0 : Dev nD) : BitVec 1 :=
  let c8_i32_531 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_529 : BitVec 32 := 3#32
  let v742 : BitVec 32 := Scalar.addi v2 c3_i32_529
  let c8_i32_530 : BitVec 32 := 8#32
  let v743 : BitVec 32 := Scalar.remsi v742 c8_i32_530
  let v744 : BitVec 32 := Scalar.addi c8_i32_531 v743
  let v748 : BitVec 1 := Scalar.cmpi .eq v744 v2
  let v749 : BitVec 32 := Scalar.extui v748
  let c0_i32_533 : BitVec 32 := 0#32
  let v750 : BitVec 1 := Scalar.cmpi .ne v749 c0_i32_533
  v750

def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond25 (d0 : Dev nD) : BitVec 1 :=
  let c8_i32_536 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_534 : BitVec 32 := 4#32
  let v751 : BitVec 32 := Scalar.addi v2 c4_i32_534
  let c8_i32_535 : BitVec 32 := 8#32
  let v752 : BitVec 32 := Scalar.remsi v751 c8_i32_535
  let v753 : BitVec 32 := Scalar.addi c8_i32_536 v752
  let v754 : BitVec 1 := Scalar.cmpi .ne v753 v2
  let v755 : BitVec 32 := Scalar.extui v754
  let c0_i32_537 : BitVec 32 := 0#32
  let v756 : BitVec 1 := Scalar.cmpi .ne v755 c0_i32_537
  v756

def k0_off61 (d0 : Dev nD) : Fin 1 → Nat :=
  let c8_i32_536 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_534 : BitVec 32 := 4#32
  let v751 : BitVec 32 := Scalar.addi v2 c4_i32_534
  let c8_i32_535 : BitVec 32 := 8#32
  let v752 : BitVec 32 := Scalar.remsi v751 c8_i32_535
  let v753 : BitVec 32 := Scalar.addi c8_i32_536 v752
  ![v753.toNat]
def k0_off62 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off64 (d0 : Dev nD) : Fin 3 → Nat :=
  let c8_i32_536 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_534 : BitVec 32 := 4#32
  let v751 : BitVec 32 := Scalar.addi v2 c4_i32_534
  let c8_i32_535 : BitVec 32 := 8#32
  let v752 : BitVec 32 := Scalar.remsi v751 c8_i32_535
  let v753 : BitVec 32 := Scalar.addi c8_i32_536 v752
  let c0_i32_1296 : BitVec 32 := 0#32
  let c0_i32_1297 : BitVec 32 := 0#32
  ![v753.toNat, 0, 0]
def k0_dev44 (d0 : Dev nD) : Nat :=
  let c0_i32_1293 : BitVec 32 := 0#32
  let c8_i32_536 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_534 : BitVec 32 := 4#32
  let v751 : BitVec 32 := Scalar.addi v2 c4_i32_534
  let c8_i32_535 : BitVec 32 := 8#32
  let v752 : BitVec 32 := Scalar.remsi v751 c8_i32_535
  let v753 : BitVec 32 := Scalar.addi c8_i32_536 v752
  let c1_i32_1292 : BitVec 32 := 1#32
  let v1790 : BitVec 32 := Scalar.muli v753 c1_i32_1292
  let v1791 : BitVec 32 := Scalar.addi c0_i32_1293 v1790
  v1791.toNat
def k0_cond26 (d0 : Dev nD) : BitVec 1 :=
  let c8_i32_536 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_534 : BitVec 32 := 4#32
  let v751 : BitVec 32 := Scalar.addi v2 c4_i32_534
  let c8_i32_535 : BitVec 32 := 8#32
  let v752 : BitVec 32 := Scalar.remsi v751 c8_i32_535
  let v753 : BitVec 32 := Scalar.addi c8_i32_536 v752
  let v757 : BitVec 1 := Scalar.cmpi .eq v753 v2
  let v758 : BitVec 32 := Scalar.extui v757
  let c0_i32_538 : BitVec 32 := 0#32
  let v759 : BitVec 1 := Scalar.cmpi .ne v758 c0_i32_538
  v759

def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond27 (d0 : Dev nD) : BitVec 1 :=
  let c8_i32_541 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_539 : BitVec 32 := 5#32
  let v760 : BitVec 32 := Scalar.addi v2 c5_i32_539
  let c8_i32_540 : BitVec 32 := 8#32
  let v761 : BitVec 32 := Scalar.remsi v760 c8_i32_540
  let v762 : BitVec 32 := Scalar.addi c8_i32_541 v761
  let v763 : BitVec 1 := Scalar.cmpi .ne v762 v2
  let v764 : BitVec 32 := Scalar.extui v763
  let c0_i32_542 : BitVec 32 := 0#32
  let v765 : BitVec 1 := Scalar.cmpi .ne v764 c0_i32_542
  v765

def k0_off66 (d0 : Dev nD) : Fin 1 → Nat :=
  let c8_i32_541 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_539 : BitVec 32 := 5#32
  let v760 : BitVec 32 := Scalar.addi v2 c5_i32_539
  let c8_i32_540 : BitVec 32 := 8#32
  let v761 : BitVec 32 := Scalar.remsi v760 c8_i32_540
  let v762 : BitVec 32 := Scalar.addi c8_i32_541 v761
  ![v762.toNat]
def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off69 (d0 : Dev nD) : Fin 3 → Nat :=
  let c8_i32_541 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_539 : BitVec 32 := 5#32
  let v760 : BitVec 32 := Scalar.addi v2 c5_i32_539
  let c8_i32_540 : BitVec 32 := 8#32
  let v761 : BitVec 32 := Scalar.remsi v760 c8_i32_540
  let v762 : BitVec 32 := Scalar.addi c8_i32_541 v761
  let c0_i32_1296 : BitVec 32 := 0#32
  let c0_i32_1297 : BitVec 32 := 0#32
  ![v762.toNat, 0, 0]
def k0_dev45 (d0 : Dev nD) : Nat :=
  let c0_i32_1293 : BitVec 32 := 0#32
  let c8_i32_541 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_539 : BitVec 32 := 5#32
  let v760 : BitVec 32 := Scalar.addi v2 c5_i32_539
  let c8_i32_540 : BitVec 32 := 8#32
  let v761 : BitVec 32 := Scalar.remsi v760 c8_i32_540
  let v762 : BitVec 32 := Scalar.addi c8_i32_541 v761
  let c1_i32_1292 : BitVec 32 := 1#32
  let v1790 : BitVec 32 := Scalar.muli v762 c1_i32_1292
  let v1791 : BitVec 32 := Scalar.addi c0_i32_1293 v1790
  v1791.toNat
def k0_cond28 (d0 : Dev nD) : BitVec 1 :=
  let c8_i32_541 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_539 : BitVec 32 := 5#32
  let v760 : BitVec 32 := Scalar.addi v2 c5_i32_539
  let c8_i32_540 : BitVec 32 := 8#32
  let v761 : BitVec 32 := Scalar.remsi v760 c8_i32_540
  let v762 : BitVec 32 := Scalar.addi c8_i32_541 v761
  let v766 : BitVec 1 := Scalar.cmpi .eq v762 v2
  let v767 : BitVec 32 := Scalar.extui v766
  let c0_i32_543 : BitVec 32 := 0#32
  let v768 : BitVec 1 := Scalar.cmpi .ne v767 c0_i32_543
  v768

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond29 (d0 : Dev nD) : BitVec 1 :=
  let c8_i32_546 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_544 : BitVec 32 := 6#32
  let v769 : BitVec 32 := Scalar.addi v2 c6_i32_544
  let c8_i32_545 : BitVec 32 := 8#32
  let v770 : BitVec 32 := Scalar.remsi v769 c8_i32_545
  let v771 : BitVec 32 := Scalar.addi c8_i32_546 v770
  let v772 : BitVec 1 := Scalar.cmpi .ne v771 v2
  let v773 : BitVec 32 := Scalar.extui v772
  let c0_i32_547 : BitVec 32 := 0#32
  let v774 : BitVec 1 := Scalar.cmpi .ne v773 c0_i32_547
  v774

def k0_off71 (d0 : Dev nD) : Fin 1 → Nat :=
  let c8_i32_546 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_544 : BitVec 32 := 6#32
  let v769 : BitVec 32 := Scalar.addi v2 c6_i32_544
  let c8_i32_545 : BitVec 32 := 8#32
  let v770 : BitVec 32 := Scalar.remsi v769 c8_i32_545
  let v771 : BitVec 32 := Scalar.addi c8_i32_546 v770
  ![v771.toNat]
def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off74 (d0 : Dev nD) : Fin 3 → Nat :=
  let c8_i32_546 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_544 : BitVec 32 := 6#32
  let v769 : BitVec 32 := Scalar.addi v2 c6_i32_544
  let c8_i32_545 : BitVec 32 := 8#32
  let v770 : BitVec 32 := Scalar.remsi v769 c8_i32_545
  let v771 : BitVec 32 := Scalar.addi c8_i32_546 v770
  let c0_i32_1296 : BitVec 32 := 0#32
  let c0_i32_1297 : BitVec 32 := 0#32
  ![v771.toNat, 0, 0]
def k0_dev46 (d0 : Dev nD) : Nat :=
  let c0_i32_1293 : BitVec 32 := 0#32
  let c8_i32_546 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_544 : BitVec 32 := 6#32
  let v769 : BitVec 32 := Scalar.addi v2 c6_i32_544
  let c8_i32_545 : BitVec 32 := 8#32
  let v770 : BitVec 32 := Scalar.remsi v769 c8_i32_545
  let v771 : BitVec 32 := Scalar.addi c8_i32_546 v770
  let c1_i32_1292 : BitVec 32 := 1#32
  let v1790 : BitVec 32 := Scalar.muli v771 c1_i32_1292
  let v1791 : BitVec 32 := Scalar.addi c0_i32_1293 v1790
  v1791.toNat
def k0_cond30 (d0 : Dev nD) : BitVec 1 :=
  let c8_i32_546 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_544 : BitVec 32 := 6#32
  let v769 : BitVec 32 := Scalar.addi v2 c6_i32_544
  let c8_i32_545 : BitVec 32 := 8#32
  let v770 : BitVec 32 := Scalar.remsi v769 c8_i32_545
  let v771 : BitVec 32 := Scalar.addi c8_i32_546 v770
  let v775 : BitVec 1 := Scalar.cmpi .eq v771 v2
  let v776 : BitVec 32 := Scalar.extui v775
  let c0_i32_548 : BitVec 32 := 0#32
  let v777 : BitVec 1 := Scalar.cmpi .ne v776 c0_i32_548
  v777

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond31 (d0 : Dev nD) : BitVec 1 :=
  let c8_i32_551 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_549 : BitVec 32 := 7#32
  let v778 : BitVec 32 := Scalar.addi v2 c7_i32_549
  let c8_i32_550 : BitVec 32 := 8#32
  let v779 : BitVec 32 := Scalar.remsi v778 c8_i32_550
  let v780 : BitVec 32 := Scalar.addi c8_i32_551 v779
  let v781 : BitVec 1 := Scalar.cmpi .ne v780 v2
  let v782 : BitVec 32 := Scalar.extui v781
  let c0_i32_552 : BitVec 32 := 0#32
  let v783 : BitVec 1 := Scalar.cmpi .ne v782 c0_i32_552
  v783

def k0_off76 (d0 : Dev nD) : Fin 1 → Nat :=
  let c8_i32_551 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_549 : BitVec 32 := 7#32
  let v778 : BitVec 32 := Scalar.addi v2 c7_i32_549
  let c8_i32_550 : BitVec 32 := 8#32
  let v779 : BitVec 32 := Scalar.remsi v778 c8_i32_550
  let v780 : BitVec 32 := Scalar.addi c8_i32_551 v779
  ![v780.toNat]
def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off79 (d0 : Dev nD) : Fin 3 → Nat :=
  let c8_i32_551 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_549 : BitVec 32 := 7#32
  let v778 : BitVec 32 := Scalar.addi v2 c7_i32_549
  let c8_i32_550 : BitVec 32 := 8#32
  let v779 : BitVec 32 := Scalar.remsi v778 c8_i32_550
  let v780 : BitVec 32 := Scalar.addi c8_i32_551 v779
  let c0_i32_1296 : BitVec 32 := 0#32
  let c0_i32_1297 : BitVec 32 := 0#32
  ![v780.toNat, 0, 0]
def k0_dev47 (d0 : Dev nD) : Nat :=
  let c0_i32_1293 : BitVec 32 := 0#32
  let c8_i32_551 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_549 : BitVec 32 := 7#32
  let v778 : BitVec 32 := Scalar.addi v2 c7_i32_549
  let c8_i32_550 : BitVec 32 := 8#32
  let v779 : BitVec 32 := Scalar.remsi v778 c8_i32_550
  let v780 : BitVec 32 := Scalar.addi c8_i32_551 v779
  let c1_i32_1292 : BitVec 32 := 1#32
  let v1790 : BitVec 32 := Scalar.muli v780 c1_i32_1292
  let v1791 : BitVec 32 := Scalar.addi c0_i32_1293 v1790
  v1791.toNat
def k0_cond32 (d0 : Dev nD) : BitVec 1 :=
  let c8_i32_551 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_549 : BitVec 32 := 7#32
  let v778 : BitVec 32 := Scalar.addi v2 c7_i32_549
  let c8_i32_550 : BitVec 32 := 8#32
  let v779 : BitVec 32 := Scalar.remsi v778 c8_i32_550
  let v780 : BitVec 32 := Scalar.addi c8_i32_551 v779
  let v784 : BitVec 1 := Scalar.cmpi .eq v780 v2
  let v785 : BitVec 32 := Scalar.extui v784
  let c0_i32_553 : BitVec 32 := 0#32
  let v786 : BitVec 1 := Scalar.cmpi .ne v785 c0_i32_553
  v786

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond33 (d0 : Dev nD) : BitVec 1 :=
  let c16_i32_624 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_622 : BitVec 32 := 0#32
  let v877 : BitVec 32 := Scalar.addi v2 c0_i32_622
  let c8_i32_623 : BitVec 32 := 8#32
  let v878 : BitVec 32 := Scalar.remsi v877 c8_i32_623
  let v879 : BitVec 32 := Scalar.addi c16_i32_624 v878
  let v880 : BitVec 1 := Scalar.cmpi .ne v879 v2
  let v881 : BitVec 32 := Scalar.extui v880
  let c0_i32_625 : BitVec 32 := 0#32
  let v882 : BitVec 1 := Scalar.cmpi .ne v881 c0_i32_625
  v882

def k0_off81 (d0 : Dev nD) : Fin 1 → Nat :=
  let c16_i32_624 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_622 : BitVec 32 := 0#32
  let v877 : BitVec 32 := Scalar.addi v2 c0_i32_622
  let c8_i32_623 : BitVec 32 := 8#32
  let v878 : BitVec 32 := Scalar.remsi v877 c8_i32_623
  let v879 : BitVec 32 := Scalar.addi c16_i32_624 v878
  ![v879.toNat]
def k0_off82 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off84 (d0 : Dev nD) : Fin 3 → Nat :=
  let c16_i32_624 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_622 : BitVec 32 := 0#32
  let v877 : BitVec 32 := Scalar.addi v2 c0_i32_622
  let c8_i32_623 : BitVec 32 := 8#32
  let v878 : BitVec 32 := Scalar.remsi v877 c8_i32_623
  let v879 : BitVec 32 := Scalar.addi c16_i32_624 v878
  let c0_i32_1296 : BitVec 32 := 0#32
  let c0_i32_1297 : BitVec 32 := 0#32
  ![v879.toNat, 0, 0]
def k0_dev48 (d0 : Dev nD) : Nat :=
  let c0_i32_1293 : BitVec 32 := 0#32
  let c16_i32_624 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_622 : BitVec 32 := 0#32
  let v877 : BitVec 32 := Scalar.addi v2 c0_i32_622
  let c8_i32_623 : BitVec 32 := 8#32
  let v878 : BitVec 32 := Scalar.remsi v877 c8_i32_623
  let v879 : BitVec 32 := Scalar.addi c16_i32_624 v878
  let c1_i32_1292 : BitVec 32 := 1#32
  let v1790 : BitVec 32 := Scalar.muli v879 c1_i32_1292
  let v1791 : BitVec 32 := Scalar.addi c0_i32_1293 v1790
  v1791.toNat
def k0_cond34 (d0 : Dev nD) : BitVec 1 :=
  let c16_i32_624 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_622 : BitVec 32 := 0#32
  let v877 : BitVec 32 := Scalar.addi v2 c0_i32_622
  let c8_i32_623 : BitVec 32 := 8#32
  let v878 : BitVec 32 := Scalar.remsi v877 c8_i32_623
  let v879 : BitVec 32 := Scalar.addi c16_i32_624 v878
  let v883 : BitVec 1 := Scalar.cmpi .eq v879 v2
  let v884 : BitVec 32 := Scalar.extui v883
  let c0_i32_626 : BitVec 32 := 0#32
  let v885 : BitVec 1 := Scalar.cmpi .ne v884 c0_i32_626
  v885

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond35 (d0 : Dev nD) : BitVec 1 :=
  let c16_i32_629 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_627 : BitVec 32 := 1#32
  let v886 : BitVec 32 := Scalar.addi v2 c1_i32_627
  let c8_i32_628 : BitVec 32 := 8#32
  let v887 : BitVec 32 := Scalar.remsi v886 c8_i32_628
  let v888 : BitVec 32 := Scalar.addi c16_i32_629 v887
  let v889 : BitVec 1 := Scalar.cmpi .ne v888 v2
  let v890 : BitVec 32 := Scalar.extui v889
  let c0_i32_630 : BitVec 32 := 0#32
  let v891 : BitVec 1 := Scalar.cmpi .ne v890 c0_i32_630
  v891

def k0_off86 (d0 : Dev nD) : Fin 1 → Nat :=
  let c16_i32_629 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_627 : BitVec 32 := 1#32
  let v886 : BitVec 32 := Scalar.addi v2 c1_i32_627
  let c8_i32_628 : BitVec 32 := 8#32
  let v887 : BitVec 32 := Scalar.remsi v886 c8_i32_628
  let v888 : BitVec 32 := Scalar.addi c16_i32_629 v887
  ![v888.toNat]
def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off89 (d0 : Dev nD) : Fin 3 → Nat :=
  let c16_i32_629 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_627 : BitVec 32 := 1#32
  let v886 : BitVec 32 := Scalar.addi v2 c1_i32_627
  let c8_i32_628 : BitVec 32 := 8#32
  let v887 : BitVec 32 := Scalar.remsi v886 c8_i32_628
  let v888 : BitVec 32 := Scalar.addi c16_i32_629 v887
  let c0_i32_1296 : BitVec 32 := 0#32
  let c0_i32_1297 : BitVec 32 := 0#32
  ![v888.toNat, 0, 0]
def k0_dev49 (d0 : Dev nD) : Nat :=
  let c0_i32_1293 : BitVec 32 := 0#32
  let c16_i32_629 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_627 : BitVec 32 := 1#32
  let v886 : BitVec 32 := Scalar.addi v2 c1_i32_627
  let c8_i32_628 : BitVec 32 := 8#32
  let v887 : BitVec 32 := Scalar.remsi v886 c8_i32_628
  let v888 : BitVec 32 := Scalar.addi c16_i32_629 v887
  let c1_i32_1292 : BitVec 32 := 1#32
  let v1790 : BitVec 32 := Scalar.muli v888 c1_i32_1292
  let v1791 : BitVec 32 := Scalar.addi c0_i32_1293 v1790
  v1791.toNat
def k0_cond36 (d0 : Dev nD) : BitVec 1 :=
  let c16_i32_629 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_627 : BitVec 32 := 1#32
  let v886 : BitVec 32 := Scalar.addi v2 c1_i32_627
  let c8_i32_628 : BitVec 32 := 8#32
  let v887 : BitVec 32 := Scalar.remsi v886 c8_i32_628
  let v888 : BitVec 32 := Scalar.addi c16_i32_629 v887
  let v892 : BitVec 1 := Scalar.cmpi .eq v888 v2
  let v893 : BitVec 32 := Scalar.extui v892
  let c0_i32_631 : BitVec 32 := 0#32
  let v894 : BitVec 1 := Scalar.cmpi .ne v893 c0_i32_631
  v894

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond37 (d0 : Dev nD) : BitVec 1 :=
  let c16_i32_634 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_632 : BitVec 32 := 2#32
  let v895 : BitVec 32 := Scalar.addi v2 c2_i32_632
  let c8_i32_633 : BitVec 32 := 8#32
  let v896 : BitVec 32 := Scalar.remsi v895 c8_i32_633
  let v897 : BitVec 32 := Scalar.addi c16_i32_634 v896
  let v898 : BitVec 1 := Scalar.cmpi .ne v897 v2
  let v899 : BitVec 32 := Scalar.extui v898
  let c0_i32_635 : BitVec 32 := 0#32
  let v900 : BitVec 1 := Scalar.cmpi .ne v899 c0_i32_635
  v900

def k0_off91 (d0 : Dev nD) : Fin 1 → Nat :=
  let c16_i32_634 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_632 : BitVec 32 := 2#32
  let v895 : BitVec 32 := Scalar.addi v2 c2_i32_632
  let c8_i32_633 : BitVec 32 := 8#32
  let v896 : BitVec 32 := Scalar.remsi v895 c8_i32_633
  let v897 : BitVec 32 := Scalar.addi c16_i32_634 v896
  ![v897.toNat]
def k0_off92 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off94 (d0 : Dev nD) : Fin 3 → Nat :=
  let c16_i32_634 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_632 : BitVec 32 := 2#32
  let v895 : BitVec 32 := Scalar.addi v2 c2_i32_632
  let c8_i32_633 : BitVec 32 := 8#32
  let v896 : BitVec 32 := Scalar.remsi v895 c8_i32_633
  let v897 : BitVec 32 := Scalar.addi c16_i32_634 v896
  let c0_i32_1296 : BitVec 32 := 0#32
  let c0_i32_1297 : BitVec 32 := 0#32
  ![v897.toNat, 0, 0]
def k0_dev50 (d0 : Dev nD) : Nat :=
  let c0_i32_1293 : BitVec 32 := 0#32
  let c16_i32_634 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_632 : BitVec 32 := 2#32
  let v895 : BitVec 32 := Scalar.addi v2 c2_i32_632
  let c8_i32_633 : BitVec 32 := 8#32
  let v896 : BitVec 32 := Scalar.remsi v895 c8_i32_633
  let v897 : BitVec 32 := Scalar.addi c16_i32_634 v896
  let c1_i32_1292 : BitVec 32 := 1#32
  let v1790 : BitVec 32 := Scalar.muli v897 c1_i32_1292
  let v1791 : BitVec 32 := Scalar.addi c0_i32_1293 v1790
  v1791.toNat
def k0_cond38 (d0 : Dev nD) : BitVec 1 :=
  let c16_i32_634 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_632 : BitVec 32 := 2#32
  let v895 : BitVec 32 := Scalar.addi v2 c2_i32_632
  let c8_i32_633 : BitVec 32 := 8#32
  let v896 : BitVec 32 := Scalar.remsi v895 c8_i32_633
  let v897 : BitVec 32 := Scalar.addi c16_i32_634 v896
  let v901 : BitVec 1 := Scalar.cmpi .eq v897 v2
  let v902 : BitVec 32 := Scalar.extui v901
  let c0_i32_636 : BitVec 32 := 0#32
  let v903 : BitVec 1 := Scalar.cmpi .ne v902 c0_i32_636
  v903

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond39 (d0 : Dev nD) : BitVec 1 :=
  let c16_i32_639 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_637 : BitVec 32 := 3#32
  let v904 : BitVec 32 := Scalar.addi v2 c3_i32_637
  let c8_i32_638 : BitVec 32 := 8#32
  let v905 : BitVec 32 := Scalar.remsi v904 c8_i32_638
  let v906 : BitVec 32 := Scalar.addi c16_i32_639 v905
  let v907 : BitVec 1 := Scalar.cmpi .ne v906 v2
  let v908 : BitVec 32 := Scalar.extui v907
  let c0_i32_640 : BitVec 32 := 0#32
  let v909 : BitVec 1 := Scalar.cmpi .ne v908 c0_i32_640
  v909

def k0_off96 (d0 : Dev nD) : Fin 1 → Nat :=
  let c16_i32_639 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_637 : BitVec 32 := 3#32
  let v904 : BitVec 32 := Scalar.addi v2 c3_i32_637
  let c8_i32_638 : BitVec 32 := 8#32
  let v905 : BitVec 32 := Scalar.remsi v904 c8_i32_638
  let v906 : BitVec 32 := Scalar.addi c16_i32_639 v905
  ![v906.toNat]
def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off99 (d0 : Dev nD) : Fin 3 → Nat :=
  let c16_i32_639 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_637 : BitVec 32 := 3#32
  let v904 : BitVec 32 := Scalar.addi v2 c3_i32_637
  let c8_i32_638 : BitVec 32 := 8#32
  let v905 : BitVec 32 := Scalar.remsi v904 c8_i32_638
  let v906 : BitVec 32 := Scalar.addi c16_i32_639 v905
  let c0_i32_1296 : BitVec 32 := 0#32
  let c0_i32_1297 : BitVec 32 := 0#32
  ![v906.toNat, 0, 0]
def k0_dev51 (d0 : Dev nD) : Nat :=
  let c0_i32_1293 : BitVec 32 := 0#32
  let c16_i32_639 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_637 : BitVec 32 := 3#32
  let v904 : BitVec 32 := Scalar.addi v2 c3_i32_637
  let c8_i32_638 : BitVec 32 := 8#32
  let v905 : BitVec 32 := Scalar.remsi v904 c8_i32_638
  let v906 : BitVec 32 := Scalar.addi c16_i32_639 v905
  let c1_i32_1292 : BitVec 32 := 1#32
  let v1790 : BitVec 32 := Scalar.muli v906 c1_i32_1292
  let v1791 : BitVec 32 := Scalar.addi c0_i32_1293 v1790
  v1791.toNat
def k0_cond40 (d0 : Dev nD) : BitVec 1 :=
  let c16_i32_639 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_637 : BitVec 32 := 3#32
  let v904 : BitVec 32 := Scalar.addi v2 c3_i32_637
  let c8_i32_638 : BitVec 32 := 8#32
  let v905 : BitVec 32 := Scalar.remsi v904 c8_i32_638
  let v906 : BitVec 32 := Scalar.addi c16_i32_639 v905
  let v910 : BitVec 1 := Scalar.cmpi .eq v906 v2
  let v911 : BitVec 32 := Scalar.extui v910
  let c0_i32_641 : BitVec 32 := 0#32
  let v912 : BitVec 1 := Scalar.cmpi .ne v911 c0_i32_641
  v912

def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond41 (d0 : Dev nD) : BitVec 1 :=
  let c16_i32_644 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_642 : BitVec 32 := 4#32
  let v913 : BitVec 32 := Scalar.addi v2 c4_i32_642
  let c8_i32_643 : BitVec 32 := 8#32
  let v914 : BitVec 32 := Scalar.remsi v913 c8_i32_643
  let v915 : BitVec 32 := Scalar.addi c16_i32_644 v914
  let v916 : BitVec 1 := Scalar.cmpi .ne v915 v2
  let v917 : BitVec 32 := Scalar.extui v916
  let c0_i32_645 : BitVec 32 := 0#32
  let v918 : BitVec 1 := Scalar.cmpi .ne v917 c0_i32_645
  v918

def k0_off101 (d0 : Dev nD) : Fin 1 → Nat :=
  let c16_i32_644 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_642 : BitVec 32 := 4#32
  let v913 : BitVec 32 := Scalar.addi v2 c4_i32_642
  let c8_i32_643 : BitVec 32 := 8#32
  let v914 : BitVec 32 := Scalar.remsi v913 c8_i32_643
  let v915 : BitVec 32 := Scalar.addi c16_i32_644 v914
  ![v915.toNat]
def k0_off102 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off103 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off104 (d0 : Dev nD) : Fin 3 → Nat :=
  let c16_i32_644 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_642 : BitVec 32 := 4#32
  let v913 : BitVec 32 := Scalar.addi v2 c4_i32_642
  let c8_i32_643 : BitVec 32 := 8#32
  let v914 : BitVec 32 := Scalar.remsi v913 c8_i32_643
  let v915 : BitVec 32 := Scalar.addi c16_i32_644 v914
  let c0_i32_1296 : BitVec 32 := 0#32
  let c0_i32_1297 : BitVec 32 := 0#32
  ![v915.toNat, 0, 0]
def k0_dev52 (d0 : Dev nD) : Nat :=
  let c0_i32_1293 : BitVec 32 := 0#32
  let c16_i32_644 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_642 : BitVec 32 := 4#32
  let v913 : BitVec 32 := Scalar.addi v2 c4_i32_642
  let c8_i32_643 : BitVec 32 := 8#32
  let v914 : BitVec 32 := Scalar.remsi v913 c8_i32_643
  let v915 : BitVec 32 := Scalar.addi c16_i32_644 v914
  let c1_i32_1292 : BitVec 32 := 1#32
  let v1790 : BitVec 32 := Scalar.muli v915 c1_i32_1292
  let v1791 : BitVec 32 := Scalar.addi c0_i32_1293 v1790
  v1791.toNat
def k0_cond42 (d0 : Dev nD) : BitVec 1 :=
  let c16_i32_644 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_642 : BitVec 32 := 4#32
  let v913 : BitVec 32 := Scalar.addi v2 c4_i32_642
  let c8_i32_643 : BitVec 32 := 8#32
  let v914 : BitVec 32 := Scalar.remsi v913 c8_i32_643
  let v915 : BitVec 32 := Scalar.addi c16_i32_644 v914
  let v919 : BitVec 1 := Scalar.cmpi .eq v915 v2
  let v920 : BitVec 32 := Scalar.extui v919
  let c0_i32_646 : BitVec 32 := 0#32
  let v921 : BitVec 1 := Scalar.cmpi .ne v920 c0_i32_646
  v921

def k0_off105 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond43 (d0 : Dev nD) : BitVec 1 :=
  let c16_i32_649 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_647 : BitVec 32 := 5#32
  let v922 : BitVec 32 := Scalar.addi v2 c5_i32_647
  let c8_i32_648 : BitVec 32 := 8#32
  let v923 : BitVec 32 := Scalar.remsi v922 c8_i32_648
  let v924 : BitVec 32 := Scalar.addi c16_i32_649 v923
  let v925 : BitVec 1 := Scalar.cmpi .ne v924 v2
  let v926 : BitVec 32 := Scalar.extui v925
  let c0_i32_650 : BitVec 32 := 0#32
  let v927 : BitVec 1 := Scalar.cmpi .ne v926 c0_i32_650
  v927

def k0_off106 (d0 : Dev nD) : Fin 1 → Nat :=
  let c16_i32_649 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_647 : BitVec 32 := 5#32
  let v922 : BitVec 32 := Scalar.addi v2 c5_i32_647
  let c8_i32_648 : BitVec 32 := 8#32
  let v923 : BitVec 32 := Scalar.remsi v922 c8_i32_648
  let v924 : BitVec 32 := Scalar.addi c16_i32_649 v923
  ![v924.toNat]
def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off109 (d0 : Dev nD) : Fin 3 → Nat :=
  let c16_i32_649 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_647 : BitVec 32 := 5#32
  let v922 : BitVec 32 := Scalar.addi v2 c5_i32_647
  let c8_i32_648 : BitVec 32 := 8#32
  let v923 : BitVec 32 := Scalar.remsi v922 c8_i32_648
  let v924 : BitVec 32 := Scalar.addi c16_i32_649 v923
  let c0_i32_1296 : BitVec 32 := 0#32
  let c0_i32_1297 : BitVec 32 := 0#32
  ![v924.toNat, 0, 0]
def k0_dev53 (d0 : Dev nD) : Nat :=
  let c0_i32_1293 : BitVec 32 := 0#32
  let c16_i32_649 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_647 : BitVec 32 := 5#32
  let v922 : BitVec 32 := Scalar.addi v2 c5_i32_647
  let c8_i32_648 : BitVec 32 := 8#32
  let v923 : BitVec 32 := Scalar.remsi v922 c8_i32_648
  let v924 : BitVec 32 := Scalar.addi c16_i32_649 v923
  let c1_i32_1292 : BitVec 32 := 1#32
  let v1790 : BitVec 32 := Scalar.muli v924 c1_i32_1292
  let v1791 : BitVec 32 := Scalar.addi c0_i32_1293 v1790
  v1791.toNat
def k0_cond44 (d0 : Dev nD) : BitVec 1 :=
  let c16_i32_649 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_647 : BitVec 32 := 5#32
  let v922 : BitVec 32 := Scalar.addi v2 c5_i32_647
  let c8_i32_648 : BitVec 32 := 8#32
  let v923 : BitVec 32 := Scalar.remsi v922 c8_i32_648
  let v924 : BitVec 32 := Scalar.addi c16_i32_649 v923
  let v928 : BitVec 1 := Scalar.cmpi .eq v924 v2
  let v929 : BitVec 32 := Scalar.extui v928
  let c0_i32_651 : BitVec 32 := 0#32
  let v930 : BitVec 1 := Scalar.cmpi .ne v929 c0_i32_651
  v930

def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond45 (d0 : Dev nD) : BitVec 1 :=
  let c16_i32_654 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_652 : BitVec 32 := 6#32
  let v931 : BitVec 32 := Scalar.addi v2 c6_i32_652
  let c8_i32_653 : BitVec 32 := 8#32
  let v932 : BitVec 32 := Scalar.remsi v931 c8_i32_653
  let v933 : BitVec 32 := Scalar.addi c16_i32_654 v932
  let v934 : BitVec 1 := Scalar.cmpi .ne v933 v2
  let v935 : BitVec 32 := Scalar.extui v934
  let c0_i32_655 : BitVec 32 := 0#32
  let v936 : BitVec 1 := Scalar.cmpi .ne v935 c0_i32_655
  v936

def k0_off111 (d0 : Dev nD) : Fin 1 → Nat :=
  let c16_i32_654 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_652 : BitVec 32 := 6#32
  let v931 : BitVec 32 := Scalar.addi v2 c6_i32_652
  let c8_i32_653 : BitVec 32 := 8#32
  let v932 : BitVec 32 := Scalar.remsi v931 c8_i32_653
  let v933 : BitVec 32 := Scalar.addi c16_i32_654 v932
  ![v933.toNat]
def k0_off112 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off113 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off114 (d0 : Dev nD) : Fin 3 → Nat :=
  let c16_i32_654 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_652 : BitVec 32 := 6#32
  let v931 : BitVec 32 := Scalar.addi v2 c6_i32_652
  let c8_i32_653 : BitVec 32 := 8#32
  let v932 : BitVec 32 := Scalar.remsi v931 c8_i32_653
  let v933 : BitVec 32 := Scalar.addi c16_i32_654 v932
  let c0_i32_1296 : BitVec 32 := 0#32
  let c0_i32_1297 : BitVec 32 := 0#32
  ![v933.toNat, 0, 0]
def k0_dev54 (d0 : Dev nD) : Nat :=
  let c0_i32_1293 : BitVec 32 := 0#32
  let c16_i32_654 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_652 : BitVec 32 := 6#32
  let v931 : BitVec 32 := Scalar.addi v2 c6_i32_652
  let c8_i32_653 : BitVec 32 := 8#32
  let v932 : BitVec 32 := Scalar.remsi v931 c8_i32_653
  let v933 : BitVec 32 := Scalar.addi c16_i32_654 v932
  let c1_i32_1292 : BitVec 32 := 1#32
  let v1790 : BitVec 32 := Scalar.muli v933 c1_i32_1292
  let v1791 : BitVec 32 := Scalar.addi c0_i32_1293 v1790
  v1791.toNat
def k0_cond46 (d0 : Dev nD) : BitVec 1 :=
  let c16_i32_654 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_652 : BitVec 32 := 6#32
  let v931 : BitVec 32 := Scalar.addi v2 c6_i32_652
  let c8_i32_653 : BitVec 32 := 8#32
  let v932 : BitVec 32 := Scalar.remsi v931 c8_i32_653
  let v933 : BitVec 32 := Scalar.addi c16_i32_654 v932
  let v937 : BitVec 1 := Scalar.cmpi .eq v933 v2
  let v938 : BitVec 32 := Scalar.extui v937
  let c0_i32_656 : BitVec 32 := 0#32
  let v939 : BitVec 1 := Scalar.cmpi .ne v938 c0_i32_656
  v939

def k0_off115 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond47 (d0 : Dev nD) : BitVec 1 :=
  let c16_i32_659 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_657 : BitVec 32 := 7#32
  let v940 : BitVec 32 := Scalar.addi v2 c7_i32_657
  let c8_i32_658 : BitVec 32 := 8#32
  let v941 : BitVec 32 := Scalar.remsi v940 c8_i32_658
  let v942 : BitVec 32 := Scalar.addi c16_i32_659 v941
  let v943 : BitVec 1 := Scalar.cmpi .ne v942 v2
  let v944 : BitVec 32 := Scalar.extui v943
  let c0_i32_660 : BitVec 32 := 0#32
  let v945 : BitVec 1 := Scalar.cmpi .ne v944 c0_i32_660
  v945

def k0_off116 (d0 : Dev nD) : Fin 1 → Nat :=
  let c16_i32_659 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_657 : BitVec 32 := 7#32
  let v940 : BitVec 32 := Scalar.addi v2 c7_i32_657
  let c8_i32_658 : BitVec 32 := 8#32
  let v941 : BitVec 32 := Scalar.remsi v940 c8_i32_658
  let v942 : BitVec 32 := Scalar.addi c16_i32_659 v941
  ![v942.toNat]
def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off119 (d0 : Dev nD) : Fin 3 → Nat :=
  let c16_i32_659 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_657 : BitVec 32 := 7#32
  let v940 : BitVec 32 := Scalar.addi v2 c7_i32_657
  let c8_i32_658 : BitVec 32 := 8#32
  let v941 : BitVec 32 := Scalar.remsi v940 c8_i32_658
  let v942 : BitVec 32 := Scalar.addi c16_i32_659 v941
  let c0_i32_1296 : BitVec 32 := 0#32
  let c0_i32_1297 : BitVec 32 := 0#32
  ![v942.toNat, 0, 0]
def k0_dev55 (d0 : Dev nD) : Nat :=
  let c0_i32_1293 : BitVec 32 := 0#32
  let c16_i32_659 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_657 : BitVec 32 := 7#32
  let v940 : BitVec 32 := Scalar.addi v2 c7_i32_657
  let c8_i32_658 : BitVec 32 := 8#32
  let v941 : BitVec 32 := Scalar.remsi v940 c8_i32_658
  let v942 : BitVec 32 := Scalar.addi c16_i32_659 v941
  let c1_i32_1292 : BitVec 32 := 1#32
  let v1790 : BitVec 32 := Scalar.muli v942 c1_i32_1292
  let v1791 : BitVec 32 := Scalar.addi c0_i32_1293 v1790
  v1791.toNat
def k0_cond48 (d0 : Dev nD) : BitVec 1 :=
  let c16_i32_659 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_657 : BitVec 32 := 7#32
  let v940 : BitVec 32 := Scalar.addi v2 c7_i32_657
  let c8_i32_658 : BitVec 32 := 8#32
  let v941 : BitVec 32 := Scalar.remsi v940 c8_i32_658
  let v942 : BitVec 32 := Scalar.addi c16_i32_659 v941
  let v946 : BitVec 1 := Scalar.cmpi .eq v942 v2
  let v947 : BitVec 32 := Scalar.extui v946
  let c0_i32_661 : BitVec 32 := 0#32
  let v948 : BitVec 1 := Scalar.cmpi .ne v947 c0_i32_661
  v948

def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond49 (d0 : Dev nD) : BitVec 1 :=
  let c24_i32_720 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_718 : BitVec 32 := 0#32
  let v1029 : BitVec 32 := Scalar.addi v2 c0_i32_718
  let c8_i32_719 : BitVec 32 := 8#32
  let v1030 : BitVec 32 := Scalar.remsi v1029 c8_i32_719
  let v1031 : BitVec 32 := Scalar.addi c24_i32_720 v1030
  let v1032 : BitVec 1 := Scalar.cmpi .ne v1031 v2
  let v1033 : BitVec 32 := Scalar.extui v1032
  let c0_i32_721 : BitVec 32 := 0#32
  let v1034 : BitVec 1 := Scalar.cmpi .ne v1033 c0_i32_721
  v1034

def k0_off121 (d0 : Dev nD) : Fin 1 → Nat :=
  let c24_i32_720 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_718 : BitVec 32 := 0#32
  let v1029 : BitVec 32 := Scalar.addi v2 c0_i32_718
  let c8_i32_719 : BitVec 32 := 8#32
  let v1030 : BitVec 32 := Scalar.remsi v1029 c8_i32_719
  let v1031 : BitVec 32 := Scalar.addi c24_i32_720 v1030
  ![v1031.toNat]
def k0_off122 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off123 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off124 (d0 : Dev nD) : Fin 3 → Nat :=
  let c24_i32_720 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_718 : BitVec 32 := 0#32
  let v1029 : BitVec 32 := Scalar.addi v2 c0_i32_718
  let c8_i32_719 : BitVec 32 := 8#32
  let v1030 : BitVec 32 := Scalar.remsi v1029 c8_i32_719
  let v1031 : BitVec 32 := Scalar.addi c24_i32_720 v1030
  let c0_i32_1296 : BitVec 32 := 0#32
  let c0_i32_1297 : BitVec 32 := 0#32
  ![v1031.toNat, 0, 0]
def k0_dev56 (d0 : Dev nD) : Nat :=
  let c0_i32_1293 : BitVec 32 := 0#32
  let c24_i32_720 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_718 : BitVec 32 := 0#32
  let v1029 : BitVec 32 := Scalar.addi v2 c0_i32_718
  let c8_i32_719 : BitVec 32 := 8#32
  let v1030 : BitVec 32 := Scalar.remsi v1029 c8_i32_719
  let v1031 : BitVec 32 := Scalar.addi c24_i32_720 v1030
  let c1_i32_1292 : BitVec 32 := 1#32
  let v1790 : BitVec 32 := Scalar.muli v1031 c1_i32_1292
  let v1791 : BitVec 32 := Scalar.addi c0_i32_1293 v1790
  v1791.toNat
def k0_cond50 (d0 : Dev nD) : BitVec 1 :=
  let c24_i32_720 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_718 : BitVec 32 := 0#32
  let v1029 : BitVec 32 := Scalar.addi v2 c0_i32_718
  let c8_i32_719 : BitVec 32 := 8#32
  let v1030 : BitVec 32 := Scalar.remsi v1029 c8_i32_719
  let v1031 : BitVec 32 := Scalar.addi c24_i32_720 v1030
  let v1035 : BitVec 1 := Scalar.cmpi .eq v1031 v2
  let v1036 : BitVec 32 := Scalar.extui v1035
  let c0_i32_722 : BitVec 32 := 0#32
  let v1037 : BitVec 1 := Scalar.cmpi .ne v1036 c0_i32_722
  v1037

def k0_off125 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond51 (d0 : Dev nD) : BitVec 1 :=
  let c24_i32_725 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_723 : BitVec 32 := 1#32
  let v1038 : BitVec 32 := Scalar.addi v2 c1_i32_723
  let c8_i32_724 : BitVec 32 := 8#32
  let v1039 : BitVec 32 := Scalar.remsi v1038 c8_i32_724
  let v1040 : BitVec 32 := Scalar.addi c24_i32_725 v1039
  let v1041 : BitVec 1 := Scalar.cmpi .ne v1040 v2
  let v1042 : BitVec 32 := Scalar.extui v1041
  let c0_i32_726 : BitVec 32 := 0#32
  let v1043 : BitVec 1 := Scalar.cmpi .ne v1042 c0_i32_726
  v1043

def k0_off126 (d0 : Dev nD) : Fin 1 → Nat :=
  let c24_i32_725 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_723 : BitVec 32 := 1#32
  let v1038 : BitVec 32 := Scalar.addi v2 c1_i32_723
  let c8_i32_724 : BitVec 32 := 8#32
  let v1039 : BitVec 32 := Scalar.remsi v1038 c8_i32_724
  let v1040 : BitVec 32 := Scalar.addi c24_i32_725 v1039
  ![v1040.toNat]
def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off129 (d0 : Dev nD) : Fin 3 → Nat :=
  let c24_i32_725 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_723 : BitVec 32 := 1#32
  let v1038 : BitVec 32 := Scalar.addi v2 c1_i32_723
  let c8_i32_724 : BitVec 32 := 8#32
  let v1039 : BitVec 32 := Scalar.remsi v1038 c8_i32_724
  let v1040 : BitVec 32 := Scalar.addi c24_i32_725 v1039
  let c0_i32_1296 : BitVec 32 := 0#32
  let c0_i32_1297 : BitVec 32 := 0#32
  ![v1040.toNat, 0, 0]
def k0_dev57 (d0 : Dev nD) : Nat :=
  let c0_i32_1293 : BitVec 32 := 0#32
  let c24_i32_725 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_723 : BitVec 32 := 1#32
  let v1038 : BitVec 32 := Scalar.addi v2 c1_i32_723
  let c8_i32_724 : BitVec 32 := 8#32
  let v1039 : BitVec 32 := Scalar.remsi v1038 c8_i32_724
  let v1040 : BitVec 32 := Scalar.addi c24_i32_725 v1039
  let c1_i32_1292 : BitVec 32 := 1#32
  let v1790 : BitVec 32 := Scalar.muli v1040 c1_i32_1292
  let v1791 : BitVec 32 := Scalar.addi c0_i32_1293 v1790
  v1791.toNat
def k0_cond52 (d0 : Dev nD) : BitVec 1 :=
  let c24_i32_725 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_723 : BitVec 32 := 1#32
  let v1038 : BitVec 32 := Scalar.addi v2 c1_i32_723
  let c8_i32_724 : BitVec 32 := 8#32
  let v1039 : BitVec 32 := Scalar.remsi v1038 c8_i32_724
  let v1040 : BitVec 32 := Scalar.addi c24_i32_725 v1039
  let v1044 : BitVec 1 := Scalar.cmpi .eq v1040 v2
  let v1045 : BitVec 32 := Scalar.extui v1044
  let c0_i32_727 : BitVec 32 := 0#32
  let v1046 : BitVec 1 := Scalar.cmpi .ne v1045 c0_i32_727
  v1046

def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond53 (d0 : Dev nD) : BitVec 1 :=
  let c24_i32_730 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_728 : BitVec 32 := 2#32
  let v1047 : BitVec 32 := Scalar.addi v2 c2_i32_728
  let c8_i32_729 : BitVec 32 := 8#32
  let v1048 : BitVec 32 := Scalar.remsi v1047 c8_i32_729
  let v1049 : BitVec 32 := Scalar.addi c24_i32_730 v1048
  let v1050 : BitVec 1 := Scalar.cmpi .ne v1049 v2
  let v1051 : BitVec 32 := Scalar.extui v1050
  let c0_i32_731 : BitVec 32 := 0#32
  let v1052 : BitVec 1 := Scalar.cmpi .ne v1051 c0_i32_731
  v1052

def k0_off131 (d0 : Dev nD) : Fin 1 → Nat :=
  let c24_i32_730 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_728 : BitVec 32 := 2#32
  let v1047 : BitVec 32 := Scalar.addi v2 c2_i32_728
  let c8_i32_729 : BitVec 32 := 8#32
  let v1048 : BitVec 32 := Scalar.remsi v1047 c8_i32_729
  let v1049 : BitVec 32 := Scalar.addi c24_i32_730 v1048
  ![v1049.toNat]
def k0_off132 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off133 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off134 (d0 : Dev nD) : Fin 3 → Nat :=
  let c24_i32_730 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_728 : BitVec 32 := 2#32
  let v1047 : BitVec 32 := Scalar.addi v2 c2_i32_728
  let c8_i32_729 : BitVec 32 := 8#32
  let v1048 : BitVec 32 := Scalar.remsi v1047 c8_i32_729
  let v1049 : BitVec 32 := Scalar.addi c24_i32_730 v1048
  let c0_i32_1296 : BitVec 32 := 0#32
  let c0_i32_1297 : BitVec 32 := 0#32
  ![v1049.toNat, 0, 0]
def k0_dev58 (d0 : Dev nD) : Nat :=
  let c0_i32_1293 : BitVec 32 := 0#32
  let c24_i32_730 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_728 : BitVec 32 := 2#32
  let v1047 : BitVec 32 := Scalar.addi v2 c2_i32_728
  let c8_i32_729 : BitVec 32 := 8#32
  let v1048 : BitVec 32 := Scalar.remsi v1047 c8_i32_729
  let v1049 : BitVec 32 := Scalar.addi c24_i32_730 v1048
  let c1_i32_1292 : BitVec 32 := 1#32
  let v1790 : BitVec 32 := Scalar.muli v1049 c1_i32_1292
  let v1791 : BitVec 32 := Scalar.addi c0_i32_1293 v1790
  v1791.toNat
def k0_cond54 (d0 : Dev nD) : BitVec 1 :=
  let c24_i32_730 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_728 : BitVec 32 := 2#32
  let v1047 : BitVec 32 := Scalar.addi v2 c2_i32_728
  let c8_i32_729 : BitVec 32 := 8#32
  let v1048 : BitVec 32 := Scalar.remsi v1047 c8_i32_729
  let v1049 : BitVec 32 := Scalar.addi c24_i32_730 v1048
  let v1053 : BitVec 1 := Scalar.cmpi .eq v1049 v2
  let v1054 : BitVec 32 := Scalar.extui v1053
  let c0_i32_732 : BitVec 32 := 0#32
  let v1055 : BitVec 1 := Scalar.cmpi .ne v1054 c0_i32_732
  v1055

def k0_off135 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond55 (d0 : Dev nD) : BitVec 1 :=
  let c24_i32_735 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_733 : BitVec 32 := 3#32
  let v1056 : BitVec 32 := Scalar.addi v2 c3_i32_733
  let c8_i32_734 : BitVec 32 := 8#32
  let v1057 : BitVec 32 := Scalar.remsi v1056 c8_i32_734
  let v1058 : BitVec 32 := Scalar.addi c24_i32_735 v1057
  let v1059 : BitVec 1 := Scalar.cmpi .ne v1058 v2
  let v1060 : BitVec 32 := Scalar.extui v1059
  let c0_i32_736 : BitVec 32 := 0#32
  let v1061 : BitVec 1 := Scalar.cmpi .ne v1060 c0_i32_736
  v1061

def k0_off136 (d0 : Dev nD) : Fin 1 → Nat :=
  let c24_i32_735 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_733 : BitVec 32 := 3#32
  let v1056 : BitVec 32 := Scalar.addi v2 c3_i32_733
  let c8_i32_734 : BitVec 32 := 8#32
  let v1057 : BitVec 32 := Scalar.remsi v1056 c8_i32_734
  let v1058 : BitVec 32 := Scalar.addi c24_i32_735 v1057
  ![v1058.toNat]
def k0_off137 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off139 (d0 : Dev nD) : Fin 3 → Nat :=
  let c24_i32_735 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_733 : BitVec 32 := 3#32
  let v1056 : BitVec 32 := Scalar.addi v2 c3_i32_733
  let c8_i32_734 : BitVec 32 := 8#32
  let v1057 : BitVec 32 := Scalar.remsi v1056 c8_i32_734
  let v1058 : BitVec 32 := Scalar.addi c24_i32_735 v1057
  let c0_i32_1296 : BitVec 32 := 0#32
  let c0_i32_1297 : BitVec 32 := 0#32
  ![v1058.toNat, 0, 0]
def k0_dev59 (d0 : Dev nD) : Nat :=
  let c0_i32_1293 : BitVec 32 := 0#32
  let c24_i32_735 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_733 : BitVec 32 := 3#32
  let v1056 : BitVec 32 := Scalar.addi v2 c3_i32_733
  let c8_i32_734 : BitVec 32 := 8#32
  let v1057 : BitVec 32 := Scalar.remsi v1056 c8_i32_734
  let v1058 : BitVec 32 := Scalar.addi c24_i32_735 v1057
  let c1_i32_1292 : BitVec 32 := 1#32
  let v1790 : BitVec 32 := Scalar.muli v1058 c1_i32_1292
  let v1791 : BitVec 32 := Scalar.addi c0_i32_1293 v1790
  v1791.toNat
def k0_cond56 (d0 : Dev nD) : BitVec 1 :=
  let c24_i32_735 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_733 : BitVec 32 := 3#32
  let v1056 : BitVec 32 := Scalar.addi v2 c3_i32_733
  let c8_i32_734 : BitVec 32 := 8#32
  let v1057 : BitVec 32 := Scalar.remsi v1056 c8_i32_734
  let v1058 : BitVec 32 := Scalar.addi c24_i32_735 v1057
  let v1062 : BitVec 1 := Scalar.cmpi .eq v1058 v2
  let v1063 : BitVec 32 := Scalar.extui v1062
  let c0_i32_737 : BitVec 32 := 0#32
  let v1064 : BitVec 1 := Scalar.cmpi .ne v1063 c0_i32_737
  v1064

def k0_off140 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond57 (d0 : Dev nD) : BitVec 1 :=
  let c24_i32_740 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_738 : BitVec 32 := 4#32
  let v1065 : BitVec 32 := Scalar.addi v2 c4_i32_738
  let c8_i32_739 : BitVec 32 := 8#32
  let v1066 : BitVec 32 := Scalar.remsi v1065 c8_i32_739
  let v1067 : BitVec 32 := Scalar.addi c24_i32_740 v1066
  let v1068 : BitVec 1 := Scalar.cmpi .ne v1067 v2
  let v1069 : BitVec 32 := Scalar.extui v1068
  let c0_i32_741 : BitVec 32 := 0#32
  let v1070 : BitVec 1 := Scalar.cmpi .ne v1069 c0_i32_741
  v1070

def k0_off141 (d0 : Dev nD) : Fin 1 → Nat :=
  let c24_i32_740 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_738 : BitVec 32 := 4#32
  let v1065 : BitVec 32 := Scalar.addi v2 c4_i32_738
  let c8_i32_739 : BitVec 32 := 8#32
  let v1066 : BitVec 32 := Scalar.remsi v1065 c8_i32_739
  let v1067 : BitVec 32 := Scalar.addi c24_i32_740 v1066
  ![v1067.toNat]
def k0_off142 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off143 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off144 (d0 : Dev nD) : Fin 3 → Nat :=
  let c24_i32_740 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_738 : BitVec 32 := 4#32
  let v1065 : BitVec 32 := Scalar.addi v2 c4_i32_738
  let c8_i32_739 : BitVec 32 := 8#32
  let v1066 : BitVec 32 := Scalar.remsi v1065 c8_i32_739
  let v1067 : BitVec 32 := Scalar.addi c24_i32_740 v1066
  let c0_i32_1296 : BitVec 32 := 0#32
  let c0_i32_1297 : BitVec 32 := 0#32
  ![v1067.toNat, 0, 0]
def k0_dev60 (d0 : Dev nD) : Nat :=
  let c0_i32_1293 : BitVec 32 := 0#32
  let c24_i32_740 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_738 : BitVec 32 := 4#32
  let v1065 : BitVec 32 := Scalar.addi v2 c4_i32_738
  let c8_i32_739 : BitVec 32 := 8#32
  let v1066 : BitVec 32 := Scalar.remsi v1065 c8_i32_739
  let v1067 : BitVec 32 := Scalar.addi c24_i32_740 v1066
  let c1_i32_1292 : BitVec 32 := 1#32
  let v1790 : BitVec 32 := Scalar.muli v1067 c1_i32_1292
  let v1791 : BitVec 32 := Scalar.addi c0_i32_1293 v1790
  v1791.toNat
def k0_cond58 (d0 : Dev nD) : BitVec 1 :=
  let c24_i32_740 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_738 : BitVec 32 := 4#32
  let v1065 : BitVec 32 := Scalar.addi v2 c4_i32_738
  let c8_i32_739 : BitVec 32 := 8#32
  let v1066 : BitVec 32 := Scalar.remsi v1065 c8_i32_739
  let v1067 : BitVec 32 := Scalar.addi c24_i32_740 v1066
  let v1071 : BitVec 1 := Scalar.cmpi .eq v1067 v2
  let v1072 : BitVec 32 := Scalar.extui v1071
  let c0_i32_742 : BitVec 32 := 0#32
  let v1073 : BitVec 1 := Scalar.cmpi .ne v1072 c0_i32_742
  v1073

def k0_off145 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond59 (d0 : Dev nD) : BitVec 1 :=
  let c24_i32_745 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_743 : BitVec 32 := 5#32
  let v1074 : BitVec 32 := Scalar.addi v2 c5_i32_743
  let c8_i32_744 : BitVec 32 := 8#32
  let v1075 : BitVec 32 := Scalar.remsi v1074 c8_i32_744
  let v1076 : BitVec 32 := Scalar.addi c24_i32_745 v1075
  let v1077 : BitVec 1 := Scalar.cmpi .ne v1076 v2
  let v1078 : BitVec 32 := Scalar.extui v1077
  let c0_i32_746 : BitVec 32 := 0#32
  let v1079 : BitVec 1 := Scalar.cmpi .ne v1078 c0_i32_746
  v1079

def k0_off146 (d0 : Dev nD) : Fin 1 → Nat :=
  let c24_i32_745 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_743 : BitVec 32 := 5#32
  let v1074 : BitVec 32 := Scalar.addi v2 c5_i32_743
  let c8_i32_744 : BitVec 32 := 8#32
  let v1075 : BitVec 32 := Scalar.remsi v1074 c8_i32_744
  let v1076 : BitVec 32 := Scalar.addi c24_i32_745 v1075
  ![v1076.toNat]
def k0_off147 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off148 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off149 (d0 : Dev nD) : Fin 3 → Nat :=
  let c24_i32_745 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_743 : BitVec 32 := 5#32
  let v1074 : BitVec 32 := Scalar.addi v2 c5_i32_743
  let c8_i32_744 : BitVec 32 := 8#32
  let v1075 : BitVec 32 := Scalar.remsi v1074 c8_i32_744
  let v1076 : BitVec 32 := Scalar.addi c24_i32_745 v1075
  let c0_i32_1296 : BitVec 32 := 0#32
  let c0_i32_1297 : BitVec 32 := 0#32
  ![v1076.toNat, 0, 0]
def k0_dev61 (d0 : Dev nD) : Nat :=
  let c0_i32_1293 : BitVec 32 := 0#32
  let c24_i32_745 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_743 : BitVec 32 := 5#32
  let v1074 : BitVec 32 := Scalar.addi v2 c5_i32_743
  let c8_i32_744 : BitVec 32 := 8#32
  let v1075 : BitVec 32 := Scalar.remsi v1074 c8_i32_744
  let v1076 : BitVec 32 := Scalar.addi c24_i32_745 v1075
  let c1_i32_1292 : BitVec 32 := 1#32
  let v1790 : BitVec 32 := Scalar.muli v1076 c1_i32_1292
  let v1791 : BitVec 32 := Scalar.addi c0_i32_1293 v1790
  v1791.toNat
def k0_cond60 (d0 : Dev nD) : BitVec 1 :=
  let c24_i32_745 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_743 : BitVec 32 := 5#32
  let v1074 : BitVec 32 := Scalar.addi v2 c5_i32_743
  let c8_i32_744 : BitVec 32 := 8#32
  let v1075 : BitVec 32 := Scalar.remsi v1074 c8_i32_744
  let v1076 : BitVec 32 := Scalar.addi c24_i32_745 v1075
  let v1080 : BitVec 1 := Scalar.cmpi .eq v1076 v2
  let v1081 : BitVec 32 := Scalar.extui v1080
  let c0_i32_747 : BitVec 32 := 0#32
  let v1082 : BitVec 1 := Scalar.cmpi .ne v1081 c0_i32_747
  v1082

def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond61 (d0 : Dev nD) : BitVec 1 :=
  let c24_i32_750 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_748 : BitVec 32 := 6#32
  let v1083 : BitVec 32 := Scalar.addi v2 c6_i32_748
  let c8_i32_749 : BitVec 32 := 8#32
  let v1084 : BitVec 32 := Scalar.remsi v1083 c8_i32_749
  let v1085 : BitVec 32 := Scalar.addi c24_i32_750 v1084
  let v1086 : BitVec 1 := Scalar.cmpi .ne v1085 v2
  let v1087 : BitVec 32 := Scalar.extui v1086
  let c0_i32_751 : BitVec 32 := 0#32
  let v1088 : BitVec 1 := Scalar.cmpi .ne v1087 c0_i32_751
  v1088

def k0_off151 (d0 : Dev nD) : Fin 1 → Nat :=
  let c24_i32_750 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_748 : BitVec 32 := 6#32
  let v1083 : BitVec 32 := Scalar.addi v2 c6_i32_748
  let c8_i32_749 : BitVec 32 := 8#32
  let v1084 : BitVec 32 := Scalar.remsi v1083 c8_i32_749
  let v1085 : BitVec 32 := Scalar.addi c24_i32_750 v1084
  ![v1085.toNat]
def k0_off152 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off153 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off154 (d0 : Dev nD) : Fin 3 → Nat :=
  let c24_i32_750 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_748 : BitVec 32 := 6#32
  let v1083 : BitVec 32 := Scalar.addi v2 c6_i32_748
  let c8_i32_749 : BitVec 32 := 8#32
  let v1084 : BitVec 32 := Scalar.remsi v1083 c8_i32_749
  let v1085 : BitVec 32 := Scalar.addi c24_i32_750 v1084
  let c0_i32_1296 : BitVec 32 := 0#32
  let c0_i32_1297 : BitVec 32 := 0#32
  ![v1085.toNat, 0, 0]
def k0_dev62 (d0 : Dev nD) : Nat :=
  let c0_i32_1293 : BitVec 32 := 0#32
  let c24_i32_750 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_748 : BitVec 32 := 6#32
  let v1083 : BitVec 32 := Scalar.addi v2 c6_i32_748
  let c8_i32_749 : BitVec 32 := 8#32
  let v1084 : BitVec 32 := Scalar.remsi v1083 c8_i32_749
  let v1085 : BitVec 32 := Scalar.addi c24_i32_750 v1084
  let c1_i32_1292 : BitVec 32 := 1#32
  let v1790 : BitVec 32 := Scalar.muli v1085 c1_i32_1292
  let v1791 : BitVec 32 := Scalar.addi c0_i32_1293 v1790
  v1791.toNat
def k0_cond62 (d0 : Dev nD) : BitVec 1 :=
  let c24_i32_750 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_748 : BitVec 32 := 6#32
  let v1083 : BitVec 32 := Scalar.addi v2 c6_i32_748
  let c8_i32_749 : BitVec 32 := 8#32
  let v1084 : BitVec 32 := Scalar.remsi v1083 c8_i32_749
  let v1085 : BitVec 32 := Scalar.addi c24_i32_750 v1084
  let v1089 : BitVec 1 := Scalar.cmpi .eq v1085 v2
  let v1090 : BitVec 32 := Scalar.extui v1089
  let c0_i32_752 : BitVec 32 := 0#32
  let v1091 : BitVec 1 := Scalar.cmpi .ne v1090 c0_i32_752
  v1091

def k0_off155 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_cond63 (d0 : Dev nD) : BitVec 1 :=
  let c24_i32_755 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_753 : BitVec 32 := 7#32
  let v1092 : BitVec 32 := Scalar.addi v2 c7_i32_753
  let c8_i32_754 : BitVec 32 := 8#32
  let v1093 : BitVec 32 := Scalar.remsi v1092 c8_i32_754
  let v1094 : BitVec 32 := Scalar.addi c24_i32_755 v1093
  let v1095 : BitVec 1 := Scalar.cmpi .ne v1094 v2
  let v1096 : BitVec 32 := Scalar.extui v1095
  let c0_i32_756 : BitVec 32 := 0#32
  let v1097 : BitVec 1 := Scalar.cmpi .ne v1096 c0_i32_756
  v1097

def k0_off156 (d0 : Dev nD) : Fin 1 → Nat :=
  let c24_i32_755 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_753 : BitVec 32 := 7#32
  let v1092 : BitVec 32 := Scalar.addi v2 c7_i32_753
  let c8_i32_754 : BitVec 32 := 8#32
  let v1093 : BitVec 32 := Scalar.remsi v1092 c8_i32_754
  let v1094 : BitVec 32 := Scalar.addi c24_i32_755 v1093
  ![v1094.toNat]
def k0_off157 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off158 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1294 : BitVec 32 := 0#32
  let c0_i32_1295 : BitVec 32 := 0#32
  ![v2.toNat, 0, 0]
def k0_off159 (d0 : Dev nD) : Fin 3 → Nat :=
  let c24_i32_755 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_753 : BitVec 32 := 7#32
  let v1092 : BitVec 32 := Scalar.addi v2 c7_i32_753
  let c8_i32_754 : BitVec 32 := 8#32
  let v1093 : BitVec 32 := Scalar.remsi v1092 c8_i32_754
  let v1094 : BitVec 32 := Scalar.addi c24_i32_755 v1093
  let c0_i32_1296 : BitVec 32 := 0#32
  let c0_i32_1297 : BitVec 32 := 0#32
  ![v1094.toNat, 0, 0]
def k0_dev63 (d0 : Dev nD) : Nat :=
  let c0_i32_1293 : BitVec 32 := 0#32
  let c24_i32_755 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_753 : BitVec 32 := 7#32
  let v1092 : BitVec 32 := Scalar.addi v2 c7_i32_753
  let c8_i32_754 : BitVec 32 := 8#32
  let v1093 : BitVec 32 := Scalar.remsi v1092 c8_i32_754
  let v1094 : BitVec 32 := Scalar.addi c24_i32_755 v1093
  let c1_i32_1292 : BitVec 32 := 1#32
  let v1790 : BitVec 32 := Scalar.muli v1094 c1_i32_1292
  let v1791 : BitVec 32 := Scalar.addi c0_i32_1293 v1790
  v1791.toNat
def k0_cond64 (d0 : Dev nD) : BitVec 1 :=
  let c24_i32_755 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_753 : BitVec 32 := 7#32
  let v1092 : BitVec 32 := Scalar.addi v2 c7_i32_753
  let c8_i32_754 : BitVec 32 := 8#32
  let v1093 : BitVec 32 := Scalar.remsi v1092 c8_i32_754
  let v1094 : BitVec 32 := Scalar.addi c24_i32_755 v1093
  let v1098 : BitVec 1 := Scalar.cmpi .eq v1094 v2
  let v1099 : BitVec 32 := Scalar.extui v1098
  let c0_i32_757 : BitVec 32 := 0#32
  let v1100 : BitVec 1 := Scalar.cmpi .ne v1099 c0_i32_757
  v1100

def k0_off160 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1292 : BitVec 32 := 0#32
  let c0_i32_1293 : BitVec 32 := 0#32
  ![v2.toNat, 0, 0]
def k0_off161 (d0 : Dev nD) (c1_i32_758 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1101 : BitVec 32 := Scalar.subi v2 c1_i32_758
  let c32_i32_759 : BitVec 32 := 32#32
  let c0_i32_760 : BitVec 32 := 0#32
  let v1102 : BitVec 1 := Scalar.cmpi .eq c32_i32_759 c0_i32_760
  let c1_i32_761 : BitVec 32 := 1#32
  let v1103 : BitVec 32 := Scalar.select v1102 c1_i32_761 c32_i32_759
  let v1104 : BitVec 32 := Scalar.remsi v1101 v1103
  let c0_i32_763 : BitVec 32 := 0#32
  let v1106 : BitVec 1 := Scalar.cmpi .slt v1104 c0_i32_763
  let c0_i32_764 : BitVec 32 := 0#32
  let v1107 : BitVec 1 := Scalar.cmpi .slt v1103 c0_i32_764
  let v1108 : BitVec 1 := Scalar.xori v1106 v1107
  let c0_i32_762 : BitVec 32 := 0#32
  let v1105 : BitVec 1 := Scalar.cmpi .ne v1104 c0_i32_762
  let v1109 : BitVec 1 := Scalar.andi v1108 v1105
  let v1110 : BitVec 32 := Scalar.addi v1104 v1103
  let v1111 : BitVec 32 := Scalar.select v1109 v1110 v1104
  ![v1111.toNat]
def k0_off162 (d0 : Dev nD) (c1_i32_758 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1101 : BitVec 32 := Scalar.subi v2 c1_i32_758
  let c32_i32_759 : BitVec 32 := 32#32
  let c0_i32_760 : BitVec 32 := 0#32
  let v1102 : BitVec 1 := Scalar.cmpi .eq c32_i32_759 c0_i32_760
  let c1_i32_761 : BitVec 32 := 1#32
  let v1103 : BitVec 32 := Scalar.select v1102 c1_i32_761 c32_i32_759
  let v1104 : BitVec 32 := Scalar.remsi v1101 v1103
  let c0_i32_763 : BitVec 32 := 0#32
  let v1106 : BitVec 1 := Scalar.cmpi .slt v1104 c0_i32_763
  let c0_i32_764 : BitVec 32 := 0#32
  let v1107 : BitVec 1 := Scalar.cmpi .slt v1103 c0_i32_764
  let v1108 : BitVec 1 := Scalar.xori v1106 v1107
  let c0_i32_762 : BitVec 32 := 0#32
  let v1105 : BitVec 1 := Scalar.cmpi .ne v1104 c0_i32_762
  let v1109 : BitVec 1 := Scalar.andi v1108 v1105
  let v1110 : BitVec 32 := Scalar.addi v1104 v1103
  let v1111 : BitVec 32 := Scalar.select v1109 v1110 v1104
  let c0_i32_769 : BitVec 32 := 0#32
  let c0_i32_770 : BitVec 32 := 0#32
  ![v1111.toNat, 0, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1223 : BitVec 32 := 0#32
  let v1690 : BitVec 1 := Scalar.cmpi .ne v2 c0_i32_1223
  let v1691 : BitVec 32 := Scalar.extui v1690
  let c0_i32_1224 : BitVec 32 := 0#32
  let v1692 : BitVec 1 := Scalar.cmpi .ne v1691 c0_i32_1224
  v1692

def k0_off163 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1225 : BitVec 32 := 1#32
  let v1693 : BitVec 1 := Scalar.cmpi .ne v2 c1_i32_1225
  let v1694 : BitVec 32 := Scalar.extui v1693
  let c0_i32_1226 : BitVec 32 := 0#32
  let v1695 : BitVec 1 := Scalar.cmpi .ne v1694 c0_i32_1226
  v1695

def k0_off164 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1227 : BitVec 32 := 2#32
  let v1696 : BitVec 1 := Scalar.cmpi .ne v2 c2_i32_1227
  let v1697 : BitVec 32 := Scalar.extui v1696
  let c0_i32_1228 : BitVec 32 := 0#32
  let v1698 : BitVec 1 := Scalar.cmpi .ne v1697 c0_i32_1228
  v1698

def k0_off165 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1229 : BitVec 32 := 3#32
  let v1699 : BitVec 1 := Scalar.cmpi .ne v2 c3_i32_1229
  let v1700 : BitVec 32 := Scalar.extui v1699
  let c0_i32_1230 : BitVec 32 := 0#32
  let v1701 : BitVec 1 := Scalar.cmpi .ne v1700 c0_i32_1230
  v1701

def k0_off166 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1231 : BitVec 32 := 4#32
  let v1702 : BitVec 1 := Scalar.cmpi .ne v2 c4_i32_1231
  let v1703 : BitVec 32 := Scalar.extui v1702
  let c0_i32_1232 : BitVec 32 := 0#32
  let v1704 : BitVec 1 := Scalar.cmpi .ne v1703 c0_i32_1232
  v1704

def k0_off167 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1233 : BitVec 32 := 5#32
  let v1705 : BitVec 1 := Scalar.cmpi .ne v2 c5_i32_1233
  let v1706 : BitVec 32 := Scalar.extui v1705
  let c0_i32_1234 : BitVec 32 := 0#32
  let v1707 : BitVec 1 := Scalar.cmpi .ne v1706 c0_i32_1234
  v1707

def k0_off168 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1235 : BitVec 32 := 6#32
  let v1708 : BitVec 1 := Scalar.cmpi .ne v2 c6_i32_1235
  let v1709 : BitVec 32 := Scalar.extui v1708
  let c0_i32_1236 : BitVec 32 := 0#32
  let v1710 : BitVec 1 := Scalar.cmpi .ne v1709 c0_i32_1236
  v1710

def k0_off169 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1237 : BitVec 32 := 7#32
  let v1711 : BitVec 1 := Scalar.cmpi .ne v2 c7_i32_1237
  let v1712 : BitVec 32 := Scalar.extui v1711
  let c0_i32_1238 : BitVec 32 := 0#32
  let v1713 : BitVec 1 := Scalar.cmpi .ne v1712 c0_i32_1238
  v1713

def k0_off170 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1239 : BitVec 32 := 8#32
  let v1714 : BitVec 1 := Scalar.cmpi .ne v2 c8_i32_1239
  let v1715 : BitVec 32 := Scalar.extui v1714
  let c0_i32_1240 : BitVec 32 := 0#32
  let v1716 : BitVec 1 := Scalar.cmpi .ne v1715 c0_i32_1240
  v1716

def k0_off171 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1241 : BitVec 32 := 9#32
  let v1717 : BitVec 1 := Scalar.cmpi .ne v2 c9_i32_1241
  let v1718 : BitVec 32 := Scalar.extui v1717
  let c0_i32_1242 : BitVec 32 := 0#32
  let v1719 : BitVec 1 := Scalar.cmpi .ne v1718 c0_i32_1242
  v1719

def k0_off172 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1243 : BitVec 32 := 10#32
  let v1720 : BitVec 1 := Scalar.cmpi .ne v2 c10_i32_1243
  let v1721 : BitVec 32 := Scalar.extui v1720
  let c0_i32_1244 : BitVec 32 := 0#32
  let v1722 : BitVec 1 := Scalar.cmpi .ne v1721 c0_i32_1244
  v1722

def k0_off173 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1245 : BitVec 32 := 11#32
  let v1723 : BitVec 1 := Scalar.cmpi .ne v2 c11_i32_1245
  let v1724 : BitVec 32 := Scalar.extui v1723
  let c0_i32_1246 : BitVec 32 := 0#32
  let v1725 : BitVec 1 := Scalar.cmpi .ne v1724 c0_i32_1246
  v1725

def k0_off174 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1247 : BitVec 32 := 12#32
  let v1726 : BitVec 1 := Scalar.cmpi .ne v2 c12_i32_1247
  let v1727 : BitVec 32 := Scalar.extui v1726
  let c0_i32_1248 : BitVec 32 := 0#32
  let v1728 : BitVec 1 := Scalar.cmpi .ne v1727 c0_i32_1248
  v1728

def k0_off175 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1249 : BitVec 32 := 13#32
  let v1729 : BitVec 1 := Scalar.cmpi .ne v2 c13_i32_1249
  let v1730 : BitVec 32 := Scalar.extui v1729
  let c0_i32_1250 : BitVec 32 := 0#32
  let v1731 : BitVec 1 := Scalar.cmpi .ne v1730 c0_i32_1250
  v1731

def k0_off176 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1251 : BitVec 32 := 14#32
  let v1732 : BitVec 1 := Scalar.cmpi .ne v2 c14_i32_1251
  let v1733 : BitVec 32 := Scalar.extui v1732
  let c0_i32_1252 : BitVec 32 := 0#32
  let v1734 : BitVec 1 := Scalar.cmpi .ne v1733 c0_i32_1252
  v1734

def k0_off177 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1253 : BitVec 32 := 15#32
  let v1735 : BitVec 1 := Scalar.cmpi .ne v2 c15_i32_1253
  let v1736 : BitVec 32 := Scalar.extui v1735
  let c0_i32_1254 : BitVec 32 := 0#32
  let v1737 : BitVec 1 := Scalar.cmpi .ne v1736 c0_i32_1254
  v1737

def k0_off178 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1255 : BitVec 32 := 16#32
  let v1738 : BitVec 1 := Scalar.cmpi .ne v2 c16_i32_1255
  let v1739 : BitVec 32 := Scalar.extui v1738
  let c0_i32_1256 : BitVec 32 := 0#32
  let v1740 : BitVec 1 := Scalar.cmpi .ne v1739 c0_i32_1256
  v1740

def k0_off179 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1257 : BitVec 32 := 17#32
  let v1741 : BitVec 1 := Scalar.cmpi .ne v2 c17_i32_1257
  let v1742 : BitVec 32 := Scalar.extui v1741
  let c0_i32_1258 : BitVec 32 := 0#32
  let v1743 : BitVec 1 := Scalar.cmpi .ne v1742 c0_i32_1258
  v1743

def k0_off180 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1259 : BitVec 32 := 18#32
  let v1744 : BitVec 1 := Scalar.cmpi .ne v2 c18_i32_1259
  let v1745 : BitVec 32 := Scalar.extui v1744
  let c0_i32_1260 : BitVec 32 := 0#32
  let v1746 : BitVec 1 := Scalar.cmpi .ne v1745 c0_i32_1260
  v1746

def k0_off181 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1261 : BitVec 32 := 19#32
  let v1747 : BitVec 1 := Scalar.cmpi .ne v2 c19_i32_1261
  let v1748 : BitVec 32 := Scalar.extui v1747
  let c0_i32_1262 : BitVec 32 := 0#32
  let v1749 : BitVec 1 := Scalar.cmpi .ne v1748 c0_i32_1262
  v1749

def k0_off182 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1263 : BitVec 32 := 20#32
  let v1750 : BitVec 1 := Scalar.cmpi .ne v2 c20_i32_1263
  let v1751 : BitVec 32 := Scalar.extui v1750
  let c0_i32_1264 : BitVec 32 := 0#32
  let v1752 : BitVec 1 := Scalar.cmpi .ne v1751 c0_i32_1264
  v1752

def k0_off183 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1265 : BitVec 32 := 21#32
  let v1753 : BitVec 1 := Scalar.cmpi .ne v2 c21_i32_1265
  let v1754 : BitVec 32 := Scalar.extui v1753
  let c0_i32_1266 : BitVec 32 := 0#32
  let v1755 : BitVec 1 := Scalar.cmpi .ne v1754 c0_i32_1266
  v1755

def k0_off184 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1267 : BitVec 32 := 22#32
  let v1756 : BitVec 1 := Scalar.cmpi .ne v2 c22_i32_1267
  let v1757 : BitVec 32 := Scalar.extui v1756
  let c0_i32_1268 : BitVec 32 := 0#32
  let v1758 : BitVec 1 := Scalar.cmpi .ne v1757 c0_i32_1268
  v1758

def k0_off185 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1269 : BitVec 32 := 23#32
  let v1759 : BitVec 1 := Scalar.cmpi .ne v2 c23_i32_1269
  let v1760 : BitVec 32 := Scalar.extui v1759
  let c0_i32_1270 : BitVec 32 := 0#32
  let v1761 : BitVec 1 := Scalar.cmpi .ne v1760 c0_i32_1270
  v1761

def k0_off186 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1271 : BitVec 32 := 24#32
  let v1762 : BitVec 1 := Scalar.cmpi .ne v2 c24_i32_1271
  let v1763 : BitVec 32 := Scalar.extui v1762
  let c0_i32_1272 : BitVec 32 := 0#32
  let v1764 : BitVec 1 := Scalar.cmpi .ne v1763 c0_i32_1272
  v1764

def k0_off187 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1273 : BitVec 32 := 25#32
  let v1765 : BitVec 1 := Scalar.cmpi .ne v2 c25_i32_1273
  let v1766 : BitVec 32 := Scalar.extui v1765
  let c0_i32_1274 : BitVec 32 := 0#32
  let v1767 : BitVec 1 := Scalar.cmpi .ne v1766 c0_i32_1274
  v1767

def k0_off188 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1275 : BitVec 32 := 26#32
  let v1768 : BitVec 1 := Scalar.cmpi .ne v2 c26_i32_1275
  let v1769 : BitVec 32 := Scalar.extui v1768
  let c0_i32_1276 : BitVec 32 := 0#32
  let v1770 : BitVec 1 := Scalar.cmpi .ne v1769 c0_i32_1276
  v1770

def k0_off189 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1277 : BitVec 32 := 27#32
  let v1771 : BitVec 1 := Scalar.cmpi .ne v2 c27_i32_1277
  let v1772 : BitVec 32 := Scalar.extui v1771
  let c0_i32_1278 : BitVec 32 := 0#32
  let v1773 : BitVec 1 := Scalar.cmpi .ne v1772 c0_i32_1278
  v1773

def k0_off190 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1279 : BitVec 32 := 28#32
  let v1774 : BitVec 1 := Scalar.cmpi .ne v2 c28_i32_1279
  let v1775 : BitVec 32 := Scalar.extui v1774
  let c0_i32_1280 : BitVec 32 := 0#32
  let v1776 : BitVec 1 := Scalar.cmpi .ne v1775 c0_i32_1280
  v1776

def k0_off191 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1281 : BitVec 32 := 29#32
  let v1777 : BitVec 1 := Scalar.cmpi .ne v2 c29_i32_1281
  let v1778 : BitVec 32 := Scalar.extui v1777
  let c0_i32_1282 : BitVec 32 := 0#32
  let v1779 : BitVec 1 := Scalar.cmpi .ne v1778 c0_i32_1282
  v1779

def k0_off192 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1283 : BitVec 32 := 30#32
  let v1780 : BitVec 1 := Scalar.cmpi .ne v2 c30_i32_1283
  let v1781 : BitVec 32 := Scalar.extui v1780
  let c0_i32_1284 : BitVec 32 := 0#32
  let v1782 : BitVec 1 := Scalar.cmpi .ne v1781 c0_i32_1284
  v1782

def k0_off193 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1285 : BitVec 32 := 31#32
  let v1783 : BitVec 1 := Scalar.cmpi .ne v2 c31_i32_1285
  let v1784 : BitVec 32 := Scalar.extui v1783
  let c0_i32_1286 : BitVec 32 := 0#32
  let v1785 : BitVec 1 := Scalar.cmpi .ne v1784 c0_i32_1286
  v1785

def k0_off194 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1304 : BitVec 32 := 0#32
  let c0_i32_1305 : BitVec 32 := 0#32
  ![v2.toNat, 0, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== ClippedIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.KernelIdealSched.lean ====
/-
# The exchange: its cells, the contents it carries, its schedule

Every device computes four column blocks of its activations, cuts them into 32 slots of 64 columns and sends slot `s` to
device `s`. One round: a barrier cell per device (31 signals, one from every other device, each handing over the landing
slot of the signaller that the waiter will fill), a receive cell per ordered pair (the landing slot comes back filled) and a
send cell per ordered pair (the slot read by the copy comes back).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds of the exchange, a duty named by the device that discharges it. -/
abbrev UX : Type := URounds (GSem nD τ sig) (Dev nD)
/-- The window pipeline's algebra, the exchange's, and the local copies' counters. -/
abbrev UU : Type := UR sig nD τ × (UX × Counters)

local notation "𝕄" => MT nD τ sig Unit (Elt F) ℕ UU ℕ

abbrev EP : Emb (UR sig nD τ) (MT nD τ sig Unit (Elt F) ℕ UU ℕ) := embL
/-- Where the exchange's rounds live. -/
def EX : Emb UX (MT nD τ sig Unit (Elt F) ℕ UU ℕ) :=
  ((Emb.inl : Emb UX (UX × Counters)).trans (Emb.inr : Emb (UX × Counters) UU)).trans
    (uEmb (nD := nD) (τ := τ) (sig := sig) (Ix := Unit) (Val := Elt F) (Name := ℕ) (U := UU) (Lvl := ℕ)).toEmb
instance EX_landsIn : (EX : Emb UX (MT nD τ sig Unit (Elt F) ℕ UU ℕ)).LandsIn (upEmb : UEmb _ (MT nD τ sig Unit (Elt F) ℕ UU ℕ)) := by
  unfold EX; infer_instance
abbrev EC : UEmb Counters (MT nD τ sig Unit (Elt F) ℕ UU ℕ) := countersEmb

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## Numbers and devices -/

/-- The device of a number, read modulo the mesh. -/
def dv (n : ℕ) : Dev nD := ⟨n % 32, Nat.mod_lt _ (by decide)⟩
theorem dv_val (n : ℕ) : (dv n).val = n % 32 := rfl
theorem dv_self (c : Dev nD) : dv c.val = c := Fin.ext (Nat.mod_eq_of_lt c.isLt)

/-- The peer `h` places after `c`. -/
def up (c : Dev nD) (h : ℕ) : Dev nD := dv (c.val + h)
/-- The peer `h` places before `c`. -/
def dn (c : Dev nD) (h : ℕ) : Dev nD := dv (c.val + (32 - h))
/-- The slot, which is also the device, of send number `t`: eight to a column block, rotated to start at `c`. -/
def tgt (c : Dev nD) (t : ℕ) : Dev nD := dv (8 * (t / 8) + (c.val + t % 8) % 8)

/-! ## Memrefs and cells -/

abbrev xM : Memref sig .tc .vmem S128x4096 .f32 := Memref.whole cc0_stg0_0
abbrev wM : Memref sig .tc .hbm S4096x2048 .f32 := Memref.whole main_arg1
abbrev saM : Memref sig .tc .smem S1 .f32 := Memref.whole cc0_stg1_0
abbrev sbM : Memref sig .tc .smem S1 .f32 := Memref.whole cc0_stg2_0
abbrev oM : Memref sig .tc .vmem S4096x64 .f32 := Memref.whole cc0_stg3_0
abbrev bM : Memref sig .tc .vmem S8x1024x512 .f32 := Memref.whole cc0_scratch0
abbrev zM : Memref sig .tc .vmem S32x128x64 .bf16 := Memref.whole cc0_scratch1
abbrev rM : Memref sig .tc .vmem S32x128x64 .bf16 := Memref.whole cc0_scratch2

/-- The barrier's counter. -/
abbrev barS : Sem sig := (SemArray.scalar (sig.barrier 0 rfl) : Sems sig S_).sem
def loadS (i : ℕ) : DmaSem sig := ⟨4 + i % 8, by show 4 + i % 8 < 77; omega⟩
def sendS (s : Dev nD) : DmaSem sig := ⟨12 + s.val, by have h : s.val < 32 := s.isLt; show 12 + s.val < 77; omega⟩
def recvS (e : Dev nD) : DmaSem sig := ⟨44 + e.val, by have h : e.val < 32 := e.isLt; show 44 + e.val < 77; omega⟩
def copyS : DmaSem sig := ⟨76, by decide⟩

abbrev barCell (c : Dev nD) : GSem nD τ sig := ((c : Thread nD τ), .reg barS)
abbrev sendCell (c s : Dev nD) : GSem nD τ sig := ((c : Thread nD τ), .dma (sendS s))
abbrev recvCell (c e : Dev nD) : GSem nD τ sig := ((c : Thread nD τ), .dma (recvS e))

theorem sem_ix {n : ℕ} (a : DmaSems sig ⟨1, ![n]⟩) {o : Fin 1 → ℕ} (h : ∀ b, o b + S1.size b ≤ (⟨1, ![n]⟩ : Shape).size b) (i : ℕ) (hi : i < n) (ho : o = ![i]) :
    ((a.slice (Rect.unit (s := ⟨1, ![n]⟩) o S1.size h)).squeeze S_ squeezes_S1_S_).sem = a.ix (fun b => match b with | ⟨0, _⟩ => (⟨i, hi⟩ : Fin n)) := by
  subst ho
  show a.ix _ = a.ix _
  refine congrArg a.ix (funext fun b => Fin.ext ?_)
  fin_cases b
  rw [Rect.emb_apply]
  show i + 1 * _ = i
  have hlt := (Shape.reshapeEquiv (squeezes_S1_S_).numel_eq (fun i : Fin 0 => i.elim0) (0 : Fin 1)).isLt
  have e : ∀ k : ℕ, k < S1.size 0 → i + 1 * k = i := fun k hk => by have e : S1.size 0 = 1 := rfl; omega
  exact e _ hlt
theorem load_ix : ∀ k : Fin 8, (cc0_scratch3 : DmaSems sig S8).ix (fun b => match b with | ⟨0, _⟩ => k)
    = (⟨4 + k.val, by have := k.isLt; show 4 + k.val < 77; omega⟩ : DmaSem sig) := by
  decide +kernel
theorem load_sem (i : ℕ) {o : Fin 1 → ℕ} (h : ∀ a, o a + S1.size a ≤ S8.size a) (ho : o = ![i % 8]) :
    ((cc0_scratch3.slice (Rect.unit (s := S8) o S1.size h)).squeeze S_ squeezes_S1_S_).sem = loadS i := by
  have hi : i % 8 < 8 := Nat.mod_lt _ (by decide)
  rw [sem_ix cc0_scratch3 h (i % 8) hi ho]
  unfold loadS
  exact load_ix ⟨i % 8, hi⟩
theorem send_sem (s : Dev nD) {o : Fin 1 → ℕ} (h : ∀ a, o a + S1.size a ≤ S32.size a) (ho : o = ![s.val]) :
    ((cc0_scratch4.slice (Rect.unit (s := S32) o S1.size h)).squeeze S_ squeezes_S1_S_).sem = sendS s := by
  rw [sem_ix cc0_scratch4 h s.val s.isLt ho]
  clear ho h
  revert s; decide +kernel
theorem recv_sem (s : Dev nD) {o : Fin 1 → ℕ} (h : ∀ a, o a + S1.size a ≤ S32.size a) (ho : o = ![s.val]) :
    ((cc0_scratch5.slice (Rect.unit (s := S32) o S1.size h)).squeeze S_ squeezes_S1_S_).sem = recvS s := by
  rw [sem_ix cc0_scratch5 h s.val s.isLt ho]
  clear ho h
  revert s; decide +kernel
theorem copy_sem : (cc0_scratch6 : DmaSems sig S_).sem = copyS := rfl

/-! ## Slots -/

theorem slot_inb (s : Dev nD) : ∀ a, (![s.val, 0, 0] : Fin 3 → ℕ) a + S1x128x64.size a ≤ S32x128x64.size a := by
  have h : s.val < 32 := s.isLt
  intro a; fin_cases a
  · show s.val + 1 ≤ 32; omega
  · exact le_refl 128
  · exact le_refl 64

/-- Slot `s` of a 32-slot buffer. -/
abbrev slotR (s : Dev nD) : Rect S32x128x64 := Rect.unit (s := S32x128x64) ![s.val, 0, 0] S1x128x64.size (slot_inb s)
def slotSet (s : Dev nD) : Finset S32x128x64.Idx := (slotR s).set
theorem mem_slotSet {s : Dev nD} {i : S32x128x64.Idx} : i ∈ slotSet s ↔ (i 0).val = s.val := by
  unfold slotSet slotR; rw [Rect.mem_set_unit]
  constructor
  · intro h; have := h 0; simp only [Matrix.cons_val_zero] at this; have h1 : S1x128x64.size 0 = 1 := rfl; omega
  · intro h a; fin_cases a
    · show s.val ≤ (i 0).val ∧ (i 0).val < s.val + 1; omega
    · exact ⟨Nat.zero_le _, by have := (i 1).isLt; show (i 1).val < 0 + 128; have e : S32x128x64.size 1 = 128 := rfl; omega⟩
    · exact ⟨Nat.zero_le _, by have := (i 2).isLt; show (i 2).val < 0 + 64; have e : S32x128x64.size 2 = 64 := rfl; omega⟩
theorem slotSet_disjoint (s s' : Dev nD) (h : s ≠ s') : Disjoint (slotSet s) (slotSet s') :=
  Finset.disjoint_left.mpr fun i hi hi' => h (Fin.ext ((mem_slotSet.mp hi).symm.trans (mem_slotSet.mp hi')))
theorem slotSet_cover : (Finset.univ : Finset (Dev nD)).biUnion slotSet = Finset.univ :=
  Finset.eq_univ_iff_forall.mpr fun i => Finset.mem_biUnion.mpr ⟨⟨(i 0).val, (i 0).isLt⟩, Finset.mem_univ _, mem_slotSet.mpr rfl⟩

/-- A slot of either 32-slot buffer as the program spells it. -/
abbrev slotM (M : Memref sig .tc .vmem S32x128x64 .bf16) (o : Fin 3 → ℕ) (h : ∀ a, o a + S1x128x64.size a ≤ S32x128x64.size a) :
    Memref sig .tc .vmem S128x64 .bf16 :=
  (M.slice (Rect.unit (s := S32x128x64) o S1x128x64.size h) (fun _ => rfl)).squeeze S128x64 squeezes_S1x128x64_S128x64

/-- What a copy of one slot credits. -/
def N : ℕ := (slotM rM ![0, 0, 0] (slot_inb (0 : Dev nD))).view.dmaCredit
theorem N_pos : 0 < N := View.dmaCredit_pos _ (by decide)

/-- Slot `s` of the outgoing buffer of `c`, at `f`. -/
def zPts (c s : Dev nD) (f : Buf (Elt F) ((c : Thread nD τ).loc cc0_scratch1)) : sProp 𝕄 :=
  ((c : Thread nD τ).loc cc0_scratch1) ↦[slotSet s]{fullShare} f
/-- Slot `e` of the landing buffer of `c`, at `f`. -/
def rPts (c e : Dev nD) (f : Buf (Elt F) ((c : Thread nD τ).loc cc0_scratch2)) : sProp 𝕄 :=
  ((c : Thread nD τ).loc cc0_scratch2) ↦[slotSet e]{fullShare} f

instance zPts_storable (c s : Dev nD) (f) : BI.Storable (upEmb : UEmb _ 𝕄) (zPts (F := F) c s f) := by unfold zPts; infer_instance
instance rPts_storable (c s : Dev nD) (f) : BI.Storable (upEmb : UEmb _ 𝕄) (rPts (F := F) c s f) := by unfold rPts; infer_instance

/-! ## Contents -/

/-- The block of `x` on `c`. -/
def xstg (c : Dev nD) : (cc0_stg0_0 : Ref sig .tc).ty.Contents (Elt F) :=
  (win0_0.blk (0 : Fin 1)).view.read (Elt F) ((s₀ m ρ).mem ((c : Thread nD τ).loc main_arg0))
def sastg (c : Dev nD) : (cc0_stg1_0 : Ref sig .tc).ty.Contents (Elt F) :=
  (win0_1.blk (0 : Fin 1)).view.read (Elt F) ((s₀ m ρ).mem ((c : Thread nD τ).loc main_arg2))
def sbstg (c : Dev nD) : (cc0_stg2_0 : Ref sig .tc).ty.Contents (Elt F) :=
  (win0_2.blk (0 : Fin 1)).view.read (Elt F) ((s₀ m ρ).mem ((c : Thread nD τ).loc main_arg3))

/-- `x` as the products read it. -/
def xb (c : Dev nD) : FVec F S128x4096 .bf16 := k0_pay2 (xstg m ρ c)
/-- The scale. -/
def sc (c : Dev nD) : F .f32 := k0_pay3 (sastg m ρ c (Shape.Idx.first (s := S1) (by decide))) (sbstg m ρ c (Shape.Idx.first (s := S1) (by decide)))

theorem chunk_inb (i : ℕ) : ∀ a, (![1024 * (i % 4), 512 * (i / 4 % 4)] : Fin 2 → ℕ) a + S1024x512.size a ≤ S4096x2048.size a := by
  intro a; fin_cases a
  · show 1024 * (i % 4) + 1024 ≤ 4096; omega
  · show 512 * (i / 4 % 4) + 512 ≤ 2048; omega
abbrev chunkR (i : ℕ) : Rect S4096x2048 := Rect.unit (s := S4096x2048) ![1024 * (i % 4), 512 * (i / 4 % 4)] S1024x512.size (chunk_inb i)
/-- Chunk `i` of `w`, as a load of its slot finds it. -/
def wch (c : Dev nD) (i : ℕ) : Vec F S1x1024x512 .f32 := fun y =>
  ((s₀ m ρ).mem ((c : Thread nD τ).loc main_arg1) : S4096x2048.Idx → Elt F .f32) ((chunkR i).emb (Shape.reshapeEquiv (s := S1024x512) (by decide) y))

/-- One chunk's product. -/
def mm (k : ℕ) (h : S128x4096.Slices ![0, k] S128x1024) (x : FVec F S128x4096 .bf16) (w : Vec F S1x1024x512 .f32) : FVec F S128x512 .f32 :=
  matmul dot_S128x1024_S1024x512_S128x512_1_0_0_1_n_n none (extractStridedSlice S128x1024 ![0, k] x h)
    (truncf .bf16 (shapeCast S1024x512 w shapeCasts_S1x1024x512_S1024x512) bitsLt_bf16_f32) (constant S128x512 .f32 0x00000000#32)

/-- Column block `q` before the scale. -/
def acc (c : Dev nD) (q : ℕ) : FVec F S128x512 .f32 :=
  addf (addf (addf (mm 0 slices_S128x4096_o0_0_S128x1024 (xb m ρ c) (wch m ρ c (4 * q)))
    (mm 1024 slices_S128x4096_o0_1024_S128x1024 (xb m ρ c) (wch m ρ c (4 * q + 1))))
    (mm 2048 slices_S128x4096_o0_2048_S128x1024 (xb m ρ c) (wch m ρ c (4 * q + 2))))
    (mm 3072 slices_S128x4096_o0_3072_S128x1024 (xb m ρ c) (wch m ρ c (4 * q + 3)))
/-- Column block `q`, scaled. -/
def yblk (c : Dev nD) (q : ℕ) : FVec F S128x512 .f32 := mulf (acc m ρ c q) (broadcast S128x512 (sc m ρ c))
/-- Column block `q` of the result, rounded. -/
def zblk (c : Dev nD) (q : ℕ) : FVec F S128x512 .bf16 := truncf .bf16 (mulf (yblk m ρ c q) (logistic (yblk m ρ c q))) bitsLt_bf16_f32

theorem zslices (j : ℕ) : S128x512.Slices ![0, 64 * (j % 8)] S128x64 := by
  exact (show ∀ k : Fin 8, S128x512.Slices ![0, 64 * k.val] S128x64 by decide) ⟨j % 8, Nat.mod_lt _ (by decide)⟩
/-- What slot `s` of the outgoing buffer is given. -/
def zpay (c : Dev nD) (s : ℕ) : FVec F S1x128x64 .bf16 :=
  shapeCast S1x128x64 (extractStridedSlice S128x64 ![0, 64 * (s % 8)] (zblk m ρ c (s / 8)) (zslices s)) shapeCasts_S128x64_S1x128x64

/-- The outgoing buffer of `c`, every slot filled. -/
def zAll (c : Dev nD) : S32x128x64.Idx → Elt F .bf16 := fun i => zpay m ρ c (i 0).val (fun a => match a with
  | ⟨0, _⟩ => (0 : Fin 1)
  | ⟨1, _⟩ => i 1
  | ⟨2, _⟩ => i 2)
/-- The landing buffer of `c`, every slot filled: slot `e` is slot `c` of device `e`. -/
def rAll (c : Dev nD) : S32x128x64.Idx → Elt F .bf16 := fun i => zAll m ρ (dv (i 0).val) (fun a => match a with
  | ⟨0, _⟩ => (⟨c.val, c.isLt⟩ : Fin 32)
  | ⟨1, _⟩ => i 1
  | ⟨2, _⟩ => i 2)

/-! ## The schedule -/

/-- What a cell is for. -/
inductive Use where
  | bar
  | send (s : Dev nD)
  | recv (e : Dev nD)
  | other

def useOf : SemLoc sig → Use
  | .reg _ => .bar
  | .dma q => if q.val < 12 then .other else if q.val < 44 then .send (dv (q.val - 12)) else if q.val < 76 then .recv (dv (q.val - 44)) else .other

theorem use_bar : useOf (.reg barS) = .bar := rfl
theorem use_send (s : Dev nD) : useOf (.dma (sendS s)) = .send s := by
  have h : s.val < 32 := s.isLt
  unfold useOf sendS; dsimp only
  rw [if_neg (by omega), if_pos (by omega), show 12 + s.val - 12 = s.val by omega, dv_self]
theorem use_recv (s : Dev nD) : useOf (.dma (recvS s)) = .recv s := by
  have h : s.val < 32 := s.isLt
  unfold useOf recvS; dsimp only
  rw [if_neg (by omega), if_neg (by omega), if_pos (by omega), show 44 + s.val - 44 = s.val by omega, dv_self]
theorem use_load (i : ℕ) : useOf (.dma (loadS i)) = .other := by
  unfold useOf loadS; dsimp only; rw [if_pos (by omega)]
theorem use_copy : useOf (.dma copyS) = .other := rfl

def dutiesOf (c : Dev nD) : Use → Finset (Dev nD)
  | .bar => Finset.univ.erase c
  | .send s => if s = c then ∅ else {c}
  | .recv e => if e = c then ∅ else {e}
  | .other => ∅
def payOf (c d : Dev nD) : Use → sProp 𝕄
  | .bar => iprop(∃ f, rPts d c f)
  | .send s => zPts c s (zAll m ρ c)
  | .recv e => rPts c e (rAll m ρ c)
  | .other => iprop(emp)
def amtOf : Use → ℕ
  | .bar => 1
  | _ => N

def Rd : Rounds.Schedule (GSem nD τ sig) (Dev nD) 𝕄 where
  duties g r := if r = 0 ∧ g.1.2 = .tc then dutiesOf g.1.1 (useOf g.2) else ∅
  unitless _ := False
  amount g _ _ := amtOf (useOf g.2)
  payload g _ d := payOf m ρ g.1.1 d (useOf g.2)
  amount_pos g _ _ _ := by
    cases useOf g.2 with
    | bar => exact Nat.one_pos
    | _ => exact N_pos

instance Rd_payload_storable (g : GSem nD τ sig) (r : ℕ) (d : Dev nD) : BI.Storable (upEmb : UEmb _ 𝕄) ((Rd (F := F) m ρ).payload g r d) := by
  show BI.Storable upEmb (payOf m ρ g.1.1 d (useOf g.2))
  cases useOf g.2 <;> dsimp only [payOf] <;> infer_instance

section Tables
variable (c s d : Dev nD)

theorem duties_bar : (Rd (F := F) m ρ).duties (barCell c) 0 = Finset.univ.erase c := by
  dsimp only [Rd]; rw [if_pos ⟨rfl, rfl⟩, use_bar]; rfl
theorem duties_send : (Rd (F := F) m ρ).duties (sendCell c s) 0 = if s = c then ∅ else {c} := by
  dsimp only [Rd]; rw [if_pos ⟨rfl, rfl⟩, use_send]; rfl
theorem duties_recv : (Rd (F := F) m ρ).duties (recvCell c s) 0 = if s = c then ∅ else {s} := by
  dsimp only [Rd]; rw [if_pos ⟨rfl, rfl⟩, use_recv]; rfl
theorem duties_later (g : GSem nD τ sig) : ∀ r, 1 ≤ r → (Rd (F := F) m ρ).duties g r = ∅ :=
  fun r hr => by dsimp only [Rd]; exact if_neg fun h => by omega
theorem duties_self_send : ∀ r, 0 ≤ r → (Rd (F := F) m ρ).duties (sendCell c c) r = ∅ := fun r _ => by
  rcases Nat.eq_zero_or_pos r with rfl | h
  · rw [duties_send, if_pos rfl]
  · exact duties_later m ρ _ r h
theorem duties_self_recv : ∀ r, 0 ≤ r → (Rd (F := F) m ρ).duties (recvCell c c) r = ∅ := fun r _ => by
  rcases Nat.eq_zero_or_pos r with rfl | h
  · rw [duties_recv, if_pos rfl]
  · exact duties_later m ρ _ r h

theorem amount_bar : (Rd (F := F) m ρ).amount (barCell c) 0 d = 1 := rfl
theorem amount_send : (Rd (F := F) m ρ).amount (sendCell c s) 0 d = N := by dsimp only [Rd]; rw [use_send]; rfl
theorem amount_recv : (Rd (F := F) m ρ).amount (recvCell c s) 0 d = N := by dsimp only [Rd]; rw [use_recv]; rfl

theorem payload_bar : (Rd (F := F) m ρ).payload (barCell c) 0 d = iprop(∃ f, rPts d c f) := rfl
theorem payload_send : (Rd (F := F) m ρ).payload (sendCell c s) 0 d = zPts c s (zAll m ρ c) := by dsimp only [Rd]; rw [use_send]; rfl
theorem payload_recv : (Rd (F := F) m ρ).payload (recvCell c s) 0 d = rPts c s (rAll m ρ c) := by dsimp only [Rd]; rw [use_recv]; rfl

theorem expect_bar : (Rd (F := F) m ρ).expect (barCell c) 0 = 31 := by
  unfold Schedule.expect Schedule.amountOf
  rw [duties_bar, Finset.sum_congr rfl fun d _ => amount_bar m ρ c d, Finset.sum_const, Finset.card_erase_of_mem (Finset.mem_univ _), Finset.card_univ]
  rfl
theorem expect_send (h : s ≠ c) : (Rd (F := F) m ρ).expect (sendCell c s) 0 = N := by
  unfold Schedule.expect Schedule.amountOf; rw [duties_send, if_neg h, Finset.sum_singleton, amount_send]
theorem expect_recv (h : s ≠ c) : (Rd (F := F) m ρ).expect (recvCell c s) 0 = N := by
  unfold Schedule.expect Schedule.amountOf; rw [duties_recv, if_neg h, Finset.sum_singleton, amount_recv]

theorem rest_bar : bigSep ((Rd (F := F) m ρ).duties (barCell c) 0 \ ∅) (fun u => (Rd (F := F) m ρ).payload (barCell c) 0 u)
    = bigSep (Finset.univ.erase c) fun d => iprop(∃ f, rPts d c f) := by
  rw [Finset.sdiff_empty, duties_bar]; rfl
theorem rest_send (h : s ≠ c) : bigSep ((Rd (F := F) m ρ).duties (sendCell c s) 0 \ ∅) (fun u => (Rd (F := F) m ρ).payload (sendCell c s) 0 u) = zPts c s (zAll m ρ c) := by
  rw [Finset.sdiff_empty, duties_send, if_neg h, bigSep_singleton, payload_send]
theorem rest_recv (h : s ≠ c) : bigSep ((Rd (F := F) m ρ).duties (recvCell c s) 0 \ ∅) (fun u => (Rd (F := F) m ρ).payload (recvCell c s) 0 u) = rPts c s (rAll m ρ c) := by
  rw [Finset.sdiff_empty, duties_recv, if_neg h, bigSep_singleton, payload_recv]

end Tables

/-! ## Runs over numbers -/

theorem up_zero (c : Dev nD) : up c 0 = c := dv_self c
theorem up_inj (c : Dev nD) : Set.InjOn (up c) (Finset.range 32) := fun a ha b hb h => by
  have ha := Finset.mem_range.mp (Finset.mem_coe.mp ha); have hb := Finset.mem_range.mp (Finset.mem_coe.mp hb)
  have h : (c.val + a) % 32 = (c.val + b) % 32 := congrArg Fin.val h
  have hc : c.val < 32 := c.isLt
  omega
theorem dn_inj (c : Dev nD) : Set.InjOn (dn c) (Finset.range 32) := fun a ha b hb h => by
  have ha := Finset.mem_range.mp (Finset.mem_coe.mp ha); have hb := Finset.mem_range.mp (Finset.mem_coe.mp hb)
  have h : (c.val + (32 - a)) % 32 = (c.val + (32 - b)) % 32 := congrArg Fin.val h
  have hc : c.val < 32 := c.isLt
  omega
theorem dn_zero (c : Dev nD) : dn c 0 = c := Fin.ext (by have h : c.val < 32 := c.isLt; show (c.val + (32 - 0)) % 32 = c.val; omega)
theorem tgt_val (c : Dev nD) {t : ℕ} (h : t < 32) : (tgt c t).val = 8 * (t / 8) + (c.val + t % 8) % 8 := by
  show (8 * (t / 8) + (c.val + t % 8) % 8) % 32 = _; omega
theorem tgt_inj (c : Dev nD) : Set.InjOn (tgt c) (Finset.range 32) := fun a ha b hb h => by
  have ha := Finset.mem_range.mp (Finset.mem_coe.mp ha); have hb := Finset.mem_range.mp (Finset.mem_coe.mp hb)
  have h := congrArg Fin.val h
  rw [tgt_val c ha, tgt_val c hb] at h
  omega
theorem dv_inj : Set.InjOn dv (Finset.range 32) := fun a ha b hb h => by
  have ha := Finset.mem_range.mp (Finset.mem_coe.mp ha); have hb := Finset.mem_range.mp (Finset.mem_coe.mp hb)
  have h : a % 32 = b % 32 := congrArg Fin.val h
  omega

/-- A numbering of the devices, each once. -/
theorem image_univ {f : ℕ → Dev nD} (hf : Set.InjOn f (Finset.range 32)) : (Finset.range 32).image f = Finset.univ :=
  Finset.eq_univ_of_card _ (by rw [Finset.card_image_of_injOn hf, Finset.card_range]; rfl)
theorem Ico_bot {a b : ℕ} (h : a < b) : Finset.Ico a b = insert a (Finset.Ico (a + 1) b) := by
  ext x; simp only [Finset.mem_Ico, Finset.mem_insert]; omega
theorem sum_bot {A : Type} [AddCommMonoid A] {a b : ℕ} (h : a < b) (Φ : ℕ → A) : ∑ n ∈ Finset.Ico a b, Φ n = Φ a + ∑ n ∈ Finset.Ico (a + 1) b, Φ n := by
  rw [Ico_bot h, Finset.sum_insert (by rw [Finset.mem_Ico]; omega)]
/-- A family over the devices, listed by such a numbering. -/
theorem bigSep_by {M : Type} [URA M] {f : ℕ → Dev nD} (hf : Set.InjOn f (Finset.range 32)) (Φ : Dev nD → sProp M) :
    bigSep Finset.univ Φ = bigSep (Finset.Ico 0 32) fun n => Φ (f n) := by
  rw [← image_univ hf, bigSep_image_of_injOn hf, Finset.range_eq_Ico]
/-- The same with the device at place 0 left out. -/
theorem bigSep_by_erase {M : Type} [URA M] {f : ℕ → Dev nD} (hf : Set.InjOn f (Finset.range 32)) {c : Dev nD} (h0 : f 0 = c) (Φ : Dev nD → sProp M) :
    bigSep (Finset.univ.erase c) Φ = bigSep (Finset.Ico 1 32) fun n => Φ (f n) := by
  have himg : Finset.univ.erase c = (Finset.Ico 1 32).image f := by
    rw [← image_univ hf, Finset.range_eq_Ico, Ico_bot (show 0 < 32 by decide), Finset.image_insert, h0,
      Finset.erase_insert]
    intro hm
    obtain ⟨n, hn, e⟩ := Finset.mem_image.mp hm
    have hn := Finset.mem_Ico.mp hn
    have := hf (Finset.mem_coe.mpr (Finset.mem_range.mpr (show n < 32 by omega))) (Finset.mem_coe.mpr (Finset.mem_range.mpr (show 0 < 32 by decide))) (e.trans h0.symm)
    omega
  rw [himg, bigSep_image_of_injOn (hf.mono fun n hn => by
    have := Finset.mem_Ico.mp (Finset.mem_coe.mp hn); exact Finset.mem_coe.mpr (Finset.mem_range.mpr (by omega)))]
/-- The same of a sum. -/
theorem sum_by_erase {A : Type} [AddCommMonoid A] {f : ℕ → Dev nD} (hf : Set.InjOn f (Finset.range 32)) (Φ : Dev nD → A) :
    ∑ d, Φ d = ∑ n ∈ Finset.Ico 0 32, Φ (f n) := by
  rw [← image_univ hf, Finset.sum_image (fun a ha b hb h => hf (Finset.mem_coe.mpr ha) (Finset.mem_coe.mpr hb) h), Finset.range_eq_Ico]

/-! ## What each device owes; the levels -/

/-- What send number `t` of `c` owes: its receiver's credit. -/
def sndTally (c : Dev nD) (t : ℕ) : CellTallies nD τ sig Unit := if tgt c t = c then 0 else tallyAt (recvCell (tgt c t) c) () N
def barTally (c : Dev nD) (h : ℕ) : CellTallies nD τ sig Unit := tallyAt (barCell (up c h)) () 1
/-- What `c` owes after its signals below `n` and its sends below `k`. -/
def Ob (c : Dev nD) (n k : ℕ) : CellTallies nD τ sig Unit :=
  (∑ t ∈ Finset.Ico k 32, sndTally c t) + ∑ h ∈ Finset.Ico n 32, barTally c h

theorem Ob_signal (c : Dev nD) {n k : ℕ} (h : n < 32) : Ob c n k = Ob c (n + 1) k + barTally c n := by
  unfold Ob; rw [sum_bot h]; rw [add_assoc, add_comm (barTally c n)]
theorem Ob_send (c : Dev nD) {n k : ℕ} (h : k < 32) : Ob c n k = Ob c n (k + 1) + sndTally c k := by
  unfold Ob; rw [sum_bot h]; rw [add_comm (sndTally c k), add_assoc, add_comm (sndTally c k), ← add_assoc]
theorem Ob_done (c : Dev nD) : Ob c 32 32 = 0 := by unfold Ob; simp

def L (g : GSem nD τ sig) : Finset Unit := if g.1.2 = .tc then {()} else ∅
def lv (g : GSem nD τ sig) (_ : Unit) : ℕ := match useOf g.2 with
  | .bar => 1
  | .recv _ => 2
  | _ => 0
theorem L_of_ne (g : GSem nD τ sig) (h : g.1.2 ≠ .tc) : L g = ∅ := if_neg h
theorem L_tc (c : Dev nD) (sm : SemLoc sig) : L ((c : Thread nD τ), sm) = {()} := if_pos rfl

theorem lv_recv (c e : Dev nD) : lv (recvCell c e) () = 2 := by unfold lv; rw [use_recv]
theorem lv_bar (c : Dev nD) : lv (barCell c) () = 1 := rfl
theorem lv_send (c s : Dev nD) : lv (sendCell c s) () = 0 := by unfold lv; rw [use_send]

theorem sndTally_pos {c : Dev nD} {t : ℕ} {g : GSem nD τ sig} {u : Unit} (h : 0 < sndTally c t g u) : ∃ d, g = recvCell d c := by
  unfold sndTally at h
  split at h
  · exact absurd h (Nat.lt_irrefl 0)
  · rw [tallyAt_apply] at h
    by_contra hn
    rw [if_neg (fun h' => hn ⟨_, h'.1⟩)] at h
    exact Nat.lt_irrefl 0 h
theorem barTally_pos {c : Dev nD} {t : ℕ} {g : GSem nD τ sig} {u : Unit} (h : 0 < barTally c t g u) : ∃ d, g = barCell d := by
  unfold barTally at h
  rw [tallyAt_apply] at h
  by_contra hn
  rw [if_neg (fun h' => hn ⟨_, h'.1⟩)] at h
  exact Nat.lt_irrefl 0 h

theorem sum_pos_at {S : Finset ℕ} {Φ : ℕ → CellTallies nD τ sig Unit} {g : GSem nD τ sig} {u : Unit} (h : 0 < (∑ t ∈ S, Φ t) g u) :
    ∃ t ∈ S, 0 < Φ t g u := by
  rw [Finset.sum_apply, Finsupp.finset_sum_apply] at h
  by_contra hn
  refine absurd (Finset.sum_eq_zero fun t ht => ?_) h.ne'
  by_contra h0
  exact hn ⟨t, ht, Nat.pos_of_ne_zero h0⟩

theorem Ob_pos {c : Dev nD} {n k : ℕ} {g : GSem nD τ sig} {u : Unit} (h : 0 < Ob c n k g u) :
    (∃ d, g = recvCell d c) ∨ ((∃ d, g = barCell d) ∧ n < 32) := by
  unfold Ob at h
  rw [Pi.add_apply, Finsupp.add_apply] at h
  rcases Nat.add_pos_iff_pos_or_pos.mp h with h | h
  · obtain ⟨t, _, ht⟩ := sum_pos_at h; exact .inl (sndTally_pos ht)
  · obtain ⟨t, hm, ht⟩ := sum_pos_at h
    have := Finset.mem_Ico.mp hm
    exact .inr ⟨barTally_pos ht, by omega⟩

/-- The levels of all cells. -/
def Lev : sProp 𝕄 := levAts L lv
instance Lev_persistent : BI.Persistent (Lev (F := F)) := by unfold Lev; infer_instance

/-- A cell that is neither a barrier nor a receive cell may be waited on whatever of the exchange is owed. -/
theorem mayWait_low (c : Dev nD) (sm : SemLoc sig) (h : lv ((c : Thread nD τ), sm) () = 0) (n k : ℕ) :
    Lev (F := F) ⊢ MayWait (c : Thread nD τ) sm () (Ob c n k) :=
  MayOwe.of_cut (L := L) (lev := lv) 0 (fun p hp => by rw [Finset.mem_singleton.mp hp, L_tc]; exact Finset.mem_singleton_self _)
    (fun g u hg => by rcases Ob_pos hg with ⟨d, rfl⟩ | ⟨⟨d, rfl⟩, _⟩ <;> exact Finset.mem_singleton_self _)
    (fun p hp => by rw [Finset.mem_singleton.mp hp, h])
    (fun g u hg => by rcases Ob_pos hg with ⟨d, rfl⟩ | ⟨⟨d, rfl⟩, _⟩ <;> [rw [lv_recv]; rw [lv_bar]] <;> decide)
/-- The barrier may be waited on once every signal is out. -/
theorem mayWait_bar (c : Dev nD) (k : ℕ) :
    Lev (F := F) ⊢ MayWait (c : Thread nD τ) (.reg barS) () (Ob c 32 k) :=
  MayOwe.of_cut (L := L) (lev := lv) 1 (fun p hp => by rw [Finset.mem_singleton.mp hp, L_tc]; exact Finset.mem_singleton_self _)
    (fun g u hg => by rcases Ob_pos hg with ⟨d, rfl⟩ | ⟨⟨d, rfl⟩, _⟩ <;> exact Finset.mem_singleton_self _)
    (fun p hp => by rw [Finset.mem_singleton.mp hp, lv_bar])
    (fun g u hg => by
      rcases Ob_pos hg with ⟨d, rfl⟩ | ⟨_, h⟩
      · rw [lv_recv]; decide
      · exact absurd h (lt_irrefl _))

end Cert.KernelIdealRun

end
-- ==== Proof.KernelIdealSteps.lean ====
/-
# The exchange: one rule per kind of step

What a device holds while the kernel runs is a few families over numbers (signals still to send, chunks to fetch, slots to
send, cells to wait for); each rule here takes one member of a family through one operation of the kernel, whatever
offsets the program spells it with.
-/
module

public import proofs.«01_k».proof.Proof.KernelIdealSched
public import Idealize.SL.BI.BigOpNat

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The kernel's program on `c`, to its result. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- The cells of the exchange: barriers, sends, receives. -/
abbrev Cells : Type := Dev nD ⊕ ((Dev nD × Dev nD) ⊕ (Dev nD × Dev nD))
def rcell : Cells → GSem nD τ sig
  | .inl c => barCell c
  | .inr (.inl p) => sendCell p.1 p.2
  | .inr (.inr p) => recvCell p.1 p.2

/-- Every cell's invariant, every cell at round 0 or later, the levels. -/
def Env (K : Cells → ℕ) : sProp 𝕄 :=
  iprop(((bigSep Finset.univ fun x : Cells => cellInv EX (Rd m ρ) (K x) (rcell x)) ∗ bigSep Finset.univ fun x : Cells => reached EX (rcell x) 0) ∗ Lev (F := F))
instance Env_persistent (K : Cells → ℕ) : BI.Persistent (Env m ρ K) := by unfold Env; infer_instance

theorem all_inv (K : Cells → ℕ) (x : Cells) : (bigSep Finset.univ fun x : Cells => (cellInv EX (Rd m ρ) (K x) (rcell x) : sProp 𝕄)) ⊢ cellInv EX (Rd m ρ) (K x) (rcell x) :=
  bigSep_elim (Finset.mem_univ x)
theorem all_reached (x : Cells) : (bigSep Finset.univ fun x : Cells => (reached EX (rcell x) 0 : sProp 𝕄)) ⊢ reached EX (rcell x) 0 :=
  bigSep_elim (Finset.mem_univ x)
theorem env_inv (K : Cells → ℕ) (x : Cells) : Env m ρ K ⊢ cellInv EX (Rd m ρ) (K x) (rcell x) := by
  unfold Env; iintro ⟨⟨H, -⟩, -⟩; iapply (all_inv m ρ K x); iexact H
theorem env_reached (K : Cells → ℕ) (x : Cells) : Env m ρ K ⊢ reached EX (rcell x) 0 := by
  unfold Env; iintro ⟨⟨-, H⟩, -⟩; iapply (all_reached x); iexact H
theorem env_wait_low (K : Cells → ℕ) (c : Dev nD) (sm : SemLoc sig) (h : lv ((c : Thread nD τ), sm) () = 0) (n k : ℕ) :
    Env m ρ K ⊢ MayWait (c : Thread nD τ) sm () (Ob c n k) := by
  unfold Env; iintro ⟨-, H⟩; iapply (mayWait_low c sm h n k); iexact H
theorem env_wait_bar (K : Cells → ℕ) (c : Dev nD) (k : ℕ) :
    Env m ρ K ⊢ MayWait (c : Thread nD τ) (.reg barS) () (Ob c 32 k) := by
  unfold Env; iintro ⟨-, H⟩; iapply (mayWait_bar c k); iexact H

/-- What `c` owes after its signals below `n` and its sends below `k`. -/
def Ow (c : Dev nD) (n k : ℕ) : sProp 𝕄 := iprop(∃ W, owes (c : Thread nD τ) (Ob c n k) W)

/-! ## The signals -/

/-- The signals of `c` still to come: the right to each, and the landing slot it hands over. -/
def Sig (c : Dev nD) (h : ℕ) : sProp 𝕄 := iprop(dutyTok EX (barCell (up c h)) 0 c ∗ ∃ f, rPts c (up c h) f)
def Sigs (c : Dev nD) (n : ℕ) : sProp 𝕄 := bigSep (Finset.Ico n 32) (Sig c)

theorem up_ne (c : Dev nD) {n : ℕ} (h0 : 0 < n) (h : n < 32) : up c n ≠ c := fun e => by
  have e := congrArg Fin.val e
  have hc : c.val < 32 := c.isLt
  have : (c.val + n) % 32 = c.val := e
  omega
theorem dn_ne (c : Dev nD) {n : ℕ} (h0 : 0 < n) (h : n < 32) : dn c n ≠ c := fun e => by
  have e := congrArg Fin.val e
  have hc : c.val < 32 := c.isLt
  have : (c.val + (32 - n)) % 32 = c.val := e
  omega

theorem sig_step (K : Cells → ℕ) (c : Dev nD) (n : ℕ) (h0 : 0 < n) (hn : n < 32) {d : Dev nD} (hd : d.val = (c.val + n) % 32)
    {u : Sem sig} (hu : u = barS) {a : ℕ} (ha : a = 1)
    {α : Type} {Q : α → sProp 𝕄} {k : PUnit → Prog (TpuEff nD τ sig (Elt F) Λ₀ .tc) α} :
    iprop(Env m ρ K ∗ Ow c n 0 ∗ Sigs c n)
      ⊢ iprop(((Ow c (n + 1) 0 ∗ Sigs c (n + 1)) -∗ Runs c (k ⟨⟩) Q) -∗ Runs c (.op (.semSignal (d : Thread nD τ) u a) k) Q) := by
  have hd : d = up c n := Fin.ext hd
  subst hd; subst hu; subst ha
  unfold Sigs Ow
  rw [bigSep_Ico_succ_bot hn]
  unfold Sig
  iintro ⟨#HE, ⟨%W, HO⟩, ⟨Ht, %f, Hs⟩, Hrest⟩ Hk
  iapply (Rounds.wp_signal 𝒱₀ EX (Rd m ρ) (c : Thread nD τ) none (dst := (up c n : Thread nD τ)) (κ := K (.inl (up c n))) (d := c) (r := 0)
      (by rw [duties_bar]; exact Finset.mem_erase.mpr ⟨(up_ne c h0 hn).symm, Finset.mem_univ _⟩) (amount_bar m ρ (up c n) c) () (Ob c (n + 1) 0)
      (Ob_signal c hn)) $$ [HO Ht Hs]
  · isplitr; · iapply (env_inv m ρ K (.inl (up c n))); iexact HE
    isplitl [HO]; · iexact HO
    isplitl [Ht]; · iexact Ht
    isplitl [Hs]
    · rw [payload_bar]; iexists f; iexact Hs
    · iapply (env_reached m ρ K (.inl (up c n))); iexact HE
  iintro HO
  iapply Hk
  isplitl [HO]; · iexists W; iexact HO
  iexact Hrest

/-- The barrier's wait: the landing slots of every other device come with it. -/
theorem bar_step (K : Cells → ℕ) (c : Dev nD) {u : Sem sig} (hu : u = barS) {a : ℕ} (ha : a = 31)
    {α : Type} {Q : α → sProp 𝕄} {k : PUnit → Prog (TpuEff nD τ sig (Elt F) Λ₀ .tc) α} :
    iprop(Env m ρ K ∗ cred (tallyAt (barCell c) () 31) ∗ Ow c 32 0 ∗ atPos EX (barCell c) 0 ∅ 0)
      ⊢ iprop(((Ow c 32 0 ∗ atPos EX (barCell c) 1 ∅ 0 ∗ bigSep (Finset.univ.erase c) fun d => iprop(∃ f, rPts d c f)) -∗ Runs c (k ⟨⟩) Q)
          -∗ Runs c (.op (.semWait u a) k) Q) := by
  subst hu; subst ha
  unfold Ow
  iintro ⟨#HE, Hc, ⟨%W, HO⟩, Hat⟩ Hk
  iapply (Rounds.wp_wait_rest_token 𝒱₀ EX (Rd m ρ) (c : Thread nD τ) none (κ := K (.inl c))
      (wpE_semWait_eq 𝒱₀ (c : Thread nD τ) none Set.univ) (Set.mem_univ _) () (O := Ob c 32 0) (W := W) (R := 0) (m := 0) (T := ∅)
      (by rw [expect_bar])) $$ [Hc HO Hat]
  · isplitr; · iapply (env_inv m ρ K (.inl c)); iexact HE
    isplitl [Hc]; · iexact Hc
    isplitl [HO]; · iexact HO
    isplitr; · iapply (env_wait_bar m ρ K c 0); iexact HE
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-! ## The chunks of `w` -/

theorem bslot_inb (i : ℕ) : ∀ a, (![i % 8, 0, 0] : Fin 3 → ℕ) a + S1x1024x512.size a ≤ S8x1024x512.size a := by
  intro a; fin_cases a
  · show i % 8 + 1 ≤ 8; omega
  · exact le_refl 1024
  · exact le_refl 512
/-- The slot chunk `i` lands in. -/
abbrev bR (i : ℕ) : Rect S8x1024x512 := Rect.unit (s := S8x1024x512) ![i % 8, 0, 0] S1x1024x512.size (bslot_inb i)
def bSet (i : ℕ) : Finset S8x1024x512.Idx := (bR i).set
abbrev bslotM (o : Fin 3 → ℕ) (h : ∀ a, o a + S1x1024x512.size a ≤ S8x1024x512.size a) : Memref sig .tc .vmem S1024x512 .f32 :=
  (bM.slice (Rect.unit (s := S8x1024x512) o S1x1024x512.size h) (fun _ => rfl)).squeeze S1024x512 squeezes_S1x1024x512_S1024x512
abbrev chunkM (o : Fin 2 → ℕ) (h : ∀ a, o a + S1024x512.size a ≤ S4096x2048.size a) : Memref sig .tc .hbm S1024x512 .f32 :=
  wM.slice (Rect.unit (s := S4096x2048) o S1024x512.size h) (fun _ => rfl)
/-- What the fetch of one chunk credits. -/
def NB : ℕ := (bslotM ![0, 0, 0] (bslot_inb 0)).view.dmaCredit
theorem NB_pos : 0 < NB := View.dmaCredit_pos _ (by decide)

abbrev wBuf (c : Dev nD) : Buf (Elt F) ((c : Thread nD τ).loc main_arg1) := (s₀ m ρ).mem ((c : Thread nD τ).loc main_arg1)
/-- The read share of `w` chunk `i` is fetched with. -/
def Wtok (c : Dev nD) (i : ℕ) : sProp 𝕄 := ((c : Thread nD τ).loc main_arg1) ↦{Transfers.shareTokN fullShare i} wBuf m ρ c
/-- Chunk `i`'s slot, free. -/
def Free (c : Dev nD) (i : ℕ) : sProp 𝕄 :=
  iprop((∃ f : Buf (Elt F) ((c : Thread nD τ).loc cc0_scratch0), ((c : Thread nD τ).loc cc0_scratch0) ↦[bSet i]{fullShare} f) ∗ semVal ((c : Thread nD τ), .dma (loadS i)) 0)
/-- Chunk `i` in its slot. -/
def Got (c : Dev nD) (i : ℕ) : sProp 𝕄 :=
  iprop((∃ f : Buf (Elt F) ((c : Thread nD τ).loc cc0_scratch0), ⌜∀ y, (f : S8x1024x512.Idx → Elt F .f32) ((bR i).emb y) = wch m ρ c i y⌝
    ∗ ((c : Thread nD τ).loc cc0_scratch0) ↦[bSet i]{fullShare} f) ∗ semVal ((c : Thread nD τ), .dma (loadS i)) 0)
/-- Chunk `i` on its way. -/
def Fetch (c : Dev nD) (i : ℕ) : sProp 𝕄 :=
  iprop(∃ fd : Buf (Elt F) ((c : Thread nD τ).loc cc0_scratch0), Transfers.Flight EC (c : Thread nD τ) (.dma (loadS i)) () NB
    iprop((((c : Thread nD τ).loc cc0_scratch0) ↦[bSet i]{fullShare} ((bslotM ![i % 8, 0, 0] (bslot_inb i)).view.write (Elt F) fd
        ((chunkM ![1024 * (i % 4), 512 * (i / 4 % 4)] (chunk_inb i)).view.read (Elt F) (wBuf m ρ c)) Finset.univ))
      ∗ ((c : Thread nD τ).loc main_arg1) ↦[(chunkM ![1024 * (i % 4), 512 * (i / 4 % 4)] (chunk_inb i)).view.set]{Transfers.shareTokN fullShare i} wBuf m ρ c))

/-- The chunks: below `a` used, below `w` in their slots, below `b` on their way, the rest to fetch. -/
def Lds (c : Dev nD) (a w b : ℕ) : sProp 𝕄 :=
  iprop(bigSep (Finset.Ico b 16) (Wtok m ρ c) ∗ bigSep (Finset.Ico b (a + 8)) (Free c) ∗ bigSep (Finset.Ico w b) (Fetch m ρ c) ∗ bigSep (Finset.Ico a w) (Got m ρ c))

theorem bslot_set (i : ℕ) : (bslotM ![i % 8, 0, 0] (bslot_inb i)).view.set = bSet i := by
  show (((View.whole cc0_scratch0).slice (bR i)).reshape S1024x512 _).set = _
  rw [View.set_reshape, View.set_slice_whole]; rfl

theorem issue_step (c : Dev nD) (a w b : ℕ) (hb : b < 16) (hab : b < a + 8) (hw : w ≤ b)
    {o₁ : Fin 2 → ℕ} {o₂ : Fin 3 → ℕ} {o₃ : Fin 1 → ℕ} {h₁ : ∀ a, o₁ a + S1024x512.size a ≤ S4096x2048.size a}
    {h₂ : ∀ a, o₂ a + S1x1024x512.size a ≤ S8x1024x512.size a} {h₃ : ∀ a, o₃ a + S1.size a ≤ S8.size a}
    (e₁ : o₁ = ![1024 * (b % 4), 512 * (b / 4 % 4)]) (e₂ : o₂ = ![b % 8, 0, 0]) (e₃ : o₃ = ![b % 8])
    {hs : (chunkM o₁ h₁).view.WordExact} {hd : (bslotM o₂ h₂).view.WordExact}
    {ht : DmaTarget.Typed (nD := nD) (τ := τ) (sig := sig) (p := .tc) .hbm (.dma ((cc0_scratch3.slice (Rect.unit (s := S8) o₃ S1.size h₃)).squeeze S_ squeezes_S1_S_).sem) (.here (bslotM o₂ h₂))}
    {α : Type} {Q : α → sProp 𝕄} {k : PUnit → Prog (TpuEff nD τ sig (Elt F) Λ₀ .tc) α} :
    Lds m ρ c a w b ⊢ iprop((Lds m ρ c a w (b + 1) -∗ Runs c (k ⟨⟩) Q)
        -∗ Runs c (.op (.enqueueDma (chunkM o₁ h₁) (.here (bslotM o₂ h₂)) (.dma ((cc0_scratch3.slice (Rect.unit (s := S8) o₃ S1.size h₃)).squeeze S_ squeezes_S1_S_).sem) hs hd ht) k) Q) := by
  subst e₁; subst e₂
  have e : ((cc0_scratch3.slice (Rect.unit (s := S8) o₃ S1.size h₃)).squeeze S_ squeezes_S1_S_).sem = loadS b := load_sem b h₃ e₃
  revert ht; rw [e]; intro ht
  unfold Lds
  rw [bigSep_Ico_succ_bot hb, bigSep_Ico_succ_bot hab, bigSep_Ico_succ_top hw]
  unfold Free Wtok
  iintro ⟨⟨Hw, HW⟩, ⟨⟨⟨%f, Hf⟩, Hv⟩, HF⟩, HB, HG⟩ Hk
  ihave Hws := (pointsTo_split_subset (I := (chunkM ![1024 * (b % 4), 512 * (b / 4 % 4)] (chunk_inb b)).view.set) (Finset.subset_univ _)).1 $$ Hw
  icases Hws with ⟨Hw, -⟩
  iapply (Transfers.wp_dmaLocal EC 𝒱₀ (c : Thread nD τ) none (src := chunkM _ h₁) (dst := bslotM _ h₂) () NB rfl NB_pos (Sd := bSet b) (by rw [← bslot_set b])) $$ [Hw Hf Hv]
  · isplitl [Hw]; · iexact Hw
    isplitl [Hf]; · iexact Hf
    iexact Hv
  iintro HFl
  iapply Hk
  isplitl [HW]; · iexact HW
  isplitl [HF]; · iexact HF
  isplitl [HFl HB]
  · isplitl [HFl]
    · unfold Fetch; iexists f; iexact HFl
    iexact HB
  iexact HG

theorem got_of (c : Dev nD) (i : ℕ) (fd : Buf (Elt F) ((c : Thread nD τ).loc cc0_scratch0)) (y : S1x1024x512.Idx) :
    ((bslotM ![i % 8, 0, 0] (bslot_inb i)).view.write (Elt F) fd
        ((chunkM ![1024 * (i % 4), 512 * (i / 4 % 4)] (chunk_inb i)).view.read (Elt F) (wBuf m ρ c)) Finset.univ : S8x1024x512.Idx → Elt F .f32) ((bR i).emb y) = wch m ρ c i y := by
  have hy : (bR i).emb y = (bslotM ![i % 8, 0, 0] (bslot_inb i)).view.emb (Shape.reshapeEquiv (s := S1024x512) (by decide) y) := by
    show (bR i).emb y = (bR i).emb (Shape.reshapeEquiv _ (Shape.reshapeEquiv _ y))
    rw [Shape.reshapeEquiv_reshapeEquiv, Shape.reshapeEquiv_self]
  rw [hy]
  exact View.write_emb_of_mem _ _ (Finset.mem_univ _)

theorem wait_step (K : Cells → ℕ) (c : Dev nD) (n t : ℕ) (a w b : ℕ) (haw : a ≤ w) (hw : w < b)
    {o₁ : Fin 2 → ℕ} {o₂ : Fin 3 → ℕ} {o₃ : Fin 1 → ℕ} {h₁ : ∀ a, o₁ a + S1024x512.size a ≤ S4096x2048.size a}
    {h₂ : ∀ a, o₂ a + S1x1024x512.size a ≤ S8x1024x512.size a} {h₃ : ∀ a, o₃ a + S1.size a ≤ S8.size a}
    (e₃ : o₃ = ![w % 8])
    {hs : (chunkM o₁ h₁).view.WordExact} {hd : (bslotM o₂ h₂).view.WordExact}
    {α : Type} {Q : α → sProp 𝕄} {k : PUnit → Prog (TpuEff nD τ sig (Elt F) Λ₀ .tc) α} :
    iprop(Env m ρ K ∗ Ow c n t ∗ Lds m ρ c a w b) ⊢ iprop((Ow c n t ∗ Lds m ρ c a (w + 1) b -∗ Runs c (k ⟨⟩) Q)
        -∗ Runs c (.op (.waitDma2 ((cc0_scratch3.slice (Rect.unit (s := S8) o₃ S1.size h₃)).squeeze S_ squeezes_S1_S_).sem (chunkM o₁ h₁) (bslotM o₂ h₂) hs hd) k) Q) := by
  rw [load_sem w h₃ e₃]
  unfold Lds Ow
  rw [bigSep_Ico_succ_bot hw, bigSep_Ico_succ_top haw]
  unfold Fetch
  iintro ⟨#HE, ⟨%W, HO⟩, HW, HF, ⟨⟨%fd, HB⟩, HBs⟩, HG⟩ Hk
  iapply (Transfers.wp_waitLocalO EC 𝒱₀ (c : Thread nD τ) none (srcw := chunkM o₁ h₁) (dstw := bslotM o₂ h₂) (hsrc := hs) (hdst := hd) () (N := NB) rfl) $$ [HB HO]
  · isplitl [HB]; · iexact HB
    isplitl [HO]; · iexact HO
    iapply (env_wait_low m ρ K c (.dma (loadS w)) (by unfold lv; rw [use_load]) n t); iexact HE
  iintro ⟨⟨Hb, -⟩, Hv, HO⟩
  iapply Hk
  isplitl [HO]; · iexists _; iexact HO
  isplitl [HW]; · iexact HW
  isplitl [HF]; · iexact HF
  isplitl [HBs]; · iexact HBs
  isplitl [Hb Hv]
  · unfold Got
    isplitl [Hb]
    · iexists _; isplitr
      · ipureintro; exact got_of m ρ c w fd
      iexact Hb
    iexact Hv
  iexact HG

theorem load_step (c : Dev nD) (a w b : ℕ) (haw : a < w) (hb : b ≤ a + 8)
    {o : Fin 3 → ℕ} {h : ∀ a, o a + S1x1024x512.size a ≤ S8x1024x512.size a} (e : o = ![a % 8, 0, 0])
    {hl : (bM : Memref sig .tc .vmem S8x1024x512 .f32).view.LoadsAt (Rect.unit (s := S8x1024x512) o S1x1024x512.size h).toLoadRect}
    {α : Type} {Q : α → sProp 𝕄} {k : Vec F S1x1024x512 .f32 → Prog (TpuEff nD τ sig (Elt F) Λ₀ .tc) α} :
    Lds m ρ c a w b ⊢ iprop((Lds m ρ c (a + 1) w b -∗ Runs c (k (wch m ρ c a)) Q)
        -∗ Runs c (.op (.load bM (Rect.unit (s := S8x1024x512) o S1x1024x512.size h).toLoadRect hl) k) Q) := by
  subst e
  unfold Lds
  rw [bigSep_Ico_succ_bot haw, show a + 1 + 8 = a + 8 + 1 by omega, bigSep_Ico_succ_top hb]
  iintro ⟨HW, HF, HB, Ha, HG⟩ Hk
  unfold Got
  icases Ha with ⟨⟨%f, %hf, Hf⟩, Hv⟩
  iapply (wp_load 𝒱₀ (c : Thread nD τ) none Set.univ (m := bM) (S := bSet a) (by
    show ((View.whole cc0_scratch0).setOn (bR a).set) ⊆ bSet a
    unfold bSet
    intro i hi
    obtain ⟨x, hx, rfl⟩ := Finset.mem_map.mp hi
    exact hx)) $$ Hf
  iintro Hf
  have hv : (bM : Memref sig .tc .vmem S8x1024x512 .f32).view.readAt (Elt F) (bR a).toLoadRect f = wch m ρ c a := funext fun y => hf y
  rw [hv]
  iapply Hk
  isplitl [HW]; · iexact HW
  isplitl [HF Hf Hv]
  · isplitl [Hf Hv]
    · unfold Free
      have e8 : bSet (a + 8) = bSet a := by
        unfold bSet bR
        have e : (a + 8) % 8 = a % 8 := Nat.add_mod_right a 8
        simp only [e]
      have eS : loadS (a + 8) = loadS a := Fin.ext (by show 4 + (a + 8) % 8 = 4 + a % 8; omega)
      rw [e8, eS]
      isplitl [Hf]
      · iexists f; iexact Hf
      iexact Hv
    iexact HF
  isplitl [HB]; · iexact HB
  iexact HG

end Cert.KernelIdealRun

end
-- ==== Proof.KernelIdealSends.lean ====
/-
# The exchange: filling a slot, sending it, waiting for it

The steps of the second half: storing a block's slots, the copies to the peers and to itself, the waits for what the peers
send and for the device's own copies to have left.
-/
module

public import proofs.«01_k».proof.Proof.KernelIdealSteps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Filling the outgoing buffer -/

/-- The outgoing slots from `z` on, not filled yet. -/
def ZF (c : Dev nD) (z : ℕ) : sProp 𝕄 := bigSep (Finset.Ico z 32) fun s => iprop(∃ f, zPts c (dv s) f)
/-- The outgoing slots from `a` to `z`, filled. -/
def ZS (c : Dev nD) (a z : ℕ) : sProp 𝕄 := bigSep (Finset.Ico a z) fun s => zPts c (dv s) (zAll m ρ c)

theorem slotM_set_z (s : Dev nD) : (slotM zM ![s.val, 0, 0] (slot_inb s)).view.set = slotSet s := by
  show (((View.whole cc0_scratch1).slice (slotR s)).reshape S128x64 _).set = _
  rw [View.set_reshape, View.set_slice_whole]; rfl
theorem slotM_set_r (s : Dev nD) : (slotM rM ![s.val, 0, 0] (slot_inb s)).view.set = slotSet s := by
  show (((View.whole cc0_scratch2).slice (slotR s)).reshape S128x64 _).set = _
  rw [View.set_reshape, View.set_slice_whole]; rfl

theorem slotR_emb (s : Dev nD) (w : S1x128x64.Idx) : ((slotR s).emb w 0).val = s.val ∧ ((slotR s).emb w 1).val = (w 1).val ∧ ((slotR s).emb w 2).val = (w 2).val := by
  have h0 : (w 0).val < 1 := (w 0).isLt
  refine ⟨?_, ?_, ?_⟩ <;> rw [Rect.emb_apply]
  · show s.val + 1 * (w 0).val = s.val; omega
  · show 0 + 1 * (w 1).val = (w 1).val; omega
  · show 0 + 1 * (w 2).val = (w 2).val; omega

theorem zAll_emb (c s : Dev nD) (w : S1x128x64.Idx) : zAll m ρ c ((slotR s).emb w) = zpay m ρ c s.val w := by
  obtain ⟨e0, e1, e2⟩ := slotR_emb s w
  unfold zAll
  rw [e0]
  congr 1
  funext a
  have h0 : (w 0).val < 1 := (w 0).isLt
  fin_cases a
  · exact Fin.ext (by show 0 = (w 0).val; omega)
  · exact Fin.ext e1
  · exact Fin.ext e2
theorem rAll_emb (c d : Dev nD) (w : S1x128x64.Idx) : rAll m ρ d ((slotR c).emb w) = zAll m ρ c ((slotR d).emb w) := by
  obtain ⟨e0, e1, e2⟩ := slotR_emb c w
  obtain ⟨e0', e1', e2'⟩ := slotR_emb d w
  unfold rAll
  rw [e0, dv_self]
  congr 1
  funext a
  fin_cases a
  · exact Fin.ext e0'.symm
  · exact Fin.ext (e1.trans e1'.symm)
  · exact Fin.ext (e2.trans e2'.symm)

theorem access_set_z (s : Dev nD) : (zM.access (slotR s)).set = slotSet s := by
  show ((View.whole cc0_scratch1).slice (slotR s)).set = _
  rw [View.set_slice_whole]; rfl

theorem z_load (c : Dev nD) (z : ℕ) (hz : z < 32)
    {o : Fin 3 → ℕ} {h : ∀ a, o a + S1x128x64.size a ≤ S32x128x64.size a} (e : o = ![z, 0, 0])
    {hl : (zM : Memref sig .tc .vmem S32x128x64 .bf16).view.LoadsAt (Rect.unit (s := S32x128x64) o S1x128x64.size h).toLoadRect}
    {α : Type} {Q : α → sProp 𝕄} {k : Vec F S1x128x64 .bf16 → Prog (TpuEff nD τ sig (Elt F) Λ₀ .tc) α} :
    ZF c z ⊢ iprop((∀ v, ZF c z -∗ Runs c (k v) Q)
        -∗ Runs c (.op (.load zM (Rect.unit (s := S32x128x64) o S1x128x64.size h).toLoadRect hl) k) Q) := by
  have e' : o = ![(dv z).val, 0, 0] := by rw [e, dv_val, Nat.mod_eq_of_lt hz]
  clear e; subst e'
  unfold ZF
  rw [bigSep_Ico_succ_bot hz]
  iintro ⟨⟨%f, Hf⟩, HZ⟩ Hk
  unfold zPts
  iapply (wp_load_rect 𝒱₀ (c : Thread nD τ) none Set.univ (m := zM) (r := slotR (dv z)) (S := slotSet (dv z)) (f := f) (by rw [access_set_z])) $$ Hf
  iintro Hf
  iapply Hk
  isplitl [Hf]
  · iexists f; iexact Hf
  iexact HZ

theorem stored (c s : Dev nD) (f : Buf (Elt F) ((c : Thread nD τ).loc cc0_scratch1)) : ∀ i ∈ slotSet s,
    ((zM.access (slotR s)).write (Elt F) f (zpay m ρ c s.val) Finset.univ : S32x128x64.Idx → Elt F .bf16) i = zAll m ρ c i := fun i hi => by
  rw [← access_set_z] at hi
  obtain ⟨y, -, rfl⟩ := Finset.mem_map.mp hi
  rw [View.write_emb_of_mem _ _ (Finset.mem_univ y)]
  exact (zAll_emb m ρ c s y).symm
theorem stored_pts (c s : Dev nD) (f : Buf (Elt F) ((c : Thread nD τ).loc cc0_scratch1)) :
    (((zM.access (slotR s)).loc (c : Thread nD τ) ↦[slotSet s]{fullShare} ((zM.access (slotR s)).write (Elt F) f (zpay m ρ c s.val) Finset.univ)) : sProp 𝕄)
      ⊢ (((c : Thread nD τ).loc cc0_scratch1) ↦[slotSet s]{fullShare} zAll m ρ c) :=
  Entails.of_eq (pointsTo_congr (stored m ρ c s f))

theorem z_store (c : Dev nD) (a z : ℕ) (hz : z < 32) (ha : a ≤ z)
    {o : Fin 3 → ℕ} {h : ∀ a, o a + S1x128x64.size a ≤ S32x128x64.size a} (e : o = ![z, 0, 0])
    {w : FVec F S1x128x64 .bf16} (hw : w = zpay m ρ c z)
    {hx : (zM.access (Rect.unit (s := S32x128x64) o S1x128x64.size h)).Stores Finset.univ} {hm : (Finset.univ : Finset S1x128x64.Idx) = Finset.univ ∨ ∀ a, (Rect.unit (s := S32x128x64) o S1x128x64.size h).stride a = 1}
    {α : Type} {Q : α → sProp 𝕄} {k : PUnit → Prog (TpuEff nD τ sig (Elt F) Λ₀ .tc) α} :
    iprop(ZF c z ∗ ZS m ρ c a z) ⊢ iprop(((ZF c (z + 1) ∗ ZS m ρ c a (z + 1)) -∗ Runs c (k ⟨⟩) Q)
        -∗ Runs c (.op (.store zM (Rect.unit (s := S32x128x64) o S1x128x64.size h) w Finset.univ hx hm) k) Q) := by
  have ez : (dv z).val = z := by rw [dv_val, Nat.mod_eq_of_lt hz]
  have e' : o = ![(dv z).val, 0, 0] := by rw [e, ez]
  clear e; subst e'; rw [← ez] at hw; subst hw
  unfold ZF ZS
  rw [bigSep_Ico_succ_bot hz, bigSep_Ico_succ_top ha]
  iintro ⟨⟨⟨%f, Hf⟩, HZ⟩, HS⟩ Hk
  unfold zPts
  iapply (wp_store 𝒱₀ (c : Thread nD τ) none Set.univ (m := zM) (r := slotR (dv z)) (Mk := Finset.univ) (S := slotSet (dv z)) (f := f) (by
    rw [View.setOn_univ, access_set_z])) $$ Hf
  iintro Hf
  iapply Hk
  isplitl [HZ]; · iexact HZ
  isplitl [Hf]
  · iapply (stored_pts m ρ c (dv z) f); iexact Hf
  iexact HS

/-! ## Sending -/

/-- The right to send number `t`: to itself a device needs its own landing slot and the local copy's counter; to a peer the
duties on both cells and the peer's landing slot. -/
def SendR (c d : Dev nD) : sProp 𝕄 :=
  if d = c then iprop((∃ f, rPts c c f) ∗ semVal ((c : Thread nD τ), .dma copyS) 0)
  else iprop(dutyTok EX (sendCell c d) 0 c ∗ dutyTok EX (recvCell d c) 0 c ∗ ∃ f, rPts d c f)
/-- What slot `d` leaves behind once sent. -/
def Sent (c d : Dev nD) : sProp 𝕄 :=
  if d = c then iprop(rPts c c (rAll m ρ c) ∗ semVal ((c : Thread nD τ), .dma copyS) 0 ∗ zPts c c (zAll m ρ c))
  else cred (tallyAt (sendCell c d) () N)
/-- After `t` sends, with the slots of the sends below `z` filled. -/
def St (c : Dev nD) (t z : ℕ) : sProp 𝕄 :=
  iprop(Ow c 32 t ∗ bigSep (Finset.Ico t 32) (fun n => SendR c (tgt c n)) ∗ bigSep (Finset.Ico t z) (fun n => zPts c (tgt c n) (zAll m ρ c))
    ∗ bigSep (Finset.Ico 0 t) (fun n => Sent m ρ c (tgt c n)))
/-- The same with send number `t` done if it is to a peer. -/
def Mid (c : Dev nD) (t z : ℕ) : sProp 𝕄 := if tgt c t = c then St m ρ c t z else St m ρ c (t + 1) z

theorem landed (c d : Dev nD) (fd : Buf (Elt F) ((d : Thread nD τ).loc cc0_scratch2)) : ∀ i ∈ slotSet c,
    ((slotM rM ![c.val, 0, 0] (slot_inb c)).view.write (Elt F) fd ((slotM zM ![d.val, 0, 0] (slot_inb d)).view.read (Elt F) (zAll m ρ c)) Finset.univ : S32x128x64.Idx → Elt F .bf16) i
      = rAll m ρ d i := fun i hi => by
  rw [← slotM_set_r] at hi
  obtain ⟨y, -, rfl⟩ := Finset.mem_map.mp hi
  rw [View.write_emb_of_mem _ _ (Finset.mem_univ y)]
  exact (rAll_emb m ρ c d (Shape.reshapeEquiv (s := S1x128x64) (s' := S128x64) squeezes_S1x128x64_S128x64.numel_eq y)).symm

theorem landed_pts (c d : Dev nD) (fd : Buf (Elt F) ((d : Thread nD τ).loc cc0_scratch2)) :
    (((d : Thread nD τ).loc cc0_scratch2) ↦[slotSet c]{fullShare} ((slotM rM ![c.val, 0, 0] (slot_inb c)).view.write (Elt F) fd
        ((slotM zM ![d.val, 0, 0] (slot_inb d)).view.read (Elt F) (zAll m ρ c)) Finset.univ) : sProp 𝕄)
      ⊢ (((d : Thread nD τ).loc cc0_scratch2) ↦[slotSet c]{fullShare} rAll m ρ d) :=
  Entails.of_eq (pointsTo_congr (landed m ρ c d fd))

theorem remote_step (K : Cells → ℕ) (c : Dev nD) (t z : ℕ) (ht : t < z) (hz : z ≤ 32) {cnd : Prop} [Decidable cnd] (hc : cnd ↔ tgt c t ≠ c)
    {n : ℕ} {hn : cnd → n < nD} (en : n = (tgt c t).val)
    {o₁ o₂ : Fin 1 → ℕ} {o₃ o₄ : Fin 3 → ℕ} {h₁ : cnd → ∀ a, o₁ a + S1.size a ≤ S32.size a} {h₂ : cnd → ∀ a, o₂ a + S1.size a ≤ S32.size a}
    {h₃ : cnd → ∀ a, o₃ a + S1x128x64.size a ≤ S32x128x64.size a} {h₄ : cnd → ∀ a, o₄ a + S1x128x64.size a ≤ S32x128x64.size a}
    (e₁ : o₁ = ![(tgt c t).val]) (e₂ : o₂ = ![c.val]) (e₃ : o₃ = ![c.val, 0, 0]) (e₄ : o₄ = ![(tgt c t).val, 0, 0])
    {hs : ∀ h, (slotM zM o₄ (h₄ h)).view.WordExact} {hd : ∀ h, (slotM rM o₃ (h₃ h)).view.WordExact} {hsc : ∀ h, (slotM rM o₃ (h₃ h)).view.ref.isScScratch = false}
    {hty : ∀ h, DmaTarget.Typed (nD := nD) (τ := τ) (sig := sig) (p := .tc) .vmem (.dma ((cc0_scratch5.slice (Rect.unit (s := S32) o₂ S1.size (h₂ h))).squeeze S_ squeezes_S1_S_).sem)
      (.remote (Dev.tc (⟨n, hn h⟩ : Dev nD)) (slotM rM o₃ (h₃ h)) (.dma ((cc0_scratch4.slice (Rect.unit (s := S32) o₁ S1.size (h₁ h))).squeeze S_ squeezes_S1_S_).sem) (hsc h))}
    {α : Type} {Q : α → sProp 𝕄} {k : Prog (TpuEff nD τ sig (Elt F) Λ₀ .tc) α} :
    iprop(Env m ρ K ∗ St m ρ c t z) ⊢ iprop((Mid m ρ c t z -∗ Runs c k Q)
        -∗ Runs c (dite cnd (fun h => .op (.enqueueDma (slotM zM o₄ (h₄ h))
            (.remote (Dev.tc (⟨n, hn h⟩ : Dev nD)) (slotM rM o₃ (h₃ h)) (.dma ((cc0_scratch4.slice (Rect.unit (s := S32) o₁ S1.size (h₁ h))).squeeze S_ squeezes_S1_S_).sem) (hsc h))
            (.dma ((cc0_scratch5.slice (Rect.unit (s := S32) o₂ S1.size (h₂ h))).squeeze S_ squeezes_S1_S_).sem) (hs h) (hd h) (hty h)) fun _ => k) fun _ => k) Q) := by
  by_cases hcn : cnd
  · have hne := hc.mp hcn
    rw [dif_pos hcn]
    unfold Mid; rw [if_neg hne]
    generalize h₁ hcn = i₁; generalize h₂ hcn = i₂; generalize hs hcn = hs; generalize hd hcn = hd; generalize hty hcn = hty
    revert hs hd hty
    generalize hsc hcn = hsc
    revert hsc
    generalize h₃ hcn = i₃; generalize h₄ hcn = i₄
    generalize hn hcn = hn'
    subst e₃; subst e₄; subst en
    rw [send_sem (tgt c t) i₁ e₁, recv_sem c i₂ e₂]
    intro hsc hs hd hty
    have eD : (⟨(tgt c t).val, hn'⟩ : Dev nD) = tgt c t := rfl
    unfold St Ow
    have hOb : Ob c 32 t = Ob c 32 (t + 1) + tallyAt (recvCell (tgt c t) c) () N := by
      rw [Ob_send c (n := 32) (k := t) (lt_of_lt_of_le ht hz)]; unfold sndTally; rw [if_neg hne]
    rw [bigSep_Ico_succ_bot (lt_of_lt_of_le ht hz), bigSep_Ico_succ_bot ht, bigSep_Ico_succ_top (Nat.zero_le t)]
    unfold SendR Sent
    rw [if_neg hne, if_neg hne]
    iintro ⟨#HE, ⟨%W, HO⟩, ⟨⟨Hts, Htr, %f, Hr⟩, HR⟩, ⟨Hz, HZ⟩, HS⟩ Hk
    iapply (Rounds.wp_send_pointsTo 𝒱₀ EX (Rd m ρ) (c : Thread nD τ) none (c' := (tgt c t : Thread nD τ)) (src := slotM zM _ i₄) (dst := slotM rM _ i₃)
        (κ₁ := K (.inr (.inl (c, tgt c t)))) (κ₂ := K (.inr (.inr (tgt c t, c)))) (r₁ := 0) (r₂ := 0) (d₁ := c) (d₂ := c) (q := fullShare) (fs := zAll m ρ c) (fd := f)
        (by rw [duties_send, if_neg hne]; exact Finset.mem_singleton_self c) (by rw [duties_recv, if_neg hne.symm]; exact Finset.mem_singleton_self c)
        () () N rfl (amount_send m ρ c (tgt c t) c) (amount_recv m ρ (tgt c t) c c) (Ob c 32 (t + 1)) hOb (W := W)
        (by rw [payload_send]; unfold zPts; exact Entails.of_eq (by rw [← slotM_set_z (tgt c t)]))
        (by rw [payload_recv]; unfold rPts; rw [slotM_set_r c]; exact landed_pts m ρ c (tgt c t) f)) $$ [HO Hts Htr Hr Hz]
    · isplitr; · iapply (env_inv m ρ K (.inr (.inl (c, tgt c t)))); iexact HE
      isplitr; · iapply (env_inv m ρ K (.inr (.inr (tgt c t, c)))); iexact HE
      isplitl [Hz]; · unfold zPts; rw [slotM_set_z (tgt c t)]; iexact Hz
      isplitl [Hr]; · unfold rPts; rw [slotM_set_r c]; iexact Hr
      isplitl [HO]; · iexact HO
      isplitl [Hts]; · iexact Hts
      isplitr; · iapply (env_reached m ρ K (.inr (.inl (c, tgt c t)))); iexact HE
      isplitl [Htr]; · iexact Htr
      iapply (env_reached m ρ K (.inr (.inr (tgt c t, c)))); iexact HE
    iintro ⟨Hcr, HO⟩
    iapply Hk
    isplitl [HO]; · iexists W; iexact HO
    isplitl [HR]; · iexact HR
    isplitl [HZ]; · iexact HZ
    isplitl [Hcr]; · iexact Hcr
    iexact HS
  · have he : tgt c t = c := not_not.mp fun h => hcn (hc.mpr h)
    rw [dif_neg hcn]
    unfold Mid; rw [if_pos he]
    iintro ⟨-, HS⟩ Hk
    iapply Hk; iexact HS

theorem local_step (K : Cells → ℕ) (c : Dev nD) (t z : ℕ) (ht : t < z) (hz : z ≤ 32) {cnd : Prop} [Decidable cnd] (hc : cnd ↔ tgt c t = c)
    {o : Fin 3 → ℕ} {h₁ h₂ h₃ h₄ : cnd → ∀ a, o a + S1x128x64.size a ≤ S32x128x64.size a} (e : o = ![c.val, 0, 0])
    {hs : ∀ h, (slotM zM o (h₁ h)).view.WordExact} {hd : ∀ h, (slotM rM o (h₂ h)).view.WordExact}
    {hs' : ∀ h, (slotM zM o (h₃ h)).view.WordExact} {hd' : ∀ h, (slotM rM o (h₄ h)).view.WordExact}
    {hty : ∀ h, DmaTarget.Typed (nD := nD) (τ := τ) (sig := sig) (p := .tc) .vmem (.dma (cc0_scratch6 : DmaSems sig S_).sem) (.here (slotM rM o (h₂ h)))}
    {α : Type} {Q : α → sProp 𝕄} {k : Prog (TpuEff nD τ sig (Elt F) Λ₀ .tc) α} :
    iprop(Env m ρ K ∗ Mid m ρ c t z) ⊢ iprop((St m ρ c (t + 1) z -∗ Runs c k Q)
        -∗ Runs c (dite cnd (fun h => .op (.enqueueDma (slotM zM o (h₁ h)) (.here (slotM rM o (h₂ h))) (.dma (cc0_scratch6 : DmaSems sig S_).sem) (hs h) (hd h) (hty h)) fun _ =>
            .op (.waitDma2 (cc0_scratch6 : DmaSems sig S_).sem (slotM zM o (h₃ h)) (slotM rM o (h₄ h)) (hs' h) (hd' h)) fun _ => k) fun _ => k) Q) := by
  by_cases hcn : cnd
  · have he := hc.mp hcn
    rw [dif_pos hcn]
    unfold Mid; rw [if_pos he]
    generalize hs hcn = hs; generalize hd hcn = hd; generalize hs' hcn = hs'; generalize hd' hcn = hd'; generalize hty hcn = hty
    revert hs hd hs' hd' hty
    generalize h₁ hcn = i₁; generalize h₂ hcn = i₂; generalize h₃ hcn = i₃; generalize h₄ hcn = i₄
    subst e
    rw [copy_sem]
    intro hs hd hs' hd' hty
    unfold St Ow
    have hOb : Ob c 32 t = Ob c 32 (t + 1) := by
      rw [Ob_send c (n := 32) (k := t) (lt_of_lt_of_le ht hz)]; unfold sndTally; rw [if_pos he, add_zero]
    rw [bigSep_Ico_succ_bot (lt_of_lt_of_le ht hz), bigSep_Ico_succ_bot ht, bigSep_Ico_succ_top (Nat.zero_le t), he, hOb]
    unfold SendR Sent
    rw [if_pos rfl, if_pos rfl]
    iintro ⟨#HE, ⟨%W, HO⟩, ⟨⟨⟨%f, Hr⟩, Hv⟩, HR⟩, ⟨Hz, HZ⟩, HS⟩ Hk
    iapply (Transfers.wp_dmaLocal EC 𝒱₀ (c : Thread nD τ) none (src := slotM zM _ i₁) (dst := slotM rM _ i₂) (q := fullShare) (fs := zAll m ρ c) (fd := f) () N rfl N_pos (Sd := slotSet c) (by rw [← slotM_set_r c])) $$ [Hz Hr Hv]
    · isplitl [Hz]; · unfold zPts; rw [slotM_set_z c]; iexact Hz
      isplitl [Hr]; · unfold rPts; iexact Hr
      iexact Hv
    iintro HFl
    iapply (Transfers.wp_waitLocalO EC 𝒱₀ (c : Thread nD τ) none (srcw := slotM zM _ i₃) (dstw := slotM rM _ i₄) (hsrc := hs') (hdst := hd') () (N := N) rfl) $$ [HFl HO]
    · isplitl [HFl]; · iexact HFl
      isplitl [HO]; · iexact HO
      iapply (env_wait_low m ρ K c (.dma copyS) (by unfold lv; rw [use_copy]) 32 (t + 1)); iexact HE
    iintro ⟨⟨Hr, Hz⟩, Hv, HO⟩
    iapply Hk
    isplitl [HO]; · iexists _; iexact HO
    isplitl [HR]; · iexact HR
    isplitl [HZ]; · iexact HZ
    isplitl [Hr Hz Hv]
    · isplitl [Hr]
      · unfold rPts; iapply (landed_pts m ρ c c f); iexact Hr
      isplitl [Hv]; · iexact Hv
      unfold zPts; rw [← slotM_set_z c]; iexact Hz
    iexact HS
  · have hne : tgt c t ≠ c := fun h => hcn (hc.mpr h)
    rw [dif_neg hcn]
    unfold Mid; rw [if_neg hne]
    iintro ⟨-, HS⟩ Hk
    iapply Hk; iexact HS

/-! ## The waits -/

/-- The receives: from `h` on still to come, below it landed. -/
def Rcv (c : Dev nD) (h : ℕ) : sProp 𝕄 :=
  iprop(bigSep (Finset.Ico h 32) (fun n => iprop(atPos EX (recvCell c (dn c n)) 0 ∅ 0 ∗ cred (tallyAt (recvCell c (dn c n)) () N)))
    ∗ bigSep (Finset.Ico 1 h) (fun n => iprop(atPos EX (recvCell c (dn c n)) 1 ∅ 0 ∗ rPts c (dn c n) (rAll m ρ c))))

theorem env_wait_done (K : Cells → ℕ) (c : Dev nD) (sm : SemLoc sig) : Env m ρ K ⊢ MayWait (c : Thread nD τ) sm () (Ob c 32 32) := by
  rw [Ob_done]
  rw [MayWait_zero]; iintro -; iempintro

theorem recv_step (K : Cells → ℕ) (c : Dev nD) (n : ℕ) (h0 : 0 < n) (hn : n < 32)
    {o₁ : Fin 1 → ℕ} {o₂ o₃ : Fin 3 → ℕ} {h₁ : ∀ a, o₁ a + S1.size a ≤ S32.size a}
    {h₂ : ∀ a, o₂ a + S1x128x64.size a ≤ S32x128x64.size a} {h₃ : ∀ a, o₃ a + S1x128x64.size a ≤ S32x128x64.size a}
    (e₁ : o₁ = ![(dn c n).val]) {hs : (slotM zM o₃ h₃).view.WordExact} {hd : (slotM rM o₂ h₂).view.WordExact}
    {α : Type} {Q : α → sProp 𝕄} {k : PUnit → Prog (TpuEff nD τ sig (Elt F) Λ₀ .tc) α} :
    iprop(Env m ρ K ∗ Ow c 32 32 ∗ Rcv m ρ c n) ⊢ iprop((Ow c 32 32 ∗ Rcv m ρ c (n + 1) -∗ Runs c (k ⟨⟩) Q)
        -∗ Runs c (.op (.waitDma2 ((cc0_scratch5.slice (Rect.unit (s := S32) o₁ S1.size h₁)).squeeze S_ squeezes_S1_S_).sem (slotM zM o₃ h₃) (slotM rM o₂ h₂) hs hd) k) Q) := by
  rw [recv_sem (dn c n) h₁ e₁]
  have hne := dn_ne c h0 hn
  have hw : ∀ X : PUnit → sProp 𝕄, wpE (defs₀ (F := F)) 𝒱₀ (c : Thread nD τ) none Set.univ (.waitDma2 (recvS (dn c n)) (slotM zM o₃ h₃) (slotM rM o₂ h₂) hs hd) X
      = waitSpec (c : Thread nD τ) Set.univ (.dma (recvS (dn c n))) N X := fun X => wpE_waitDma2_eq 𝒱₀ (c : Thread nD τ) none Set.univ X
  unfold Ow Rcv
  rw [bigSep_Ico_succ_bot hn, bigSep_Ico_succ_top (show 1 ≤ n from h0)]
  iintro ⟨#HE, ⟨%W, HO⟩, ⟨⟨Hat, Hc⟩, HR⟩, HD⟩ Hk
  iapply (Rounds.wp_wait_rest_token 𝒱₀ EX (Rd m ρ) (c : Thread nD τ) none (κ := K (.inr (.inr (c, dn c n)))) (k' := N)
      hw (Set.mem_univ _) () (O := Ob c 32 32) (W := W) (R := 0) (m := 0) (T := ∅)
      (by rw [expect_recv m ρ c (dn c n) hne, Nat.zero_add])) $$ [Hc HO Hat]
  · isplitr; · iapply (env_inv m ρ K (.inr (.inr (c, dn c n)))); iexact HE
    isplitl [Hc]; · iexact Hc
    isplitl [HO]; · iexact HO
    isplitr; · iapply (env_wait_done m ρ K c (.dma (recvS (dn c n)))); iexact HE
    iexact Hat
  iintro ⟨HO, Hat, -, Hpay⟩
  ihave Hp := (Entails.of_eq (rest_recv m ρ c (dn c n) hne)) $$ Hpay
  iapply Hk
  isplitl [HO]; · iexists _; iexact HO
  isplitl [HR]; · iexact HR
  isplitl [Hat Hp]
  · isplitl [Hat]; · iexact Hat
    iexact Hp
  iexact HD

/-- What the send cell of slot `s` comes to. -/
def Back (c s : Dev nD) : sProp 𝕄 :=
  if s = c then iprop(atPos EX (sendCell c c) 0 ∅ 0 ∗ rPts c c (rAll m ρ c) ∗ semVal ((c : Thread nD τ), .dma copyS) 0 ∗ zPts c c (zAll m ρ c))
  else iprop(atPos EX (sendCell c s) 1 ∅ 0 ∗ zPts c s (zAll m ρ c))
/-- The sends, all issued: from `s` on not waited for, below it back. -/
def Snt (c : Dev nD) (s : ℕ) : sProp 𝕄 :=
  iprop(bigSep (Finset.Ico s 32) (fun n => iprop(atPos EX (sendCell c (dv n)) 0 ∅ 0 ∗ Sent m ρ c (dv n))) ∗ bigSep (Finset.Ico 0 s) (fun n => Back m ρ c (dv n)))

theorem sent_step (K : Cells → ℕ) (c : Dev nD) (n : ℕ) (hn : n < 32) {cnd : Prop} [Decidable cnd] (hc : cnd ↔ dv n ≠ c)
    {o₁ : Fin 1 → ℕ} {o₂ o₃ : Fin 3 → ℕ} {h₁ : cnd → ∀ a, o₁ a + S1.size a ≤ S32.size a}
    {h₂ : cnd → ∀ a, o₂ a + S1x128x64.size a ≤ S32x128x64.size a} {h₃ : cnd → ∀ a, o₃ a + S1x128x64.size a ≤ S32x128x64.size a}
    (e₁ : o₁ = ![n]) {hs : ∀ h, (slotM rM o₂ (h₂ h)).view.WordExact} {hd : ∀ h, (slotM zM o₃ (h₃ h)).view.WordExact}
    {α : Type} {Q : α → sProp 𝕄} {k : Prog (TpuEff nD τ sig (Elt F) Λ₀ .tc) α} :
    iprop(Env m ρ K ∗ Ow c 32 32 ∗ Snt m ρ c n) ⊢ iprop((Ow c 32 32 ∗ Snt m ρ c (n + 1) -∗ Runs c k Q)
        -∗ Runs c (dite cnd (fun h => .op (.waitDma2 ((cc0_scratch4.slice (Rect.unit (s := S32) o₁ S1.size (h₁ h))).squeeze S_ squeezes_S1_S_).sem (slotM rM o₂ (h₂ h)) (slotM zM o₃ (h₃ h)) (hs h) (hd h)) fun _ => k) fun _ => k) Q) := by
  have ez : (dv n).val = n := by rw [dv_val, Nat.mod_eq_of_lt hn]
  unfold Snt
  rw [bigSep_Ico_succ_bot hn, bigSep_Ico_succ_top (Nat.zero_le n)]
  by_cases hcn : cnd
  · have hne := hc.mp hcn
    rw [dif_pos hcn]
    generalize h₁ hcn = i₁; generalize hs hcn = hs; generalize hd hcn = hd
    revert hs hd
    generalize h₂ hcn = i₂; generalize h₃ hcn = i₃
    intro hs hd
    rw [send_sem (dv n) i₁ (by rw [e₁, ez])]
    have hw : ∀ X : PUnit → sProp 𝕄, wpE (defs₀ (F := F)) 𝒱₀ (c : Thread nD τ) none Set.univ (.waitDma2 (sendS (dv n)) (slotM rM o₂ i₂) (slotM zM o₃ i₃) hs hd) X
        = waitSpec (c : Thread nD τ) Set.univ (.dma (sendS (dv n))) N X := fun X => wpE_waitDma2_eq 𝒱₀ (c : Thread nD τ) none Set.univ X
    unfold Ow Sent Back
    rw [if_neg hne, if_neg hne]
    iintro ⟨#HE, ⟨%W, HO⟩, ⟨⟨Hat, Hc⟩, HR⟩, HD⟩ Hk
    iapply (Rounds.wp_wait_rest_token 𝒱₀ EX (Rd m ρ) (c : Thread nD τ) none (κ := K (.inr (.inl (c, dv n)))) (k' := N)
        hw (Set.mem_univ _) () (O := Ob c 32 32) (W := W) (R := 0) (m := 0) (T := ∅)
        (by rw [expect_send m ρ c (dv n) hne, Nat.zero_add])) $$ [Hc HO Hat]
    · isplitr; · iapply (env_inv m ρ K (.inr (.inl (c, dv n)))); iexact HE
      isplitl [Hc]; · iexact Hc
      isplitl [HO]; · iexact HO
      isplitr; · iapply (env_wait_done m ρ K c (.dma (sendS (dv n)))); iexact HE
      iexact Hat
    iintro ⟨HO, Hat, -, Hpay⟩
    ihave Hp := (Entails.of_eq (rest_send m ρ c (dv n) hne)) $$ Hpay
    iapply Hk
    isplitl [HO]; · iexists _; iexact HO
    isplitl [HR]; · iexact HR
    isplitl [Hat Hp]
    · isplitl [Hat]; · iexact Hat
      iexact Hp
    iexact HD
  · have he : dv n = c := not_not.mp fun h => hcn (hc.mpr h)
    rw [dif_neg hcn, he]
    unfold Sent Back
    rw [if_pos rfl, if_pos rfl]
    iintro ⟨-, HO, ⟨Hb, HR⟩, HD⟩ Hk
    iapply Hk
    isplitl [HO]; · iexact HO
    isplitl [HR]; · iexact HR
    isplitl [Hb]; · iexact Hb
    iexact HD

end Cert.KernelIdealRun

end
-- ==== Proof.KernelIdealRules.lean ====
/-
# The exchange: pieces of the program and their rules

The program is printed in pieces; `Piece` says what one piece takes and leaves. Each rule of the two modules before this one
becomes a rule for the head of a piece, the whole state carried along.
-/
module

public import proofs.«01_k».proof.Proof.KernelIdealSends
public import Idealize.SL.ProofMode.BigOp

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A piece of the program -/

/-- From `A`, on device `c`, the piece `p` runs and comes to `B` with a result of which `V` holds. -/
def Piece (K : Cells → ℕ) (c : Dev nD) {β : Type} (p : Prog (TpuEff nD τ sig (Elt F) Λ₀ .tc) β) (A B : sProp 𝕄) (V : β → Prop) : Prop :=
  ∀ Q : β → sProp 𝕄, iprop(Env m ρ K ∗ A ∗ (∀ r, ⌜V r⌝ -∗ B -∗ Q r)) ⊢ Runs c p Q

section Pieces
variable {m ρ}
variable {K : Cells → ℕ} {c : Dev nD} {β γ : Type}

theorem Piece.ret {A : sProp 𝕄} {V : β → Prop} {r : β} (h : V r) : Piece m ρ K c (.ret r) A A V := fun Q => by
  iintro ⟨-, HA, HQ⟩
  unfold Runs
  rw [wp_ret]
  imodintro
  iapply HQ $$ [] HA
  ipureintro; exact h
theorem Piece.bind {A B C : sProp 𝕄} {p : Prog (TpuEff nD τ sig (Elt F) Λ₀ .tc) β} {k : β → Prog (TpuEff nD τ sig (Elt F) Λ₀ .tc) γ} {V : β → Prop} {W : γ → Prop}
    (h : Piece m ρ K c p A B V) (hk : ∀ r, V r → Piece m ρ K c (k r) (B) C W) : Piece m ρ K c (p.bind k) A C W := fun Q => by
  iintro ⟨#HE, HA, HQ⟩
  unfold Runs
  rw [show p.bind k = p >>= k from rfl, wp_bind]
  iapply (h _)
  isplitr; · iexact HE
  isplitl [HA]; · iexact HA
  iintro %r %hr HB
  iapply (hk r hr Q)
  isplitr; · iexact HE
  isplitl [HB]; · iexact HB
  iexact HQ
theorem Piece.frame {A B R : sProp 𝕄} {p : Prog (TpuEff nD τ sig (Elt F) Λ₀ .tc) β} {V : β → Prop} (h : Piece m ρ K c p A B V) : Piece m ρ K c p iprop(A ∗ R) iprop(B ∗ R) V := fun Q => by
  iintro ⟨#HE, ⟨HA, HR⟩, HQ⟩
  iapply (h Q)
  isplitr; · iexact HE
  isplitl [HA]; · iexact HA
  iintro %r %hr HB
  iapply HQ $$ [] [HB HR]
  · ipureintro; exact hr
  isplitl [HB] <;> iassumption
theorem Piece.pre {A A' B : sProp 𝕄} {p : Prog (TpuEff nD τ sig (Elt F) Λ₀ .tc) β} {V : β → Prop} (h : Piece m ρ K c p A B V) (hA : A' ⊢ A) : Piece m ρ K c p A' B V := fun Q => by
  iintro ⟨HE, HA, HQ⟩
  iapply (h Q)
  isplitl [HE]; · iexact HE
  isplitl [HA]; · iapply hA; iexact HA
  iexact HQ
/-- A piece of a program whose rest needs what this piece leaves alone. -/
theorem Piece.bindF {A B C R : sProp 𝕄} {p : Prog (TpuEff nD τ sig (Elt F) Λ₀ .tc) β} {k : β → Prog (TpuEff nD τ sig (Elt F) Λ₀ .tc) γ} {V : β → Prop} {W : γ → Prop}
    (h : Piece m ρ K c p A B V) (hk : ∀ r, V r → Piece m ρ K c (k r) iprop(B ∗ R) C W) : Piece m ρ K c (p.bind k) iprop(A ∗ R) C W :=
  Piece.bind h.frame hk
/-- One step, by its rule. -/
theorem Piece.step {A B C : sProp 𝕄} {p p' : Prog (TpuEff nD τ sig (Elt F) Λ₀ .tc) β} {V : β → Prop}
    (h : ∀ Q : β → sProp 𝕄, iprop(Env m ρ K ∗ A) ⊢ iprop((B -∗ Runs c p' Q) -∗ Runs c p Q)) (hk : Piece m ρ K c p' B C V) : Piece m ρ K c p A C V := fun Q => by
  iintro ⟨#HE, HA, HQ⟩
  iapply (h Q) $$ [HA]
  · isplitr; · iexact HE
    iexact HA
  iintro HB
  iapply (hk Q)
  isplitr; · iexact HE
  isplitl [HB]; · iexact HB
  iexact HQ

end Pieces

/-! ## The state between two steps -/

/-- What is owed, `Y`, the chunks, and the outgoing slots: filled from `z` to `f`, free from `f` on. -/
def Main (c : Dev nD) (n k : ℕ) (Y : sProp 𝕄) (a w b z f : ℕ) : sProp 𝕄 :=
  iprop(Ow c n k ∗ Y ∗ Lds m ρ c a w b ∗ ZF c f ∗ ZS m ρ c z f)
/-- The sends after `t` of them, with the slots of those below `z` filled. -/
def Snds (c : Dev nD) (t z : ℕ) : sProp 𝕄 :=
  iprop(bigSep (Finset.Ico t 32) (fun n => SendR c (tgt c n)) ∗ bigSep (Finset.Ico t z) (fun n => zPts c (tgt c n) (zAll m ρ c))
    ∗ bigSep (Finset.Ico 0 t) (fun n => Sent m ρ c (tgt c n)))
/-- The same with send number `t` done if it is to a peer. -/
def MidMain (c : Dev nD) (t z : ℕ) (R : sProp 𝕄) (a w b f : ℕ) : sProp 𝕄 :=
  if tgt c t = c then Main m ρ c 32 t iprop(Snds m ρ c t z ∗ R) a w b z f else Main m ρ c 32 (t + 1) iprop(Snds m ρ c (t + 1) z ∗ R) a w b z f

/-- Every send issued; receives from `h` on and send cells from `s` on still to wait for. -/
def Tail (c : Dev nD) (h s : ℕ) : sProp 𝕄 := iprop(Ow c 32 32 ∗ Rcv m ρ c h ∗ Snt m ρ c s)

section Rules
variable {m ρ}
variable {K : Cells → ℕ} {c : Dev nD} {β : Type} {V : β → Prop} {n t a w b z f : ℕ}

theorem p_sig {C R : sProp 𝕄} (h0 : 0 < n) (hn : n < 32) {d : Dev nD → Dev nD} (hd : ∀ c : Dev nD, (d c).val = (c.val + n) % 32)
    {u : Sem sig} (hu : u = barS) {x : ℕ} (hx : x = 1) {k : PUnit → Prog (TpuEff nD τ sig (Elt F) Λ₀ .tc) β}
    (hk : Piece m ρ K c (k ⟨⟩) (Main m ρ c (n + 1) 0 iprop(Sigs c (n + 1) ∗ R) a w b z f) C V) :
    Piece m ρ K c (.op (.semSignal (d c : Thread nD τ) u x) k) (Main m ρ c n 0 iprop(Sigs c n ∗ R) a w b z f) C V :=
  Piece.step (fun Q => by
    unfold Main
    iintro ⟨#HE, HO, ⟨HY, HG⟩, HR⟩ Hk
    iapply (sig_step m ρ K c n h0 hn (hd c) hu hx) $$ [HO HY]
    · isplitr; · iexact HE
      isplitl [HO] <;> iassumption
    iintro ⟨HO, HY⟩
    iapply Hk
    isplitl [HO]; · iexact HO
    isplitl [HY HG]
    · isplitl [HY] <;> iassumption
    iexact HR) hk

theorem p_issue {C Y : sProp 𝕄} (hb : b < 16) (hab : b < a + 8) (hw : w ≤ b)
    {o₁ : Fin 2 → ℕ} {o₂ : Fin 3 → ℕ} {o₃ : Fin 1 → ℕ} {h₁ : ∀ a, o₁ a + S1024x512.size a ≤ S4096x2048.size a}
    {h₂ : ∀ a, o₂ a + S1x1024x512.size a ≤ S8x1024x512.size a} {h₃ : ∀ a, o₃ a + S1.size a ≤ S8.size a}
    (e₁ : o₁ = ![1024 * (b % 4), 512 * (b / 4 % 4)]) (e₂ : o₂ = ![b % 8, 0, 0]) (e₃ : o₃ = ![b % 8])
    {hs : (chunkM o₁ h₁).view.WordExact} {hd : (bslotM o₂ h₂).view.WordExact}
    {ht : DmaTarget.Typed (nD := nD) (τ := τ) (sig := sig) (p := .tc) .hbm (.dma ((cc0_scratch3.slice (Rect.unit (s := S8) o₃ S1.size h₃)).squeeze S_ squeezes_S1_S_).sem) (.here (bslotM o₂ h₂))}
    {k : PUnit → Prog (TpuEff nD τ sig (Elt F) Λ₀ .tc) β}
    (hk : Piece m ρ K c (k ⟨⟩) (Main m ρ c n t Y a w (b + 1) z f) C V) :
    Piece m ρ K c (.op (.enqueueDma (chunkM o₁ h₁) (.here (bslotM o₂ h₂)) (.dma ((cc0_scratch3.slice (Rect.unit (s := S8) o₃ S1.size h₃)).squeeze S_ squeezes_S1_S_).sem) hs hd ht) k)
      (Main m ρ c n t Y a w b z f) C V :=
  Piece.step (fun Q => by
    unfold Main
    iintro ⟨-, HO, HY, HL, HR⟩ Hk
    iapply (issue_step m ρ c a w b hb hab hw e₁ e₂ e₃) $$ HL
    iintro HL
    iapply Hk
    isplitl [HO]; · iexact HO
    isplitl [HY]; · iexact HY
    isplitl [HL]; · iexact HL
    iexact HR) hk

theorem p_wait {C Y : sProp 𝕄} (haw : a ≤ w) (hw : w < b)
    {o₁ : Fin 2 → ℕ} {o₂ : Fin 3 → ℕ} {o₃ : Fin 1 → ℕ} {h₁ : ∀ a, o₁ a + S1024x512.size a ≤ S4096x2048.size a}
    {h₂ : ∀ a, o₂ a + S1x1024x512.size a ≤ S8x1024x512.size a} {h₃ : ∀ a, o₃ a + S1.size a ≤ S8.size a}
    (e₃ : o₃ = ![w % 8]) {hs : (chunkM o₁ h₁).view.WordExact} {hd : (bslotM o₂ h₂).view.WordExact}
    {k : PUnit → Prog (TpuEff nD τ sig (Elt F) Λ₀ .tc) β}
    (hk : Piece m ρ K c (k ⟨⟩) (Main m ρ c n t Y a (w + 1) b z f) C V) :
    Piece m ρ K c (.op (.waitDma2 ((cc0_scratch3.slice (Rect.unit (s := S8) o₃ S1.size h₃)).squeeze S_ squeezes_S1_S_).sem (chunkM o₁ h₁) (bslotM o₂ h₂) hs hd) k)
      (Main m ρ c n t Y a w b z f) C V :=
  Piece.step (fun Q => by
    unfold Main
    iintro ⟨#HE, HO, HY, HL, HR⟩ Hk
    iapply (wait_step m ρ K c n t a w b haw hw e₃) $$ [HO HL]
    · isplitr; · iexact HE
      isplitl [HO] <;> iassumption
    iintro ⟨HO, HL⟩
    iapply Hk
    isplitl [HO]; · iexact HO
    isplitl [HY]; · iexact HY
    isplitl [HL]; · iexact HL
    iexact HR) hk

theorem p_load {C Y : sProp 𝕄} (haw : a < w) (hb : b ≤ a + 8)
    {o : Fin 3 → ℕ} {h : ∀ a, o a + S1x1024x512.size a ≤ S8x1024x512.size a} (e : o = ![a % 8, 0, 0])
    {hl : (bM : Memref sig .tc .vmem S8x1024x512 .f32).view.LoadsAt (Rect.unit (s := S8x1024x512) o S1x1024x512.size h).toLoadRect}
    {k : Vec F S1x1024x512 .f32 → Prog (TpuEff nD τ sig (Elt F) Λ₀ .tc) β}
    (hk : Piece m ρ K c (k (wch m ρ c a)) (Main m ρ c n t Y (a + 1) w b z f) C V) :
    Piece m ρ K c (.op (.load bM (Rect.unit (s := S8x1024x512) o S1x1024x512.size h).toLoadRect hl) k) (Main m ρ c n t Y a w b z f) C V :=
  Piece.step (fun Q => by
    unfold Main
    iintro ⟨-, HO, HY, HL, HR⟩ Hk
    iapply (load_step m ρ c a w b haw hb e) $$ HL
    iintro HL
    iapply Hk
    isplitl [HO]; · iexact HO
    isplitl [HY]; · iexact HY
    isplitl [HL]; · iexact HL
    iexact HR) hk

theorem p_zload {C Y : sProp 𝕄} (hf : f < 32)
    {o : Fin 3 → ℕ} {h : ∀ a, o a + S1x128x64.size a ≤ S32x128x64.size a} (e : o = ![f, 0, 0])
    {hl : (zM : Memref sig .tc .vmem S32x128x64 .bf16).view.LoadsAt (Rect.unit (s := S32x128x64) o S1x128x64.size h).toLoadRect}
    {k : Vec F S1x128x64 .bf16 → Prog (TpuEff nD τ sig (Elt F) Λ₀ .tc) β}
    (hk : ∀ v, Piece m ρ K c (k v) (Main m ρ c n t Y a w b z f) C V) :
    Piece m ρ K c (.op (.load zM (Rect.unit (s := S32x128x64) o S1x128x64.size h).toLoadRect hl) k) (Main m ρ c n t Y a w b z f) C V := fun Q => by
  unfold Main
  iintro ⟨#HE, ⟨HO, HY, HL, HF, HR⟩, HQ⟩
  iapply (z_load c f hf e) $$ HF
  iintro %v HF
  iapply (hk v Q)
  isplitr; · iexact HE
  isplitr [HQ]
  · unfold Main
    isplitl [HO]; · iexact HO
    isplitl [HY]; · iexact HY
    isplitl [HL]; · iexact HL
    isplitl [HF]; · iexact HF
    iexact HR
  iexact HQ

theorem p_zstore {C Y : sProp 𝕄} (hf : f < 32) (hz : z ≤ f)
    {o : Fin 3 → ℕ} {h : ∀ a, o a + S1x128x64.size a ≤ S32x128x64.size a} (e : o = ![f, 0, 0])
    {x : FVec F S1x128x64 .bf16} (hx : x = zpay m ρ c f)
    {hst : (zM.access (Rect.unit (s := S32x128x64) o S1x128x64.size h)).Stores Finset.univ} {hm : (Finset.univ : Finset S1x128x64.Idx) = Finset.univ ∨ ∀ a, (Rect.unit (s := S32x128x64) o S1x128x64.size h).stride a = 1}
    {k : PUnit → Prog (TpuEff nD τ sig (Elt F) Λ₀ .tc) β}
    (hk : Piece m ρ K c (k ⟨⟩) (Main m ρ c n t Y a w b z (f + 1)) C V) :
    Piece m ρ K c (.op (.store zM (Rect.unit (s := S32x128x64) o S1x128x64.size h) x Finset.univ hst hm) k) (Main m ρ c n t Y a w b z f) C V :=
  Piece.step (fun Q => by
    unfold Main
    iintro ⟨-, HO, HY, HL, HF, HS⟩ Hk
    iapply (z_store m ρ c z f hf hz e hx) $$ [HF HS]
    · isplitl [HF] <;> iassumption
    iintro ⟨HF, HS⟩
    iapply Hk
    isplitl [HO]; · iexact HO
    isplitl [HY]; · iexact HY
    isplitl [HL]; · iexact HL
    isplitl [HF] <;> iassumption) hk

/-- What is to be known of the numbers printed for send number `t`: when it is to a peer, the peer, the offsets. -/
def SendFacts (t : ℕ) (cnd : Dev nD → BitVec 1) (n : Dev nD → ℕ) (o₁ o₂ : Dev nD → Fin 1 → ℕ) (o₃ o₄ : Dev nD → Fin 3 → ℕ) : Prop :=
  ∀ c : Dev nD, (cnd c = 1#1 ↔ tgt c t ≠ c) ∧ n c = (tgt c t).val ∧ o₁ c = ![(tgt c t).val] ∧ o₂ c = ![c.val] ∧ o₃ c = ![c.val, 0, 0] ∧ o₄ c = ![(tgt c t).val, 0, 0]
instance (t : ℕ) (cnd : Dev nD → BitVec 1) (n : Dev nD → ℕ) (o₁ o₂ : Dev nD → Fin 1 → ℕ) (o₃ o₄ : Dev nD → Fin 3 → ℕ) : Decidable (SendFacts t cnd n o₁ o₂ o₃ o₄) := by
  unfold SendFacts; infer_instance
/-- The same of its local copy. -/
def OwnFacts (t : ℕ) (cnd : Dev nD → BitVec 1) (o : Dev nD → Fin 3 → ℕ) : Prop := ∀ c : Dev nD, (cnd c = 1#1 ↔ tgt c t = c) ∧ o c = ![c.val, 0, 0]
instance (t : ℕ) (cnd : Dev nD → BitVec 1) (o : Dev nD → Fin 3 → ℕ) : Decidable (OwnFacts t cnd o) := by
  unfold OwnFacts; infer_instance

theorem p_remote {C R : sProp 𝕄} {cnd : Dev nD → BitVec 1} {e : Dev nD → ℕ} {o₁ o₂ : Dev nD → Fin 1 → ℕ} {o₃ o₄ : Dev nD → Fin 3 → ℕ} (hF : SendFacts t cnd e o₁ o₂ o₃ o₄) (ht : t < z) (hz : z ≤ 32)
    {he : cnd c = 1#1 → e c < nD} {h₁ : cnd c = 1#1 → ∀ a, o₁ c a + S1.size a ≤ S32.size a} {h₂ : cnd c = 1#1 → ∀ a, o₂ c a + S1.size a ≤ S32.size a}
    {h₃ : cnd c = 1#1 → ∀ a, o₃ c a + S1x128x64.size a ≤ S32x128x64.size a} {h₄ : cnd c = 1#1 → ∀ a, o₄ c a + S1x128x64.size a ≤ S32x128x64.size a}
    {hs : ∀ h, (slotM zM (o₄ c) (h₄ h)).view.WordExact} {hd : ∀ h, (slotM rM (o₃ c) (h₃ h)).view.WordExact} {hsc : ∀ h, (slotM rM (o₃ c) (h₃ h)).view.ref.isScScratch = false}
    {hty : ∀ h, DmaTarget.Typed (nD := nD) (τ := τ) (sig := sig) (p := .tc) .vmem (.dma ((cc0_scratch5.slice (Rect.unit (s := S32) (o₂ c) S1.size (h₂ h))).squeeze S_ squeezes_S1_S_).sem)
      (.remote (Dev.tc (⟨e c, he h⟩ : Dev nD)) (slotM rM (o₃ c) (h₃ h)) (.dma ((cc0_scratch4.slice (Rect.unit (s := S32) (o₁ c) S1.size (h₁ h))).squeeze S_ squeezes_S1_S_).sem) (hsc h))}
    {k : Prog (TpuEff nD τ sig (Elt F) Λ₀ .tc) β} (hk : Piece m ρ K c k (MidMain m ρ c t z R a w b f) C V) :
    Piece m ρ K c (dite (cnd c = 1#1) (fun h => .op (.enqueueDma (slotM zM (o₄ c) (h₄ h))
            (.remote (Dev.tc (⟨e c, he h⟩ : Dev nD)) (slotM rM (o₃ c) (h₃ h)) (.dma ((cc0_scratch4.slice (Rect.unit (s := S32) (o₁ c) S1.size (h₁ h))).squeeze S_ squeezes_S1_S_).sem) (hsc h))
            (.dma ((cc0_scratch5.slice (Rect.unit (s := S32) (o₂ c) S1.size (h₂ h))).squeeze S_ squeezes_S1_S_).sem) (hs h) (hd h) (hty h)) fun _ => k) fun _ => k)
      (Main m ρ c 32 t iprop(Snds m ρ c t z ∗ R) a w b z f) C V :=
  Piece.step (fun Q => by
    obtain ⟨f0, f1, f2, f3, f4, f5⟩ := hF c
    have hM : iprop(Mid m ρ c t z ∗ R ∗ Lds m ρ c a w b ∗ ZF c f ∗ ZS m ρ c z f) ⊢ MidMain m ρ c t z R a w b f := by
      unfold Mid MidMain Main
      by_cases h : tgt c t = c
      · rw [if_pos h, if_pos h]; unfold St Snds
        iintro ⟨⟨HO, HY⟩, HG, HR⟩
        isplitl [HO]; · iexact HO
        isplitl [HY HG]
        · isplitl [HY] <;> iassumption
        iexact HR
      · rw [if_neg h, if_neg h]; unfold St Snds
        iintro ⟨⟨HO, HY⟩, HG, HR⟩
        isplitl [HO]; · iexact HO
        isplitl [HY HG]
        · isplitl [HY] <;> iassumption
        iexact HR
    unfold Main
    iintro ⟨#HE, HO, ⟨HY, HG⟩, HR⟩ Hk
    iapply (remote_step m ρ K c t z ht hz f0 f1 f2 f3 f4 f5) $$ [HO HY]
    · isplitr; · iexact HE
      unfold St Snds
      isplitl [HO] <;> iassumption
    iintro HM
    iapply Hk
    iapply hM
    isplitl [HM]; · iexact HM
    isplitl [HG] <;> iassumption) hk

theorem p_own {C R : sProp 𝕄} {cnd : Dev nD → BitVec 1} {o : Dev nD → Fin 3 → ℕ} (hF : OwnFacts t cnd o) (ht : t < z) (hz : z ≤ 32)
    {h₁ h₂ h₃ h₄ : cnd c = 1#1 → ∀ a, o c a + S1x128x64.size a ≤ S32x128x64.size a}
    {hs : ∀ h, (slotM zM (o c) (h₁ h)).view.WordExact} {hd : ∀ h, (slotM rM (o c) (h₂ h)).view.WordExact}
    {hs' : ∀ h, (slotM zM (o c) (h₃ h)).view.WordExact} {hd' : ∀ h, (slotM rM (o c) (h₄ h)).view.WordExact}
    {hty : ∀ h, DmaTarget.Typed (nD := nD) (τ := τ) (sig := sig) (p := .tc) .vmem (.dma (cc0_scratch6 : DmaSems sig S_).sem) (.here (slotM rM (o c) (h₂ h)))}
    {k : Prog (TpuEff nD τ sig (Elt F) Λ₀ .tc) β} (hk : Piece m ρ K c k (Main m ρ c 32 (t + 1) iprop(Snds m ρ c (t + 1) z ∗ R) a w b z f) C V) :
    Piece m ρ K c (dite (cnd c = 1#1) (fun h => .op (.enqueueDma (slotM zM (o c) (h₁ h)) (.here (slotM rM (o c) (h₂ h))) (.dma (cc0_scratch6 : DmaSems sig S_).sem) (hs h) (hd h) (hty h)) fun _ =>
            .op (.waitDma2 (cc0_scratch6 : DmaSems sig S_).sem (slotM zM (o c) (h₃ h)) (slotM rM (o c) (h₄ h)) (hs' h) (hd' h)) fun _ => k) fun _ => k)
      (MidMain m ρ c t z R a w b f) C V :=
  Piece.step (fun Q => by
    obtain ⟨f0, f1⟩ := hF c
    have hM : MidMain m ρ c t z R a w b f ⊢ iprop(Mid m ρ c t z ∗ R ∗ Lds m ρ c a w b ∗ ZF c f ∗ ZS m ρ c z f) := by
      unfold Mid MidMain Main
      by_cases h : tgt c t = c
      · rw [if_pos h, if_pos h]; unfold St Snds
        iintro ⟨HO, ⟨HY, HG⟩, HR⟩
        isplitl [HO HY]
        · isplitl [HO] <;> iassumption
        isplitl [HG] <;> iassumption
      · rw [if_neg h, if_neg h]; unfold St Snds
        iintro ⟨HO, ⟨HY, HG⟩, HR⟩
        isplitl [HO HY]
        · isplitl [HO] <;> iassumption
        isplitl [HG] <;> iassumption
    iintro ⟨#HE, HM⟩ Hk
    ihave HM2 := hM $$ HM
    icases HM2 with ⟨HM, HG, HR⟩
    iapply (local_step m ρ K c t z ht hz f0 f1) $$ [HM]
    · isplitr; · iexact HE
      iexact HM
    iintro HM
    iapply Hk
    unfold Main St Snds
    icases HM with ⟨HO, HY⟩
    isplitl [HO]; · iexact HO
    isplitl [HY HG]
    · isplitl [HY] <;> iassumption
    iexact HR) hk

/-! ## The waits at the end -/

theorem recv_off : ∀ n : Fin 32, ∀ c : Dev nD, k0_off161 c (BitVec.ofNat 32 n.val) = ![(dn c n.val).val] := by decide +kernel

theorem p_recv {C R : sProp 𝕄} {h s : ℕ} (h0 : 0 < h) (hn : h < 32)
    {o₂ o₃ : Fin 3 → ℕ} {h₁ : ∀ a, k0_off161 c (BitVec.ofNat 32 h) a + S1.size a ≤ S32.size a}
    {h₂ : ∀ a, o₂ a + S1x128x64.size a ≤ S32x128x64.size a} {h₃ : ∀ a, o₃ a + S1x128x64.size a ≤ S32x128x64.size a}
    {hs : (slotM zM o₃ h₃).view.WordExact} {hd : (slotM rM o₂ h₂).view.WordExact} {k : PUnit → Prog (TpuEff nD τ sig (Elt F) Λ₀ .tc) β}
    (hk : Piece m ρ K c (k ⟨⟩) iprop(Tail m ρ c (h + 1) s ∗ R) C V) :
    Piece m ρ K c (.op (.waitDma2 ((cc0_scratch5.slice (Rect.unit (s := S32) (k0_off161 c (BitVec.ofNat 32 h)) S1.size h₁)).squeeze S_ squeezes_S1_S_).sem (slotM zM o₃ h₃) (slotM rM o₂ h₂) hs hd) k)
      iprop(Tail m ρ c h s ∗ R) C V :=
  Piece.step (fun Q => by
    unfold Tail
    iintro ⟨#HE, ⟨HO, HR, HS⟩, HF⟩ Hk
    iapply (recv_step m ρ K c h h0 hn (recv_off ⟨h, hn⟩ c)) $$ [HO HR]
    · isplitr; · iexact HE
      isplitl [HO] <;> iassumption
    iintro ⟨HO, HR⟩
    iapply Hk
    isplitr [HF]
    · isplitl [HO]; · iexact HO
      isplitl [HR] <;> iassumption
    iexact HF) hk

theorem p_sent {C R : sProp 𝕄} {h s : ℕ} (hn : s < 32) {cnd : Dev nD → BitVec 1} (hc : ∀ c : Dev nD, cnd c = 1#1 ↔ dv s ≠ c)
    {o₁ : Fin 1 → ℕ} {o₂ o₃ : Fin 3 → ℕ} {h₁ : cnd c = 1#1 → ∀ a, o₁ a + S1.size a ≤ S32.size a}
    {h₂ : cnd c = 1#1 → ∀ a, o₂ a + S1x128x64.size a ≤ S32x128x64.size a} {h₃ : cnd c = 1#1 → ∀ a, o₃ a + S1x128x64.size a ≤ S32x128x64.size a}
    (e₁ : o₁ = ![s]) {hs : ∀ h, (slotM rM o₂ (h₂ h)).view.WordExact} {hd : ∀ h, (slotM zM o₃ (h₃ h)).view.WordExact}
    {k : Prog (TpuEff nD τ sig (Elt F) Λ₀ .tc) β} (hk : Piece m ρ K c k iprop(Tail m ρ c h (s + 1) ∗ R) C V) :
    Piece m ρ K c (dite (cnd c = 1#1) (fun h => .op (.waitDma2 ((cc0_scratch4.slice (Rect.unit (s := S32) o₁ S1.size (h₁ h))).squeeze S_ squeezes_S1_S_).sem (slotM rM o₂ (h₂ h)) (slotM zM o₃ (h₃ h)) (hs h) (hd h)) fun _ => k) fun _ => k)
      iprop(Tail m ρ c h s ∗ R) C V :=
  Piece.step (fun Q => by
    unfold Tail
    iintro ⟨#HE, ⟨HO, HR, HS⟩, HF⟩ Hk
    iapply (sent_step m ρ K c s hn (hc c) e₁) $$ [HO HS]
    · isplitr; · iexact HE
      isplitl [HO] <;> iassumption
    iintro ⟨HO, HS⟩
    iapply Hk
    isplitr [HF]
    · isplitl [HO]; · iexact HO
      isplitl [HR] <;> iassumption
    iexact HF) hk

end Rules

/-! ## The device's own number, the three operands, the barrier -/

/-- The piece of a column block that slot `s` holds. -/
def zcut (c : Dev nD) (s : ℕ) : FVec F S128x64 .bf16 := extractStridedSlice S128x64 ![0, 64 * (s % 8)] (zblk m ρ c (s / 8)) (zslices s)

/-- The three operands as staged. -/
def Ops (c : Dev nD) : sProp 𝕄 :=
  iprop((((c : Thread nD τ).loc cc0_stg0_0) ↦[Finset.univ]{fullShare} xstg m ρ c) ∗ (((c : Thread nD τ).loc cc0_stg1_0) ↦[Finset.univ]{fullShare} sastg m ρ c)
    ∗ (((c : Thread nD τ).loc cc0_stg2_0) ↦[Finset.univ]{fullShare} sbstg m ρ c))

section Rules
variable {m ρ}
variable {K : Cells → ℕ} {c : Dev nD} {β : Type} {V : β → Prop} {n t a w b z f : ℕ}

theorem p_dev {A C : sProp 𝕄} {k : Dev nD → Prog (TpuEff nD τ sig (Elt F) Λ₀ .tc) β} (hk : Piece m ρ K c (k c) A C V) :
    Piece m ρ K c (.op .deviceId k) A C V := fun Q => by
  refine (hk Q).trans ?_
  unfold Runs
  rw [wp_deviceId]

omit [FloatOps F] in
theorem hz2 : (![0, 0] : Fin 2 → ℕ) = fun _ => 0 := by funext a; fin_cases a <;> rfl
omit [FloatOps F] in
theorem hz1 : (![0] : Fin 1 → ℕ) = fun _ => 0 := by funext a; fin_cases a; rfl

theorem p_x {C R : sProp 𝕄}
    {h : ∀ a, (![0, 0] : Fin 2 → ℕ) a + S128x4096.size a ≤ S128x4096.size a}
    {hl : (xM : Memref sig .tc .vmem S128x4096 .f32).view.LoadsAt (Rect.unit (s := S128x4096) ![0, 0] S128x4096.size h).toLoadRect}
    {k : Vec F S128x4096 .f32 → Prog (TpuEff nD τ sig (Elt F) Λ₀ .tc) β}
    (hk : Piece m ρ K c (k (xstg m ρ c)) (Main m ρ c n t iprop(Sigs c n ∗ Ops m ρ c ∗ R) a w b z f) C V) :
    Piece m ρ K c (.op (.load xM (Rect.unit (s := S128x4096) ![0, 0] S128x4096.size h).toLoadRect hl) k) (Main m ρ c n t iprop(Sigs c n ∗ Ops m ρ c ∗ R) a w b z f) C V :=
  Piece.step (fun Q => by
    have hv : (xM : Memref sig .tc .vmem S128x4096 .f32).view.readAt (Elt F) (Rect.unit (s := S128x4096) ![0, 0] S128x4096.size h).toLoadRect (xstg m ρ c) = xstg m ρ c :=
      Memref.readAt_unit_zero (Elt F) cc0_stg0_0 hz2 _ _
    unfold Main Ops
    iintro ⟨-, HO, ⟨HY, ⟨Hx, HX⟩, HG⟩, HR⟩ Hk
    iapply (wp_load 𝒱₀ (c : Thread nD τ) none Set.univ (m := xM) (Finset.subset_univ _)) $$ Hx
    iintro Hx
    rw [hv]
    iapply Hk
    isplitl [HO]; · iexact HO
    isplitr [HR]
    · isplitl [HY]; · iexact HY
      isplitr [HG]
      · isplitl [Hx] <;> iassumption
      iexact HG
    iexact HR) hk

theorem p_sa {C R : sProp 𝕄}
    {h : ∀ a, (![0] : Fin 1 → ℕ) a + S1.size a ≤ S1.size a}
    {hl : (saM : Memref sig .tc .smem S1 .f32).view.LoadsAt (Rect.unit (s := S1) ![0] S1.size h).toLoadRect}
    {k : Vec F S1 .f32 → Prog (TpuEff nD τ sig (Elt F) Λ₀ .tc) β}
    (hk : Piece m ρ K c (k (sastg m ρ c)) (Main m ρ c n t iprop(Sigs c n ∗ Ops m ρ c ∗ R) a w b z f) C V) :
    Piece m ρ K c (.op (.load saM (Rect.unit (s := S1) ![0] S1.size h).toLoadRect hl) k) (Main m ρ c n t iprop(Sigs c n ∗ Ops m ρ c ∗ R) a w b z f) C V :=
  Piece.step (fun Q => by
    have hv : (saM : Memref sig .tc .smem S1 .f32).view.readAt (Elt F) (Rect.unit (s := S1) ![0] S1.size h).toLoadRect (sastg m ρ c) = sastg m ρ c :=
      Memref.readAt_unit_zero (Elt F) cc0_stg1_0 hz1 _ _
    unfold Main Ops
    iintro ⟨-, HO, ⟨HY, ⟨Hx, Ha, Hb⟩, HG⟩, HR⟩ Hk
    iapply (wp_load 𝒱₀ (c : Thread nD τ) none Set.univ (m := saM) (Finset.subset_univ _)) $$ Ha
    iintro Ha
    rw [hv]
    iapply Hk
    isplitl [HO]; · iexact HO
    isplitr [HR]
    · isplitl [HY]; · iexact HY
      isplitr [HG]
      · isplitl [Hx]; · iexact Hx
        isplitl [Ha] <;> iassumption
      iexact HG
    iexact HR) hk

theorem p_sb {C R : sProp 𝕄}
    {h : ∀ a, (![0] : Fin 1 → ℕ) a + S1.size a ≤ S1.size a}
    {hl : (sbM : Memref sig .tc .smem S1 .f32).view.LoadsAt (Rect.unit (s := S1) ![0] S1.size h).toLoadRect}
    {k : Vec F S1 .f32 → Prog (TpuEff nD τ sig (Elt F) Λ₀ .tc) β}
    (hk : Piece m ρ K c (k (sbstg m ρ c)) (Main m ρ c n t iprop(Sigs c n ∗ Ops m ρ c ∗ R) a w b z f) C V) :
    Piece m ρ K c (.op (.load sbM (Rect.unit (s := S1) ![0] S1.size h).toLoadRect hl) k) (Main m ρ c n t iprop(Sigs c n ∗ Ops m ρ c ∗ R) a w b z f) C V :=
  Piece.step (fun Q => by
    have hv : (sbM : Memref sig .tc .smem S1 .f32).view.readAt (Elt F) (Rect.unit (s := S1) ![0] S1.size h).toLoadRect (sbstg m ρ c) = sbstg m ρ c :=
      Memref.readAt_unit_zero (Elt F) cc0_stg2_0 hz1 _ _
    unfold Main Ops
    iintro ⟨-, HO, ⟨HY, ⟨Hx, Ha, Hb⟩, HG⟩, HR⟩ Hk
    iapply (wp_load 𝒱₀ (c : Thread nD τ) none Set.univ (m := sbM) (Finset.subset_univ _)) $$ Hb
    iintro Hb
    rw [hv]
    iapply Hk
    isplitl [HO]; · iexact HO
    isplitr [HR]
    · isplitl [HY]; · iexact HY
      isplitr [HG]
      · isplitl [Hx]; · iexact Hx
        isplitl [Ha] <;> iassumption
      iexact HG
    iexact HR) hk

/-- What the barrier's wait and the sends need besides the landing slots of the others. -/
def BarR (c : Dev nD) : sProp 𝕄 :=
  iprop(cred (tallyAt (barCell c) () 31) ∗ atPos EX (barCell c) 0 ∅ 0 ∗ ((∃ f, rPts c c f) ∗ semVal ((c : Thread nD τ), .dma copyS) 0)
    ∗ bigSep (Finset.univ.erase c) fun d => iprop(dutyTok EX (sendCell c d) 0 c ∗ dutyTok EX (recvCell d c) 0 c))

theorem sends_start (c : Dev nD) :
    iprop(((∃ f, rPts c c f) ∗ semVal ((c : Thread nD τ), .dma copyS) 0)
      ∗ (bigSep (Finset.univ.erase c) fun d => iprop(dutyTok EX (sendCell c d) 0 c ∗ dutyTok EX (recvCell d c) 0 c))
      ∗ bigSep (Finset.univ.erase c) fun d => iprop(∃ f, rPts d c f)) ⊢ (Snds m ρ c 0 0 : sProp 𝕄) := by
  have h1 : iprop((bigSep (Finset.univ.erase c) fun d => iprop(dutyTok EX (sendCell c d) 0 c ∗ dutyTok EX (recvCell d c) 0 c))
      ∗ bigSep (Finset.univ.erase c) fun d => iprop(∃ f, rPts d c f)) ⊢ (bigSep (Finset.univ.erase c) fun d => SendR c d : sProp 𝕄) := by
    rw [← bigSep_sep']
    refine bigSep_mono fun d hd => ?_
    unfold SendR
    rw [if_neg (Finset.ne_of_mem_erase hd)]
    show BIBase.Entails (PROP := sProp 𝕄) _ _
    iintro ⟨⟨H1, H2⟩, H3⟩
    isplitl [H1]; · iexact H1
    isplitl [H2] <;> iassumption
  have h2 : iprop((∃ f, rPts c c f) ∗ semVal ((c : Thread nD τ), .dma copyS) 0) ⊢ (SendR c c : sProp 𝕄) := by
    unfold SendR; rw [if_pos rfl]
  have h3 : iprop(SendR c c ∗ bigSep (Finset.univ.erase c) fun d => SendR c d) ⊢ (bigSep (Finset.Ico 0 32) fun n => SendR c (tgt c n) : sProp 𝕄) := by
    rw [← bigSep_by (tgt_inj c) (fun d => SendR c d), bigSep_erase (Finset.mem_univ c)]
    exact .rfl
  unfold Snds
  rw [Finset.Ico_self, bigSep_empty, bigSep_empty]
  iintro ⟨Hs, HT, HR⟩
  isplitl [Hs HT HR]
  · iapply h3
    isplitl [Hs]; · iapply h2; iexact Hs
    iapply h1
    isplitl [HT] <;> iassumption
  isplitl [] <;> iempintro

theorem p_bar {C R : sProp 𝕄} {u : Sem sig} (hu : u = barS) {x : ℕ} (hx : x = 31) {k : PUnit → Prog (TpuEff nD τ sig (Elt F) Λ₀ .tc) β}
    (hk : Piece m ρ K c (k ⟨⟩) (Main m ρ c 32 0 iprop(Snds m ρ c 0 0 ∗ Ops m ρ c ∗ atPos EX (barCell c) 1 ∅ 0 ∗ R) a w b z f) C V) :
    Piece m ρ K c (.op (.semWait u x) k) (Main m ρ c 32 0 iprop(Sigs c 32 ∗ Ops m ρ c ∗ BarR c ∗ R) a w b z f) C V :=
  Piece.step (fun Q => by
    unfold Main BarR
    iintro ⟨#HE, HO, ⟨-, HX, ⟨Hc, Hat, Hs, HT⟩, HG⟩, HR⟩ Hk
    iapply (bar_step m ρ K c hu hx) $$ [Hc HO Hat]
    · isplitr; · iexact HE
      isplitl [Hc]; · iexact Hc
      isplitl [HO] <;> iassumption
    iintro ⟨HO, Hat, HP⟩
    iapply Hk
    isplitl [HO]; · iexact HO
    isplitr [HR]
    · isplitl [Hs HT HP]
      · iapply (sends_start c)
        isplitl [Hs]; · iexact Hs
        isplitl [HT] <;> iassumption
      isplitl [HX]; · iexact HX
      isplitl [Hat] <;> iassumption
    iexact HR) hk

theorem block_image : ∀ q : Fin 4, ∀ c : Dev nD, (Finset.Ico (8 * q.val) (8 * q.val + 8)).image dv = (Finset.Ico (8 * q.val) (8 * q.val + 8)).image (tgt c) := by
  decide +kernel

/-- A column block's eight slots, filled in the order of their numbers, in the order of their sends. -/
theorem flush {Y : sProp 𝕄} (q : Fin 4) :
    Main m ρ c 32 t iprop(Snds m ρ c (8 * q.val) (8 * q.val) ∗ Y) a w b (8 * q.val) (8 * q.val + 8)
      ⊢ Main m ρ c 32 t iprop(Snds m ρ c (8 * q.val) (8 * q.val + 8) ∗ Y) a w b (8 * q.val + 8) (8 * q.val + 8) := by
  have hsub : ((Finset.Ico (8 * q.val) (8 * q.val + 8) : Finset ℕ) : Set ℕ) ⊆ (Finset.range 32 : Finset ℕ) := fun x hx => by
    have := q.isLt
    simp only [Finset.coe_Ico, Set.mem_Ico, Finset.coe_range, Set.mem_Iio] at hx ⊢; omega
  have h : (bigSep (Finset.Ico (8 * q.val) (8 * q.val + 8)) fun s => zPts c (dv s) (zAll m ρ c) : sProp 𝕄)
      = bigSep (Finset.Ico (8 * q.val) (8 * q.val + 8)) fun n => zPts c (tgt c n) (zAll m ρ c) := by
    rw [← bigSep_image_of_injOn (Φ := fun d => zPts c d (zAll m ρ c)) (dv_inj.mono hsub), block_image q c,
      bigSep_image_of_injOn (Φ := fun d => zPts c d (zAll m ρ c)) ((tgt_inj c).mono hsub)]
  unfold Main Snds ZS
  rw [h, Finset.Ico_self, Finset.Ico_self, bigSep_empty, bigSep_empty]
  iintro ⟨HO, ⟨⟨H1, -, H3⟩, HY⟩, HL, HF, HS⟩
  isplitl [HO]; · iexact HO
  isplitr [HL HF]
  · isplitr [HY]
    · isplitl [H1]; · iexact H1
      isplitl [HS] <;> iassumption
    iexact HY
  isplitl [HL]; · iexact HL
  isplitl [HF]; · iexact HF
  iempintro

end Rules

end Cert.KernelIdealRun

end
-- ==== Proof.KernelIdealPartsA.lean ====
/-
# The pieces of the program: signals and the first chunks
-/
module

public import proofs.«01_k».proof.Proof.KernelIdealRules

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {m ρ}

set_option maxRecDepth 65536 in
theorem part1 {R : sProp 𝕄} {K : Cells → ℕ} {c : Dev nD}  :
    Piece m ρ K c (k0_part1 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 ) (Main m ρ c 1 0 iprop(Sigs c 1 ∗ R) 0 0 0 0 0)
      (Main m ρ c 1 0 iprop(Sigs c 1 ∗ R) 0 0 4 0 0) (fun r => r.1 = c) := by
  rw [k0_part1_eq_skeleton]
  unfold k0_part1_skel
  simp (zeta := false) only [Prog.lift, Prog.bind_op, Prog.bind_ret, Prog.pure_eq_ret, semSignalWord, semWaitWord]
  refine p_dev ?_
  iterate 4 refine p_issue (by decide) (by decide) (by decide) (by rfl) (by rfl) (by rfl) ?_
  exact Piece.ret rfl

set_option maxRecDepth 65536 in
theorem part2 {R : sProp 𝕄} {K : Cells → ℕ} {c : Dev nD} (v2 : BitVec 32) :
    Piece m ρ K c (k0_part2 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2) (Main m ρ c 1 0 iprop(Sigs c 1 ∗ R) 0 0 4 0 0)
      (Main m ρ c 2 0 iprop(Sigs c 2 ∗ R) 0 0 6 0 0) (fun r => r.1 = SemArray.scalar (sig.barrier 0 rfl)) := by
  rw [k0_part2_eq_skeleton]
  unfold k0_part2_skel
  simp (zeta := false) only [Prog.lift, Prog.bind_op, Prog.bind_ret, Prog.pure_eq_ret, semSignalWord, semWaitWord]
  iterate 2 refine p_issue (by decide) (by decide) (by decide) (by rfl) (by rfl) (by rfl) ?_
  refine p_sig (d := fun c => ⟨k0_dev1 c, k0_dev1_lt c⟩) (by decide) (by decide) (by decide +kernel) rfl rfl ?_
  exact Piece.ret rfl

set_option maxRecDepth 65536 in
theorem part3 {R : sProp 𝕄} {K : Cells → ℕ} {c : Dev nD} (v2 : BitVec 32) (v50 : BitVec 32) (v55 : BitVec 1) (v56 : BitVec 32) :
    Piece m ρ K c (k0_part3 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 (SemArray.scalar (sig.barrier 0 rfl)) v50 v55 v56) (Main m ρ c 2 0 iprop(Sigs c 2 ∗ R) 0 0 6 0 0)
      (Main m ρ c 5 0 iprop(Sigs c 5 ∗ R) 0 0 6 0 0) (fun _ => True) := by
  rw [k0_part3_eq_skeleton]
  unfold k0_part3_skel
  simp (zeta := false) only [Prog.lift, Prog.bind_op, Prog.bind_ret, Prog.pure_eq_ret, semSignalWord, semWaitWord]
  refine p_sig (d := fun c => ⟨k0_dev2 c, k0_dev2_lt c⟩) (by decide) (by decide) (by decide +kernel) rfl rfl ?_
  refine p_sig (d := fun c => ⟨k0_dev3 c, k0_dev3_lt c⟩) (by decide) (by decide) (by decide +kernel) rfl rfl ?_
  refine p_sig (d := fun c => ⟨k0_dev4 c, k0_dev4_lt c⟩) (by decide) (by decide) (by decide +kernel) rfl rfl ?_
  exact Piece.ret trivial

set_option maxRecDepth 65536 in
theorem part4 {R : sProp 𝕄} {K : Cells → ℕ} {c : Dev nD} (v2 : BitVec 32) (v86 : BitVec 32) (c32_i32_68 : BitVec 32) (v87 : BitVec 1) :
    Piece m ρ K c (k0_part4 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 (SemArray.scalar (sig.barrier 0 rfl)) v86 c32_i32_68 v87) (Main m ρ c 5 0 iprop(Sigs c 5 ∗ R) 0 0 6 0 0)
      (Main m ρ c 7 0 iprop(Sigs c 7 ∗ R) 0 0 6 0 0) (fun _ => True) := by
  rw [k0_part4_eq_skeleton]
  unfold k0_part4_skel
  simp (zeta := false) only [Prog.lift, Prog.bind_op, Prog.bind_ret, Prog.pure_eq_ret, semSignalWord, semWaitWord]
  refine p_sig (d := fun c => ⟨k0_dev5 c, k0_dev5_lt c⟩) (by decide) (by decide) (by decide +kernel) rfl rfl ?_
  refine p_sig (d := fun c => ⟨k0_dev6 c, k0_dev6_lt c⟩) (by decide) (by decide) (by decide +kernel) rfl rfl ?_
  exact Piece.ret trivial

set_option maxRecDepth 65536 in
theorem part5 {R : sProp 𝕄} {K : Cells → ℕ} {c : Dev nD} (v2 : BitVec 32) (v115 : BitVec 32) (v120 : BitVec 1) (v121 : BitVec 32) :
    Piece m ρ K c (k0_part5 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 (SemArray.scalar (sig.barrier 0 rfl)) v115 v120 v121) (Main m ρ c 7 0 iprop(Sigs c 7 ∗ R) 0 0 6 0 0)
      (Main m ρ c 10 0 iprop(Sigs c 10 ∗ R) 0 0 6 0 0) (fun _ => True) := by
  rw [k0_part5_eq_skeleton]
  unfold k0_part5_skel
  simp (zeta := false) only [Prog.lift, Prog.bind_op, Prog.bind_ret, Prog.pure_eq_ret, semSignalWord, semWaitWord]
  refine p_sig (d := fun c => ⟨k0_dev7 c, k0_dev7_lt c⟩) (by decide) (by decide) (by decide +kernel) rfl rfl ?_
  refine p_sig (d := fun c => ⟨k0_dev8 c, k0_dev8_lt c⟩) (by decide) (by decide) (by decide +kernel) rfl rfl ?_
  refine p_sig (d := fun c => ⟨k0_dev9 c, k0_dev9_lt c⟩) (by decide) (by decide) (by decide +kernel) rfl rfl ?_
  exact Piece.ret trivial

set_option maxRecDepth 65536 in
theorem part6 {R : sProp 𝕄} {K : Cells → ℕ} {c : Dev nD} (v2 : BitVec 32) (v151 : BitVec 32) (c32_i32_113 : BitVec 32) (v152 : BitVec 1) :
    Piece m ρ K c (k0_part6 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 (SemArray.scalar (sig.barrier 0 rfl)) v151 c32_i32_113 v152) (Main m ρ c 10 0 iprop(Sigs c 10 ∗ R) 0 0 6 0 0)
      (Main m ρ c 12 0 iprop(Sigs c 12 ∗ R) 0 0 6 0 0) (fun _ => True) := by
  rw [k0_part6_eq_skeleton]
  unfold k0_part6_skel
  simp (zeta := false) only [Prog.lift, Prog.bind_op, Prog.bind_ret, Prog.pure_eq_ret, semSignalWord, semWaitWord]
  refine p_sig (d := fun c => ⟨k0_dev10 c, k0_dev10_lt c⟩) (by decide) (by decide) (by decide +kernel) rfl rfl ?_
  refine p_sig (d := fun c => ⟨k0_dev11 c, k0_dev11_lt c⟩) (by decide) (by decide) (by decide +kernel) rfl rfl ?_
  exact Piece.ret trivial

set_option maxRecDepth 65536 in
theorem part7 {R : sProp 𝕄} {K : Cells → ℕ} {c : Dev nD} (v2 : BitVec 32) (v180 : BitVec 32) (v185 : BitVec 1) (v186 : BitVec 32) :
    Piece m ρ K c (k0_part7 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 (SemArray.scalar (sig.barrier 0 rfl)) v180 v185 v186) (Main m ρ c 12 0 iprop(Sigs c 12 ∗ R) 0 0 6 0 0)
      (Main m ρ c 15 0 iprop(Sigs c 15 ∗ R) 0 0 6 0 0) (fun _ => True) := by
  rw [k0_part7_eq_skeleton]
  unfold k0_part7_skel
  simp (zeta := false) only [Prog.lift, Prog.bind_op, Prog.bind_ret, Prog.pure_eq_ret, semSignalWord, semWaitWord]
  refine p_sig (d := fun c => ⟨k0_dev12 c, k0_dev12_lt c⟩) (by decide) (by decide) (by decide +kernel) rfl rfl ?_
  refine p_sig (d := fun c => ⟨k0_dev13 c, k0_dev13_lt c⟩) (by decide) (by decide) (by decide +kernel) rfl rfl ?_
  refine p_sig (d := fun c => ⟨k0_dev14 c, k0_dev14_lt c⟩) (by decide) (by decide) (by decide +kernel) rfl rfl ?_
  exact Piece.ret trivial

set_option maxRecDepth 65536 in
theorem part8 {R : sProp 𝕄} {K : Cells → ℕ} {c : Dev nD} (v2 : BitVec 32) (v216 : BitVec 32) (c32_i32_158 : BitVec 32) (v217 : BitVec 1) :
    Piece m ρ K c (k0_part8 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 (SemArray.scalar (sig.barrier 0 rfl)) v216 c32_i32_158 v217) (Main m ρ c 15 0 iprop(Sigs c 15 ∗ R) 0 0 6 0 0)
      (Main m ρ c 17 0 iprop(Sigs c 17 ∗ R) 0 0 6 0 0) (fun _ => True) := by
  rw [k0_part8_eq_skeleton]
  unfold k0_part8_skel
  simp (zeta := false) only [Prog.lift, Prog.bind_op, Prog.bind_ret, Prog.pure_eq_ret, semSignalWord, semWaitWord]
  refine p_sig (d := fun c => ⟨k0_dev15 c, k0_dev15_lt c⟩) (by decide) (by decide) (by decide +kernel) rfl rfl ?_
  refine p_sig (d := fun c => ⟨k0_dev16 c, k0_dev16_lt c⟩) (by decide) (by decide) (by decide +kernel) rfl rfl ?_
  exact Piece.ret trivial

set_option maxRecDepth 65536 in
theorem part9 {R : sProp 𝕄} {K : Cells → ℕ} {c : Dev nD} (v2 : BitVec 32) (v245 : BitVec 32) (v250 : BitVec 1) (v251 : BitVec 32) :
    Piece m ρ K c (k0_part9 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 (SemArray.scalar (sig.barrier 0 rfl)) v245 v250 v251) (Main m ρ c 17 0 iprop(Sigs c 17 ∗ R) 0 0 6 0 0)
      (Main m ρ c 20 0 iprop(Sigs c 20 ∗ R) 0 0 6 0 0) (fun _ => True) := by
  rw [k0_part9_eq_skeleton]
  unfold k0_part9_skel
  simp (zeta := false) only [Prog.lift, Prog.bind_op, Prog.bind_ret, Prog.pure_eq_ret, semSignalWord, semWaitWord]
  refine p_sig (d := fun c => ⟨k0_dev17 c, k0_dev17_lt c⟩) (by decide) (by decide) (by decide +kernel) rfl rfl ?_
  refine p_sig (d := fun c => ⟨k0_dev18 c, k0_dev18_lt c⟩) (by decide) (by decide) (by decide +kernel) rfl rfl ?_
  refine p_sig (d := fun c => ⟨k0_dev19 c, k0_dev19_lt c⟩) (by decide) (by decide) (by decide +kernel) rfl rfl ?_
  exact Piece.ret trivial

set_option maxRecDepth 65536 in
theorem part10 {R : sProp 𝕄} {K : Cells → ℕ} {c : Dev nD} (v2 : BitVec 32) (v281 : BitVec 32) (c32_i32_203 : BitVec 32) (v282 : BitVec 1) :
    Piece m ρ K c (k0_part10 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 (SemArray.scalar (sig.barrier 0 rfl)) v281 c32_i32_203 v282) (Main m ρ c 20 0 iprop(Sigs c 20 ∗ R) 0 0 6 0 0)
      (Main m ρ c 22 0 iprop(Sigs c 22 ∗ R) 0 0 6 0 0) (fun _ => True) := by
  rw [k0_part10_eq_skeleton]
  unfold k0_part10_skel
  simp (zeta := false) only [Prog.lift, Prog.bind_op, Prog.bind_ret, Prog.pure_eq_ret, semSignalWord, semWaitWord]
  refine p_sig (d := fun c => ⟨k0_dev20 c, k0_dev20_lt c⟩) (by decide) (by decide) (by decide +kernel) rfl rfl ?_
  refine p_sig (d := fun c => ⟨k0_dev21 c, k0_dev21_lt c⟩) (by decide) (by decide) (by decide +kernel) rfl rfl ?_
  exact Piece.ret trivial

set_option maxRecDepth 65536 in
theorem part11 {R : sProp 𝕄} {K : Cells → ℕ} {c : Dev nD} (v2 : BitVec 32) (v310 : BitVec 32) (v315 : BitVec 1) (v316 : BitVec 32) :
    Piece m ρ K c (k0_part11 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 (SemArray.scalar (sig.barrier 0 rfl)) v310 v315 v316) (Main m ρ c 22 0 iprop(Sigs c 22 ∗ R) 0 0 6 0 0)
      (Main m ρ c 25 0 iprop(Sigs c 25 ∗ R) 0 0 6 0 0) (fun _ => True) := by
  rw [k0_part11_eq_skeleton]
  unfold k0_part11_skel
  simp (zeta := false) only [Prog.lift, Prog.bind_op, Prog.bind_ret, Prog.pure_eq_ret, semSignalWord, semWaitWord]
  refine p_sig (d := fun c => ⟨k0_dev22 c, k0_dev22_lt c⟩) (by decide) (by decide) (by decide +kernel) rfl rfl ?_
  refine p_sig (d := fun c => ⟨k0_dev23 c, k0_dev23_lt c⟩) (by decide) (by decide) (by decide +kernel) rfl rfl ?_
  refine p_sig (d := fun c => ⟨k0_dev24 c, k0_dev24_lt c⟩) (by decide) (by decide) (by decide +kernel) rfl rfl ?_
  exact Piece.ret trivial

set_option maxRecDepth 65536 in
theorem part12 {R : sProp 𝕄} {K : Cells → ℕ} {c : Dev nD} (v2 : BitVec 32) (v346 : BitVec 32) (c32_i32_248 : BitVec 32) (v347 : BitVec 1) :
    Piece m ρ K c (k0_part12 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 (SemArray.scalar (sig.barrier 0 rfl)) v346 c32_i32_248 v347) (Main m ρ c 25 0 iprop(Sigs c 25 ∗ R) 0 0 6 0 0)
      (Main m ρ c 27 0 iprop(Sigs c 27 ∗ R) 0 0 6 0 0) (fun _ => True) := by
  rw [k0_part12_eq_skeleton]
  unfold k0_part12_skel
  simp (zeta := false) only [Prog.lift, Prog.bind_op, Prog.bind_ret, Prog.pure_eq_ret, semSignalWord, semWaitWord]
  refine p_sig (d := fun c => ⟨k0_dev25 c, k0_dev25_lt c⟩) (by decide) (by decide) (by decide +kernel) rfl rfl ?_
  refine p_sig (d := fun c => ⟨k0_dev26 c, k0_dev26_lt c⟩) (by decide) (by decide) (by decide +kernel) rfl rfl ?_
  exact Piece.ret trivial

set_option maxRecDepth 65536 in
theorem part13 {R : sProp 𝕄} {K : Cells → ℕ} {c : Dev nD} (v2 : BitVec 32) (v375 : BitVec 32) (v380 : BitVec 1) (v381 : BitVec 32) :
    Piece m ρ K c (k0_part13 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 (SemArray.scalar (sig.barrier 0 rfl)) v375 v380 v381) (Main m ρ c 27 0 iprop(Sigs c 27 ∗ R) 0 0 6 0 0)
      (Main m ρ c 30 0 iprop(Sigs c 30 ∗ R) 0 0 6 0 0) (fun _ => True) := by
  rw [k0_part13_eq_skeleton]
  unfold k0_part13_skel
  simp (zeta := false) only [Prog.lift, Prog.bind_op, Prog.bind_ret, Prog.pure_eq_ret, semSignalWord, semWaitWord]
  refine p_sig (d := fun c => ⟨k0_dev27 c, k0_dev27_lt c⟩) (by decide) (by decide) (by decide +kernel) rfl rfl ?_
  refine p_sig (d := fun c => ⟨k0_dev28 c, k0_dev28_lt c⟩) (by decide) (by decide) (by decide +kernel) rfl rfl ?_
  refine p_sig (d := fun c => ⟨k0_dev29 c, k0_dev29_lt c⟩) (by decide) (by decide) (by decide +kernel) rfl rfl ?_
  exact Piece.ret trivial

set_option maxRecDepth 65536 in
theorem part14 {R : sProp 𝕄} {K : Cells → ℕ} {c : Dev nD} (v2 : BitVec 32) (v411 : BitVec 32) (c32_i32_293 : BitVec 32) (v412 : BitVec 1) :
    Piece m ρ K c (k0_part14 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 (SemArray.scalar (sig.barrier 0 rfl)) v411 c32_i32_293 v412) (Main m ρ c 30 0 iprop(Sigs c 30 ∗ Ops m ρ c ∗ R) 0 0 6 0 0)
      (Main m ρ c 32 0 iprop(Sigs c 32 ∗ Ops m ρ c ∗ R) 0 0 6 0 0) (fun r => r.1 = xb m ρ c ∧ r.2 = sc m ρ c) := by
  rw [k0_part14_eq_skeleton]
  unfold k0_part14_skel
  simp (zeta := false) only [Prog.lift, Prog.bind_op, Prog.bind_ret, Prog.pure_eq_ret, semSignalWord, semWaitWord, smemLoad, smemLoadElt]
  refine p_sig (d := fun c => ⟨k0_dev30 c, k0_dev30_lt c⟩) (by decide) (by decide) (by decide +kernel) rfl rfl ?_
  refine p_sig (d := fun c => ⟨k0_dev31 c, k0_dev31_lt c⟩) (by decide) (by decide) (by decide +kernel) rfl rfl ?_
  refine p_x ?_
  refine p_sa ?_
  refine p_sb ?_
  exact Piece.ret ⟨rfl, rfl⟩

set_option maxRecDepth 65536 in
theorem part15 {Y : sProp 𝕄} {K : Cells → ℕ} {c : Dev nD} (v439 : FVec F S128x4096 .bf16) :
    Piece m ρ K c (k0_part15 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 v439) (Main m ρ c 32 0 Y 0 0 6 0 0)
      (Main m ρ c 32 0 Y 2 2 8 0 0) (fun r => r = k0_pay4 v439 (wch m ρ c 0) (wch m ρ c 1)) := by
  rw [k0_part15_eq_skeleton]
  unfold k0_part15_skel
  simp (zeta := false) only [Prog.lift, Prog.bind_op, Prog.bind_ret, Prog.pure_eq_ret, semSignalWord, semWaitWord]
  refine p_wait (by decide) (by decide) (by rfl) ?_
  refine p_issue (by decide) (by decide) (by decide) (by rfl) (by rfl) (by rfl) ?_
  refine p_load (by decide) (by decide) (by rfl) ?_
  refine p_wait (by decide) (by decide) (by rfl) ?_
  refine p_issue (by decide) (by decide) (by decide) (by rfl) (by rfl) (by rfl) ?_
  refine p_load (by decide) (by decide) (by rfl) ?_
  exact Piece.ret rfl

set_option maxRecDepth 65536 in
theorem part16 {Y : sProp 𝕄} {K : Cells → ℕ} {c : Dev nD} (v439 : FVec F S128x4096 .bf16) (v473 : FVec F S128x512 .f32) :
    Piece m ρ K c (k0_part16 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 v439 v473) (Main m ρ c 32 0 Y 2 2 8 0 0)
      (Main m ρ c 32 0 Y 3 4 10 0 0) (fun r => r = k0_pay5 v439 v473 (wch m ρ c 2)) := by
  rw [k0_part16_eq_skeleton]
  unfold k0_part16_skel
  simp (zeta := false) only [Prog.lift, Prog.bind_op, Prog.bind_ret, Prog.pure_eq_ret, semSignalWord, semWaitWord]
  refine p_wait (by decide) (by decide) (by rfl) ?_
  refine p_issue (by decide) (by decide) (by decide) (by rfl) (by rfl) (by rfl) ?_
  refine p_load (by decide) (by decide) (by rfl) ?_
  refine p_wait (by decide) (by decide) (by rfl) ?_
  refine p_issue (by decide) (by decide) (by decide) (by rfl) (by rfl) (by rfl) ?_
  exact Piece.ret rfl

end Cert.KernelIdealRun

end
-- ==== Proof.KernelIdealPartsB.lean ====
/-
# The pieces of the program: the first column block and its sends
-/
module

public import proofs.«01_k».proof.Proof.KernelIdealRules

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {m ρ}

set_option maxRecDepth 65536 in
theorem part17 {Y : sProp 𝕄} {K : Cells → ℕ} {c : Dev nD}  :
    Piece m ρ K c (k0_part17 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 (xb m ρ c) (sc m ρ c) (k0_pay5 (xb m ρ c) (k0_pay4 (xb m ρ c) (wch m ρ c 0) (wch m ρ c 1)) (wch m ρ c 2))) (Main m ρ c 32 0 Y 3 4 10 0 0)
      (Main m ρ c 32 0 Y 4 4 10 0 5) (fun r => r.1 = zblk m ρ c 0 ∧ r.2 = zpay m ρ c 5) := by
  rw [k0_part17_eq_skeleton]
  unfold k0_part17_skel
  simp (zeta := false) only [Prog.lift, Prog.bind_op, Prog.bind_ret, Prog.pure_eq_ret, semSignalWord, semWaitWord]
  refine p_load (by decide) (by decide) (by rfl) ?_
  iterate 5
    refine p_zload (by decide) (by rfl) fun _ => ?_
    refine p_zstore (by decide) (by decide) (by rfl) (by rfl) ?_
  refine p_zload (by decide) (by rfl) fun _ => ?_
  exact Piece.ret ⟨rfl, rfl⟩

set_option maxRecDepth 65536 in
theorem part18 {R : sProp 𝕄} {K : Cells → ℕ} {c : Dev nD} (v2 : BitVec 32) :
    Piece m ρ K c (k0_part18 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 (SemArray.scalar (sig.barrier 0 rfl)) (zblk m ρ c 0) (zpay m ρ c 5)) (Main m ρ c 32 0 iprop(Sigs c 32 ∗ Ops m ρ c ∗ BarR c ∗ R) 4 4 10 0 5)
      (Main m ρ c 32 2 iprop(Snds m ρ c 2 8 ∗ Ops m ρ c ∗ atPos EX (barCell c) 1 ∅ 0 ∗ R) 4 4 10 8 8) (fun _ => True) := by
  rw [k0_part18_eq_skeleton]
  unfold k0_part18_skel
  simp (zeta := false) only [Prog.lift, Prog.bind_op, Prog.bind_ret, Prog.pure_eq_ret, semSignalWord, semWaitWord]
  iterate 2
    refine p_zstore (by decide) (by decide) (by rfl) (by rfl) ?_
    refine p_zload (by decide) (by rfl) fun _ => ?_
  refine p_zstore (by decide) (by decide) (by rfl) (by rfl) ?_
  refine p_bar rfl rfl ?_
  refine Piece.pre ?_ (flush (0 : Fin 4))
  iterate 2
    refine p_remote (by decide +kernel) (by decide) (by decide) ?_
    refine p_own (by decide +kernel) (by decide) (by decide) ?_
  exact Piece.ret trivial

set_option maxRecDepth 65536 in
theorem part19 {R : sProp 𝕄} {K : Cells → ℕ} {c : Dev nD} (v2 : BitVec 32) (v563 : BitVec 32) (v565 : BitVec 32) :
    Piece m ρ K c (k0_part19 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v563 v565) (Main m ρ c 32 2 iprop(Snds m ρ c 2 8 ∗ R) 4 4 10 8 8)
      (Main m ρ c 32 6 iprop(Snds m ρ c 6 8 ∗ R) 4 4 10 8 8) (fun _ => True) := by
  rw [k0_part19_eq_skeleton]
  unfold k0_part19_skel
  simp (zeta := false) only [Prog.lift, Prog.bind_op, Prog.bind_ret, Prog.pure_eq_ret, semSignalWord, semWaitWord]
  iterate 4
    refine p_remote (by decide +kernel) (by decide) (by decide) ?_
    refine p_own (by decide +kernel) (by decide) (by decide) ?_
  exact Piece.ret trivial

set_option maxRecDepth 65536 in
theorem part20 {R : sProp 𝕄} {K : Cells → ℕ} {c : Dev nD} (v2 : BitVec 32) (v439 : FVec F S128x4096 .bf16) (v598 : BitVec 32) :
    Piece m ρ K c (k0_part20 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v439 v598) (Main m ρ c 32 6 iprop(Snds m ρ c 6 8 ∗ R) 4 4 10 8 8)
      (Main m ρ c 32 8 iprop(Snds m ρ c 8 8 ∗ R) 5 5 11 8 8) (fun r => r.1 = k0_pay15 (wch m ρ c 4) ∧ r.2.1 = k0_pay16 v439 ∧ r.2.2 = constant S128x512 .f32 0x00000000#32) := by
  rw [k0_part20_eq_skeleton]
  unfold k0_part20_skel
  simp (zeta := false) only [Prog.lift, Prog.bind_op, Prog.bind_ret, Prog.pure_eq_ret, semSignalWord, semWaitWord]
  iterate 2
    refine p_remote (by decide +kernel) (by decide) (by decide) ?_
    refine p_own (by decide +kernel) (by decide) (by decide) ?_
  refine p_wait (by decide) (by decide) (by rfl) ?_
  refine p_issue (by decide) (by decide) (by decide) (by rfl) (by rfl) (by rfl) ?_
  refine p_load (by decide) (by decide) (by rfl) ?_
  exact Piece.ret ⟨rfl, rfl, rfl⟩

set_option maxRecDepth 65536 in
theorem part21 {R : sProp 𝕄} {K : Cells → ℕ} {c : Dev nD} (v439 : FVec F S128x4096 .bf16) (v627 : FVec F S1024x512 .bf16) (v628 : FVec F S128x1024 .bf16) (cst_450 : FVec F S128x512 .f32) :
    Piece m ρ K c (k0_part21 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 v439 v627 v628 cst_450) (Main m ρ c 32 8 iprop(Snds m ρ c 8 8 ∗ R) 5 5 11 8 8)
      (Main m ρ c 32 8 iprop(Snds m ρ c 8 8 ∗ R) 6 7 13 8 8) (fun r => r = k0_pay17 v439 v627 v628 cst_450 (wch m ρ c 5)) := by
  rw [k0_part21_eq_skeleton]
  unfold k0_part21_skel
  simp (zeta := false) only [Prog.lift, Prog.bind_op, Prog.bind_ret, Prog.pure_eq_ret, semSignalWord, semWaitWord]
  refine p_wait (by decide) (by decide) (by rfl) ?_
  refine p_issue (by decide) (by decide) (by decide) (by rfl) (by rfl) (by rfl) ?_
  refine p_load (by decide) (by decide) (by rfl) ?_
  refine p_wait (by decide) (by decide) (by rfl) ?_
  refine p_issue (by decide) (by decide) (by decide) (by rfl) (by rfl) (by rfl) ?_
  exact Piece.ret rfl

set_option maxRecDepth 65536 in
theorem part22 {R : sProp 𝕄} {K : Cells → ℕ} {c : Dev nD}  :
    Piece m ρ K c (k0_part22 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 (xb m ρ c) (sc m ρ c) (k0_pay17 (xb m ρ c) (k0_pay15 (wch m ρ c 4)) (k0_pay16 (xb m ρ c)) (constant S128x512 .f32 0x00000000#32) (wch m ρ c 5))) (Main m ρ c 32 8 iprop(Snds m ρ c 8 8 ∗ R) 6 7 13 8 8)
      (Main m ρ c 32 8 iprop(Snds m ρ c 8 8 ∗ R) 8 8 14 8 9) (fun r => r.1 = zblk m ρ c 1 ∧ r.2 = zcut m ρ c 9) := by
  rw [k0_part22_eq_skeleton]
  unfold k0_part22_skel
  simp (zeta := false) only [Prog.lift, Prog.bind_op, Prog.bind_ret, Prog.pure_eq_ret, semSignalWord, semWaitWord]
  refine p_load (by decide) (by decide) (by rfl) ?_
  refine p_wait (by decide) (by decide) (by rfl) ?_
  refine p_issue (by decide) (by decide) (by decide) (by rfl) (by rfl) (by rfl) ?_
  refine p_load (by decide) (by decide) (by rfl) ?_
  refine p_zload (by decide) (by rfl) fun _ => ?_
  refine p_zstore (by decide) (by decide) (by rfl) (by rfl) ?_
  exact Piece.ret ⟨rfl, rfl⟩

end Cert.KernelIdealRun

end
-- ==== Proof.KernelIdealPartsC.lean ====
/-
# The pieces of the program: the second column block
-/
module

public import proofs.«01_k».proof.Proof.KernelIdealRules

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {m ρ}

set_option maxRecDepth 65536 in
theorem part23 {R : sProp 𝕄} {K : Cells → ℕ} {c : Dev nD} (v2 : BitVec 32) :
    Piece m ρ K c (k0_part23 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 v2 (zblk m ρ c 1) (zcut m ρ c 9)) (Main m ρ c 32 8 iprop(Snds m ρ c 8 8 ∗ R) 8 8 14 8 9)
      (Main m ρ c 32 8 iprop(Snds m ρ c 8 8 ∗ R) 8 8 14 8 16) (fun _ => True) := by
  rw [k0_part23_eq_skeleton]
  unfold k0_part23_skel
  simp (zeta := false) only [Prog.lift, Prog.bind_op, Prog.bind_ret, Prog.pure_eq_ret, semSignalWord, semWaitWord]
  iterate 7
    refine p_zload (by decide) (by rfl) fun _ => ?_
    refine p_zstore (by decide) (by decide) (by rfl) (by rfl) ?_
  exact Piece.ret trivial

set_option maxRecDepth 65536 in
theorem part24 {R : sProp 𝕄} {K : Cells → ℕ} {c : Dev nD} (v2 : BitVec 32) (v717 : BitVec 32) (v719 : BitVec 32) :
    Piece m ρ K c (k0_part24 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v717 v719) (Main m ρ c 32 8 iprop(Snds m ρ c 8 8 ∗ R) 8 8 14 8 16)
      (Main m ρ c 32 12 iprop(Snds m ρ c 12 16 ∗ R) 8 8 14 16 16) (fun _ => True) := by
  rw [k0_part24_eq_skeleton]
  unfold k0_part24_skel
  simp (zeta := false) only [Prog.lift, Prog.bind_op, Prog.bind_ret, Prog.pure_eq_ret, semSignalWord, semWaitWord]
  refine Piece.pre ?_ (flush (1 : Fin 4))
  iterate 4
    refine p_remote (by decide +kernel) (by decide) (by decide) ?_
    refine p_own (by decide +kernel) (by decide) (by decide) ?_
  exact Piece.ret trivial

set_option maxRecDepth 65536 in
theorem part25 {R : sProp 𝕄} {K : Cells → ℕ} {c : Dev nD} (v2 : BitVec 32) (v752 : BitVec 32) :
    Piece m ρ K c (k0_part25 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v752) (Main m ρ c 32 12 iprop(Snds m ρ c 12 16 ∗ R) 8 8 14 16 16)
      (Main m ρ c 32 16 iprop(Snds m ρ c 16 16 ∗ R) 8 8 14 16 16) (fun _ => True) := by
  rw [k0_part25_eq_skeleton]
  unfold k0_part25_skel
  simp (zeta := false) only [Prog.lift, Prog.bind_op, Prog.bind_ret, Prog.pure_eq_ret, semSignalWord, semWaitWord]
  iterate 4
    refine p_remote (by decide +kernel) (by decide) (by decide) ?_
    refine p_own (by decide +kernel) (by decide) (by decide) ?_
  exact Piece.ret trivial

set_option maxRecDepth 65536 in
theorem part26 {R : sProp 𝕄} {K : Cells → ℕ} {c : Dev nD} (v439 : FVec F S128x4096 .bf16) :
    Piece m ρ K c (k0_part26 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 v439) (Main m ρ c 32 16 iprop(Snds m ρ c 16 16 ∗ R) 8 8 14 16 16)
      (Main m ρ c 32 16 iprop(Snds m ρ c 16 16 ∗ R) 9 10 16 16 16) (fun r => r = k0_pay28 v439 (wch m ρ c 8)) := by
  rw [k0_part26_eq_skeleton]
  unfold k0_part26_skel
  simp (zeta := false) only [Prog.lift, Prog.bind_op, Prog.bind_ret, Prog.pure_eq_ret, semSignalWord, semWaitWord]
  refine p_wait (by decide) (by decide) (by rfl) ?_
  refine p_issue (by decide) (by decide) (by decide) (by rfl) (by rfl) (by rfl) ?_
  refine p_load (by decide) (by decide) (by rfl) ?_
  refine p_wait (by decide) (by decide) (by rfl) ?_
  refine p_issue (by decide) (by decide) (by decide) (by rfl) (by rfl) (by rfl) ?_
  exact Piece.ret rfl

set_option maxRecDepth 65536 in
theorem part27 {R : sProp 𝕄} {K : Cells → ℕ} {c : Dev nD}  :
    Piece m ρ K c (k0_part27 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 (xb m ρ c) (sc m ρ c) (k0_pay28 (xb m ρ c) (wch m ρ c 8))) (Main m ρ c 32 16 iprop(Snds m ρ c 16 16 ∗ R) 9 10 16 16 16)
      (Main m ρ c 32 16 iprop(Snds m ρ c 16 16 ∗ R) 12 12 16 16 16) (fun r => r.1 = zblk m ρ c 2 ∧ r.2 = zcut m ρ c 16) := by
  rw [k0_part27_eq_skeleton]
  unfold k0_part27_skel
  simp (zeta := false) only [Prog.lift, Prog.bind_op, Prog.bind_ret, Prog.pure_eq_ret, semSignalWord, semWaitWord]
  iterate 2
    refine p_load (by decide) (by decide) (by rfl) ?_
    refine p_wait (by decide) (by decide) (by rfl) ?_
  refine p_load (by decide) (by decide) (by rfl) ?_
  exact Piece.ret ⟨rfl, rfl⟩

end Cert.KernelIdealRun

end
-- ==== Proof.KernelIdealPartsD.lean ====
/-
# The pieces of the program: the third column block
-/
module

public import proofs.«01_k».proof.Proof.KernelIdealRules

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {m ρ}

set_option maxRecDepth 65536 in
theorem part28 {R : sProp 𝕄} {K : Cells → ℕ} {c : Dev nD}  :
    Piece m ρ K c (k0_part28 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 (zblk m ρ c 2) (zcut m ρ c 16)) (Main m ρ c 32 16 iprop(Snds m ρ c 16 16 ∗ R) 12 12 16 16 16)
      (Main m ρ c 32 16 iprop(Snds m ρ c 16 16 ∗ R) 12 12 16 16 24) (fun _ => True) := by
  rw [k0_part28_eq_skeleton]
  unfold k0_part28_skel
  simp (zeta := false) only [Prog.lift, Prog.bind_op, Prog.bind_ret, Prog.pure_eq_ret, semSignalWord, semWaitWord]
  iterate 8
    refine p_zload (by decide) (by rfl) fun _ => ?_
    refine p_zstore (by decide) (by decide) (by rfl) (by rfl) ?_
  exact Piece.ret trivial

set_option maxRecDepth 65536 in
theorem part29 {R : sProp 𝕄} {K : Cells → ℕ} {c : Dev nD} (v2 : BitVec 32) :
    Piece m ρ K c (k0_part29 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2) (Main m ρ c 32 16 iprop(Snds m ρ c 16 16 ∗ R) 12 12 16 16 24)
      (MidMain m ρ c 19 24 R 12 12 16 24) (fun _ => True) := by
  rw [k0_part29_eq_skeleton]
  unfold k0_part29_skel
  simp (zeta := false) only [Prog.lift, Prog.bind_op, Prog.bind_ret, Prog.pure_eq_ret, semSignalWord, semWaitWord]
  refine Piece.pre ?_ (flush (2 : Fin 4))
  iterate 3
    refine p_remote (by decide +kernel) (by decide) (by decide) ?_
    refine p_own (by decide +kernel) (by decide) (by decide) ?_
  refine p_remote (by decide +kernel) (by decide) (by decide) ?_
  exact Piece.ret trivial

set_option maxRecDepth 65536 in
theorem part30 {R : sProp 𝕄} {K : Cells → ℕ} {c : Dev nD} (v2 : BitVec 32) (v910 : BitVec 1) :
    Piece m ρ K c (k0_part30 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v910) (MidMain m ρ c 19 24 R 12 12 16 24)
      (Main m ρ c 32 23 iprop(Snds m ρ c 23 24 ∗ R) 12 12 16 24 24) (fun _ => True) := by
  rw [k0_part30_eq_skeleton]
  unfold k0_part30_skel
  simp (zeta := false) only [Prog.lift, Prog.bind_op, Prog.bind_ret, Prog.pure_eq_ret, semSignalWord, semWaitWord]
  iterate 3
    refine p_own (by decide +kernel) (by decide) (by decide) ?_
    refine p_remote (by decide +kernel) (by decide) (by decide) ?_
  refine p_own (by decide +kernel) (by decide) (by decide) ?_
  exact Piece.ret trivial

set_option maxRecDepth 65536 in
theorem part31 {R : sProp 𝕄} {K : Cells → ℕ} {c : Dev nD} (v2 : BitVec 32) (v439 : FVec F S128x4096 .bf16) (v942 : BitVec 32) (v944 : BitVec 32) :
    Piece m ρ K c (k0_part31 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v439 v942 v944) (Main m ρ c 32 23 iprop(Snds m ρ c 23 24 ∗ R) 12 12 16 24 24)
      (Main m ρ c 32 24 iprop(Snds m ρ c 24 24 ∗ R) 14 14 16 24 24) (fun r => r = k0_pay39 v439 (wch m ρ c 12) (wch m ρ c 13)) := by
  rw [k0_part31_eq_skeleton]
  unfold k0_part31_skel
  simp (zeta := false) only [Prog.lift, Prog.bind_op, Prog.bind_ret, Prog.pure_eq_ret, semSignalWord, semWaitWord]
  refine p_remote (by decide +kernel) (by decide) (by decide) ?_
  refine p_own (by decide +kernel) (by decide) (by decide) ?_
  iterate 2
    refine p_wait (by decide) (by decide) (by rfl) ?_
    refine p_load (by decide) (by decide) (by rfl) ?_
  exact Piece.ret rfl

end Cert.KernelIdealRun

end
-- ==== Proof.KernelIdealPartsE.lean ====
/-
# The pieces of the program: the last column block
-/
module

public import proofs.«01_k».proof.Proof.KernelIdealRules

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {m ρ}

set_option maxRecDepth 65536 in
theorem part32 {R : sProp 𝕄} {K : Cells → ℕ} {c : Dev nD}  :
    Piece m ρ K c (k0_part32 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 (xb m ρ c) (sc m ρ c) (k0_pay39 (xb m ρ c) (wch m ρ c 12) (wch m ρ c 13))) (Main m ρ c 32 24 iprop(Snds m ρ c 24 24 ∗ R) 14 14 16 24 24)
      (Main m ρ c 32 24 iprop(Snds m ρ c 24 24 ∗ R) 16 16 16 24 26) (fun r => r.1 = zblk m ρ c 3 ∧ r.2 = zcut m ρ c 26) := by
  rw [k0_part32_eq_skeleton]
  unfold k0_part32_skel
  simp (zeta := false) only [Prog.lift, Prog.bind_op, Prog.bind_ret, Prog.pure_eq_ret, semSignalWord, semWaitWord]
  iterate 2
    refine p_wait (by decide) (by decide) (by rfl) ?_
    refine p_load (by decide) (by decide) (by rfl) ?_
  iterate 2
    refine p_zload (by decide) (by rfl) fun _ => ?_
    refine p_zstore (by decide) (by decide) (by rfl) (by rfl) ?_
  exact Piece.ret ⟨rfl, rfl⟩

set_option maxRecDepth 65536 in
theorem part33 {R : sProp 𝕄} {K : Cells → ℕ} {c : Dev nD} (v2 : BitVec 32) :
    Piece m ρ K c (k0_part33 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 (zblk m ρ c 3) (zcut m ρ c 26)) (Main m ρ c 32 24 iprop(Snds m ρ c 24 24 ∗ R) 16 16 16 24 26)
      (Main m ρ c 32 25 iprop(Snds m ρ c 25 32 ∗ R) 16 16 16 32 32) (fun _ => True) := by
  rw [k0_part33_eq_skeleton]
  unfold k0_part33_skel
  simp (zeta := false) only [Prog.lift, Prog.bind_op, Prog.bind_ret, Prog.pure_eq_ret, semSignalWord, semWaitWord]
  iterate 6
    refine p_zload (by decide) (by rfl) fun _ => ?_
    refine p_zstore (by decide) (by decide) (by rfl) (by rfl) ?_
  refine Piece.pre ?_ (flush (3 : Fin 4))
  refine p_remote (by decide +kernel) (by decide) (by decide) ?_
  refine p_own (by decide +kernel) (by decide) (by decide) ?_
  exact Piece.ret trivial

set_option maxRecDepth 65536 in
theorem part34 {R : sProp 𝕄} {K : Cells → ℕ} {c : Dev nD} (v2 : BitVec 32) :
    Piece m ρ K c (k0_part34 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2) (Main m ρ c 32 25 iprop(Snds m ρ c 25 32 ∗ R) 16 16 16 32 32)
      (MidMain m ρ c 28 32 R 16 16 16 32) (fun _ => True) := by
  rw [k0_part34_eq_skeleton]
  unfold k0_part34_skel
  simp (zeta := false) only [Prog.lift, Prog.bind_op, Prog.bind_ret, Prog.pure_eq_ret, semSignalWord, semWaitWord]
  iterate 3
    refine p_remote (by decide +kernel) (by decide) (by decide) ?_
    refine p_own (by decide +kernel) (by decide) (by decide) ?_
  refine p_remote (by decide +kernel) (by decide) (by decide) ?_
  exact Piece.ret trivial

set_option maxRecDepth 65536 in
theorem part35 {R : sProp 𝕄} {K : Cells → ℕ} {c : Dev nD} (v2 : BitVec 32) (v1071 : BitVec 1) :
    Piece m ρ K c (k0_part35 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1071) (MidMain m ρ c 28 32 R 16 16 16 32)
      (Main m ρ c 32 32 iprop(Snds m ρ c 32 32 ∗ R) 16 16 16 32 32) (fun _ => True) := by
  rw [k0_part35_eq_skeleton]
  unfold k0_part35_skel
  simp (zeta := false) only [Prog.lift, Prog.bind_op, Prog.bind_ret, Prog.pure_eq_ret, semSignalWord, semWaitWord]
  iterate 3
    refine p_own (by decide +kernel) (by decide) (by decide) ?_
    refine p_remote (by decide +kernel) (by decide) (by decide) ?_
  refine p_own (by decide +kernel) (by decide) (by decide) ?_
  exact Piece.ret trivial

end Cert.KernelIdealRun

end
-- ==== Proof.KernelIdealPartsG.lean ====
/-
# The pieces of the program: the waits at the end
-/
module

public import proofs.«01_k».proof.Proof.KernelIdealRules

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {m ρ}

set_option maxRecDepth 65536 in
theorem part36 {R : sProp 𝕄} {K : Cells → ℕ} {c : Dev nD} (v2 : BitVec 32) (v1103 : BitVec 32) (v1104 : BitVec 32) :
    Piece m ρ K c (k0_part36 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1103 v1104) (iprop(Tail m ρ c 1 0 ∗ R))
      (iprop(Tail m ρ c 2 0 ∗ R)) (fun _ => True) := by
  rw [k0_part36_eq_skeleton]
  unfold k0_part36_skel
  simp (zeta := false) only [Prog.lift, Prog.bind_op, Prog.bind_ret, Prog.pure_eq_ret, semSignalWord, semWaitWord]
  refine p_recv (by decide) (by decide) ?_
  exact Piece.ret trivial

set_option maxRecDepth 65536 in
theorem part37 {R : sProp 𝕄} {K : Cells → ℕ} {c : Dev nD} (v2 : BitVec 32) :
    Piece m ρ K c (k0_part37 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2) (iprop(Tail m ρ c 2 0 ∗ R))
      (iprop(Tail m ρ c 4 0 ∗ R)) (fun _ => True) := by
  rw [k0_part37_eq_skeleton]
  unfold k0_part37_skel
  simp (zeta := false) only [Prog.lift, Prog.bind_op, Prog.bind_ret, Prog.pure_eq_ret, semSignalWord, semWaitWord]
  iterate 2 refine p_recv (by decide) (by decide) ?_
  exact Piece.ret trivial

set_option maxRecDepth 65536 in
theorem part38 {R : sProp 𝕄} {K : Cells → ℕ} {c : Dev nD} (v2 : BitVec 32) (v1169 : BitVec 32) (c0_i32_813 : BitVec 32) :
    Piece m ρ K c (k0_part38 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1169 c0_i32_813) (iprop(Tail m ρ c 4 0 ∗ R))
      (iprop(Tail m ρ c 6 0 ∗ R)) (fun _ => True) := by
  rw [k0_part38_eq_skeleton]
  unfold k0_part38_skel
  simp (zeta := false) only [Prog.lift, Prog.bind_op, Prog.bind_ret, Prog.pure_eq_ret, semSignalWord, semWaitWord]
  iterate 2 refine p_recv (by decide) (by decide) ?_
  exact Piece.ret trivial

set_option maxRecDepth 65536 in
theorem part39 {R : sProp 𝕄} {K : Cells → ℕ} {c : Dev nD} (v2 : BitVec 32) (v1198 : BitVec 32) (v1199 : BitVec 32) (v1200 : BitVec 1) (v1201 : BitVec 1) (c0_i32_839 : BitVec 32) :
    Piece m ρ K c (k0_part39 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1198 v1199 v1200 v1201 c0_i32_839) (iprop(Tail m ρ c 6 0 ∗ R))
      (iprop(Tail m ρ c 8 0 ∗ R)) (fun _ => True) := by
  rw [k0_part39_eq_skeleton]
  unfold k0_part39_skel
  simp (zeta := false) only [Prog.lift, Prog.bind_op, Prog.bind_ret, Prog.pure_eq_ret, semSignalWord, semWaitWord]
  iterate 2 refine p_recv (by decide) (by decide) ?_
  exact Piece.ret trivial

set_option maxRecDepth 65536 in
theorem part40 {R : sProp 𝕄} {K : Cells → ℕ} {c : Dev nD} (v2 : BitVec 32) (v1234 : BitVec 32) (c32_i32_864 : BitVec 32) :
    Piece m ρ K c (k0_part40 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1234 c32_i32_864) (iprop(Tail m ρ c 8 0 ∗ R))
      (iprop(Tail m ρ c 9 0 ∗ R)) (fun _ => True) := by
  rw [k0_part40_eq_skeleton]
  unfold k0_part40_skel
  simp (zeta := false) only [Prog.lift, Prog.bind_op, Prog.bind_ret, Prog.pure_eq_ret, semSignalWord, semWaitWord]
  refine p_recv (by decide) (by decide) ?_
  exact Piece.ret trivial

set_option maxRecDepth 65536 in
theorem part41 {R : sProp 𝕄} {K : Cells → ℕ} {c : Dev nD} (v2 : BitVec 32) :
    Piece m ρ K c (k0_part41 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2) (iprop(Tail m ρ c 9 0 ∗ R))
      (iprop(Tail m ρ c 11 0 ∗ R)) (fun _ => True) := by
  rw [k0_part41_eq_skeleton]
  unfold k0_part41_skel
  simp (zeta := false) only [Prog.lift, Prog.bind_op, Prog.bind_ret, Prog.pure_eq_ret, semSignalWord, semWaitWord]
  iterate 2 refine p_recv (by decide) (by decide) ?_
  exact Piece.ret trivial

set_option maxRecDepth 65536 in
theorem part42 {R : sProp 𝕄} {K : Cells → ℕ} {c : Dev nD} (v2 : BitVec 32) (v1301 : BitVec 32) :
    Piece m ρ K c (k0_part42 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1301) (iprop(Tail m ρ c 11 0 ∗ R))
      (iprop(Tail m ρ c 13 0 ∗ R)) (fun _ => True) := by
  rw [k0_part42_eq_skeleton]
  unfold k0_part42_skel
  simp (zeta := false) only [Prog.lift, Prog.bind_op, Prog.bind_ret, Prog.pure_eq_ret, semSignalWord, semWaitWord]
  iterate 2 refine p_recv (by decide) (by decide) ?_
  exact Piece.ret trivial

set_option maxRecDepth 65536 in
theorem part43 {R : sProp 𝕄} {K : Cells → ℕ} {c : Dev nD} (v2 : BitVec 32) (v1331 : BitVec 32) (v1332 : BitVec 32) :
    Piece m ρ K c (k0_part43 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1331 v1332) (iprop(Tail m ρ c 13 0 ∗ R))
      (iprop(Tail m ρ c 14 0 ∗ R)) (fun _ => True) := by
  rw [k0_part43_eq_skeleton]
  unfold k0_part43_skel
  simp (zeta := false) only [Prog.lift, Prog.bind_op, Prog.bind_ret, Prog.pure_eq_ret, semSignalWord, semWaitWord]
  refine p_recv (by decide) (by decide) ?_
  exact Piece.ret trivial

set_option maxRecDepth 65536 in
theorem part44 {R : sProp 𝕄} {K : Cells → ℕ} {c : Dev nD} (v2 : BitVec 32) :
    Piece m ρ K c (k0_part44 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2) (iprop(Tail m ρ c 14 0 ∗ R))
      (iprop(Tail m ρ c 16 0 ∗ R)) (fun _ => True) := by
  rw [k0_part44_eq_skeleton]
  unfold k0_part44_skel
  simp (zeta := false) only [Prog.lift, Prog.bind_op, Prog.bind_ret, Prog.pure_eq_ret, semSignalWord, semWaitWord]
  iterate 2 refine p_recv (by decide) (by decide) ?_
  exact Piece.ret trivial

set_option maxRecDepth 65536 in
theorem part45 {R : sProp 𝕄} {K : Cells → ℕ} {c : Dev nD} (v2 : BitVec 32) (v1397 : BitVec 32) (c0_i32_993 : BitVec 32) :
    Piece m ρ K c (k0_part45 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1397 c0_i32_993) (iprop(Tail m ρ c 16 0 ∗ R))
      (iprop(Tail m ρ c 18 0 ∗ R)) (fun _ => True) := by
  rw [k0_part45_eq_skeleton]
  unfold k0_part45_skel
  simp (zeta := false) only [Prog.lift, Prog.bind_op, Prog.bind_ret, Prog.pure_eq_ret, semSignalWord, semWaitWord]
  iterate 2 refine p_recv (by decide) (by decide) ?_
  exact Piece.ret trivial

set_option maxRecDepth 65536 in
theorem part46 {R : sProp 𝕄} {K : Cells → ℕ} {c : Dev nD} (v2 : BitVec 32) (v1426 : BitVec 32) (v1427 : BitVec 32) (v1428 : BitVec 1) (v1429 : BitVec 1) (c0_i32_1019 : BitVec 32) :
    Piece m ρ K c (k0_part46 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1426 v1427 v1428 v1429 c0_i32_1019) (iprop(Tail m ρ c 18 0 ∗ R))
      (iprop(Tail m ρ c 20 0 ∗ R)) (fun _ => True) := by
  rw [k0_part46_eq_skeleton]
  unfold k0_part46_skel
  simp (zeta := false) only [Prog.lift, Prog.bind_op, Prog.bind_ret, Prog.pure_eq_ret, semSignalWord, semWaitWord]
  iterate 2 refine p_recv (by decide) (by decide) ?_
  exact Piece.ret trivial

set_option maxRecDepth 65536 in
theorem part47 {R : sProp 𝕄} {K : Cells → ℕ} {c : Dev nD} (v2 : BitVec 32) (v1462 : BitVec 32) (c32_i32_1044 : BitVec 32) :
    Piece m ρ K c (k0_part47 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1462 c32_i32_1044) (iprop(Tail m ρ c 20 0 ∗ R))
      (iprop(Tail m ρ c 21 0 ∗ R)) (fun _ => True) := by
  rw [k0_part47_eq_skeleton]
  unfold k0_part47_skel
  simp (zeta := false) only [Prog.lift, Prog.bind_op, Prog.bind_ret, Prog.pure_eq_ret, semSignalWord, semWaitWord]
  refine p_recv (by decide) (by decide) ?_
  exact Piece.ret trivial

set_option maxRecDepth 65536 in
theorem part48 {R : sProp 𝕄} {K : Cells → ℕ} {c : Dev nD} (v2 : BitVec 32) :
    Piece m ρ K c (k0_part48 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2) (iprop(Tail m ρ c 21 0 ∗ R))
      (iprop(Tail m ρ c 23 0 ∗ R)) (fun _ => True) := by
  rw [k0_part48_eq_skeleton]
  unfold k0_part48_skel
  simp (zeta := false) only [Prog.lift, Prog.bind_op, Prog.bind_ret, Prog.pure_eq_ret, semSignalWord, semWaitWord]
  iterate 2 refine p_recv (by decide) (by decide) ?_
  exact Piece.ret trivial

set_option maxRecDepth 65536 in
theorem part49 {R : sProp 𝕄} {K : Cells → ℕ} {c : Dev nD} (v2 : BitVec 32) (v1529 : BitVec 32) :
    Piece m ρ K c (k0_part49 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1529) (iprop(Tail m ρ c 23 0 ∗ R))
      (iprop(Tail m ρ c 25 0 ∗ R)) (fun _ => True) := by
  rw [k0_part49_eq_skeleton]
  unfold k0_part49_skel
  simp (zeta := false) only [Prog.lift, Prog.bind_op, Prog.bind_ret, Prog.pure_eq_ret, semSignalWord, semWaitWord]
  iterate 2 refine p_recv (by decide) (by decide) ?_
  exact Piece.ret trivial

set_option maxRecDepth 65536 in
theorem part50 {R : sProp 𝕄} {K : Cells → ℕ} {c : Dev nD} (v2 : BitVec 32) (v1559 : BitVec 32) (v1560 : BitVec 32) :
    Piece m ρ K c (k0_part50 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1559 v1560) (iprop(Tail m ρ c 25 0 ∗ R))
      (iprop(Tail m ρ c 26 0 ∗ R)) (fun _ => True) := by
  rw [k0_part50_eq_skeleton]
  unfold k0_part50_skel
  simp (zeta := false) only [Prog.lift, Prog.bind_op, Prog.bind_ret, Prog.pure_eq_ret, semSignalWord, semWaitWord]
  refine p_recv (by decide) (by decide) ?_
  exact Piece.ret trivial

set_option maxRecDepth 65536 in
theorem part51 {R : sProp 𝕄} {K : Cells → ℕ} {c : Dev nD} (v2 : BitVec 32) :
    Piece m ρ K c (k0_part51 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2) (iprop(Tail m ρ c 26 0 ∗ R))
      (iprop(Tail m ρ c 28 0 ∗ R)) (fun _ => True) := by
  rw [k0_part51_eq_skeleton]
  unfold k0_part51_skel
  simp (zeta := false) only [Prog.lift, Prog.bind_op, Prog.bind_ret, Prog.pure_eq_ret, semSignalWord, semWaitWord]
  iterate 2 refine p_recv (by decide) (by decide) ?_
  exact Piece.ret trivial

set_option maxRecDepth 65536 in
theorem part52 {R : sProp 𝕄} {K : Cells → ℕ} {c : Dev nD} (v2 : BitVec 32) (v1625 : BitVec 32) (c0_i32_1173 : BitVec 32) :
    Piece m ρ K c (k0_part52 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1625 c0_i32_1173) (iprop(Tail m ρ c 28 0 ∗ R))
      (iprop(Tail m ρ c 30 0 ∗ R)) (fun _ => True) := by
  rw [k0_part52_eq_skeleton]
  unfold k0_part52_skel
  simp (zeta := false) only [Prog.lift, Prog.bind_op, Prog.bind_ret, Prog.pure_eq_ret, semSignalWord, semWaitWord]
  iterate 2 refine p_recv (by decide) (by decide) ?_
  exact Piece.ret trivial

set_option maxRecDepth 65536 in
theorem part53 {R : sProp 𝕄} {K : Cells → ℕ} {c : Dev nD} (v2 : BitVec 32) (v1654 : BitVec 32) (v1655 : BitVec 32) (v1656 : BitVec 1) (v1657 : BitVec 1) (c0_i32_1199 : BitVec 32) :
    Piece m ρ K c (k0_part53 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1654 v1655 v1656 v1657 c0_i32_1199) (iprop(Tail m ρ c 30 0 ∗ R))
      (iprop(Tail m ρ c 32 0 ∗ R)) (fun _ => True) := by
  rw [k0_part53_eq_skeleton]
  unfold k0_part53_skel
  simp (zeta := false) only [Prog.lift, Prog.bind_op, Prog.bind_ret, Prog.pure_eq_ret, semSignalWord, semWaitWord]
  iterate 2 refine p_recv (by decide) (by decide) ?_
  exact Piece.ret trivial

set_option maxRecDepth 65536 in
theorem part54 {R : sProp 𝕄} {K : Cells → ℕ} {c : Dev nD} (v2 : BitVec 32) (v1691 : BitVec 32) :
    Piece m ρ K c (k0_part54 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1691) (iprop(Tail m ρ c 32 0 ∗ R))
      (iprop(Tail m ρ c 32 10 ∗ R)) (fun _ => True) := by
  rw [k0_part54_eq_skeleton]
  unfold k0_part54_skel
  simp (zeta := false) only [Prog.lift, Prog.bind_op, Prog.bind_ret, Prog.pure_eq_ret, semSignalWord, semWaitWord]
  iterate 10 refine p_sent (by decide) (by decide +kernel) (by rfl) ?_
  exact Piece.ret trivial

set_option maxRecDepth 65536 in
theorem part55 {R : sProp 𝕄} {K : Cells → ℕ} {c : Dev nD} (v2 : BitVec 32) (v1721 : BitVec 32) :
    Piece m ρ K c (k0_part55 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1721) (iprop(Tail m ρ c 32 10 ∗ R))
      (iprop(Tail m ρ c 32 20 ∗ R)) (fun _ => True) := by
  rw [k0_part55_eq_skeleton]
  unfold k0_part55_skel
  simp (zeta := false) only [Prog.lift, Prog.bind_op, Prog.bind_ret, Prog.pure_eq_ret, semSignalWord, semWaitWord]
  iterate 10 refine p_sent (by decide) (by decide +kernel) (by rfl) ?_
  exact Piece.ret trivial

set_option maxRecDepth 65536 in
theorem part56 {R : sProp 𝕄} {K : Cells → ℕ} {c : Dev nD} (v2 : BitVec 32) (v1751 : BitVec 32) :
    Piece m ρ K c (k0_part56 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 c v2 v1751) (iprop(Tail m ρ c 32 20 ∗ R))
      (iprop(Tail m ρ c 32 30 ∗ R)) (fun _ => True) := by
  rw [k0_part56_eq_skeleton]
  unfold k0_part56_skel
  simp (zeta := false) only [Prog.lift, Prog.bind_op, Prog.bind_ret, Prog.pure_eq_ret, semSignalWord, semWaitWord]
  iterate 10 refine p_sent (by decide) (by decide +kernel) (by rfl) ?_
  exact Piece.ret trivial

end Cert.KernelIdealRun

end
-- ==== Proof.KernelIdealBody.lean ====
/-
# The body, whole
-/
module

public import proofs.«01_k».proof.Proof.KernelIdealPartsA
public import proofs.«01_k».proof.Proof.KernelIdealPartsB
public import proofs.«01_k».proof.Proof.KernelIdealPartsC
public import proofs.«01_k».proof.Proof.KernelIdealPartsD
public import proofs.«01_k».proof.Proof.KernelIdealPartsE
public import proofs.«01_k».proof.Proof.KernelIdealPartsG
public import Idealize.ShloMosaic.Lib.Ring
public import Idealize.SL.ProofMode.BigOp

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## From the last send to the tail -/

/-- What the tail starts with besides the sends: the positions and credits of the receive cells, the positions of the send cells. -/
def TailR (c : Dev nD) : sProp 𝕄 :=
  iprop((bigSep (Finset.Ico 1 32) fun n => iprop(atPos EX (recvCell c (dn c n)) 0 ∅ 0 ∗ cred (tallyAt (recvCell c (dn c n)) () N)))
    ∗ bigSep (Finset.Ico 0 32) fun n => atPos EX (sendCell c (dv n)) 0 ∅ 0)

theorem sent_order (c : Dev nD) : bigSep (Finset.Ico 0 32) (fun n => Sent m ρ c (tgt c n)) = bigSep (Finset.Ico 0 32) fun n => Sent m ρ c (dv n) :=
  (bigSep_by (tgt_inj c) (Sent m ρ c)).symm.trans (bigSep_by dv_inj (Sent m ρ c))

theorem to_tail {R : sProp 𝕄} (c : Dev nD) :
    Main m ρ c 32 32 iprop(Snds m ρ c 32 32 ∗ Ops m ρ c ∗ atPos EX (barCell c) 1 ∅ 0 ∗ TailR c ∗ R) 16 16 16 32 32
      ⊢ iprop(Tail m ρ c 1 0 ∗ Ops m ρ c ∗ atPos EX (barCell c) 1 ∅ 0 ∗ Lds m ρ c 16 16 16 ∗ R) := by
  unfold Main Snds Tail TailR Rcv Snt
  rw [sent_order, bigSep_sep' (Finset.Ico 0 32)]
  simp only [Finset.Ico_self, bigSep_empty]
  iintro ⟨HO, ⟨⟨-, -, Hs⟩, HX, Hb, ⟨Hr, Hp⟩, HR⟩, HL, -⟩
  isplitl [HO Hr Hp Hs]
  · isplitl [HO]; · iexact HO
    isplitl [Hr]
    · isplitl [Hr]; · iexact Hr
      iempintro
    · isplitl [Hp Hs]
      · isplitl [Hp] <;> iassumption
      iempintro
  isplitl [HX]; · iexact HX
  isplitl [Hb]; · iexact Hb
  isplitl [HL] <;> iassumption

variable {m ρ}

theorem Piece.then {K : Cells → ℕ} {c : Dev nD} {β γ : Type} {A B C : sProp 𝕄} {p : Prog (TpuEff nD τ sig (Elt F) Λ₀ .tc) β} {k : β → Prog (TpuEff nD τ sig (Elt F) Λ₀ .tc) γ}
    {V : β → Prop} {W : γ → Prop} (h : Piece m ρ K c p A B V) (hk : ∀ r, V r → Piece m ρ K c (k r) B C W) : Piece m ρ K c (p >>= k) A C W :=
  Piece.bind h hk

section Then
variable {K : Cells → ℕ} {c : Dev nD} {α β γ δ : Type} {W : δ → Prop}
/-- The same where the piece's result is known, in whole or in its first component. -/
theorem Piece.then_fst {A B C : sProp 𝕄} {p : Prog (TpuEff nD τ sig (Elt F) Λ₀ .tc) (Σ' (_ : α), β)} {k : (Σ' (_ : α), β) → Prog (TpuEff nD τ sig (Elt F) Λ₀ .tc) δ} {x : α}
    (h : Piece m ρ K c p A B (fun r => r.1 = x)) (hk : ∀ b, Piece m ρ K c (k ⟨x, b⟩) B C W) : Piece m ρ K c (p >>= k) A C W :=
  Piece.bind h fun r hr => by obtain ⟨a, b⟩ := r; obtain rfl : a = x := hr; exact hk b
theorem Piece.then_eq1 {A B C : sProp 𝕄} {p : Prog (TpuEff nD τ sig (Elt F) Λ₀ .tc) α} {k : α → Prog (TpuEff nD τ sig (Elt F) Λ₀ .tc) δ} {x : α}
    (h : Piece m ρ K c p A B (fun r => r = x)) (hk : Piece m ρ K c (k x) B C W) : Piece m ρ K c (p >>= k) A C W :=
  Piece.bind h fun r hr => by obtain rfl : r = x := hr; exact hk
theorem Piece.then_eq2 {A B C : sProp 𝕄} {p : Prog (TpuEff nD τ sig (Elt F) Λ₀ .tc) (Σ' (_ : α), β)} {k : (Σ' (_ : α), β) → Prog (TpuEff nD τ sig (Elt F) Λ₀ .tc) δ} {x : α} {y : β}
    (h : Piece m ρ K c p A B (fun r => r.1 = x ∧ r.2 = y)) (hk : Piece m ρ K c (k ⟨x, y⟩) B C W) : Piece m ρ K c (p >>= k) A C W :=
  Piece.bind h fun r hr => by obtain ⟨a, b⟩ := r; obtain ⟨h0, h1⟩ := hr; obtain rfl : a = x := h0; obtain rfl : b = y := h1; exact hk
theorem Piece.then_eq3 {A B C : sProp 𝕄} {p : Prog (TpuEff nD τ sig (Elt F) Λ₀ .tc) (Σ' (_ : α) (_ : β), γ)} {k : (Σ' (_ : α) (_ : β), γ) → Prog (TpuEff nD τ sig (Elt F) Λ₀ .tc) δ}
    {x : α} {y : β} {z : γ} (h : Piece m ρ K c p A B (fun r => r.1 = x ∧ r.2.1 = y ∧ r.2.2 = z)) (hk : Piece m ρ K c (k ⟨x, y, z⟩) B C W) : Piece m ρ K c (p >>= k) A C W :=
  Piece.bind h fun r hr => by
    obtain ⟨a, b, d⟩ := r; obtain ⟨h0, h1, h2⟩ := hr; obtain rfl : a = x := h0; obtain rfl : b = y := h1; obtain rfl : d = z := h2; exact hk
end Then

set_option maxRecDepth 65536 in
set_option maxHeartbeats 1000000 in
theorem part57 {R : sProp 𝕄} {K : Cells → ℕ} {c : Dev nD} :
    Piece m ρ K c (k0_part57 xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6)
      (Main m ρ c 1 0 iprop(Sigs c 1 ∗ Ops m ρ c ∗ BarR c ∗ TailR c ∗ R) 0 0 0 0 0)
      iprop(Tail m ρ c 32 31 ∗ Ops m ρ c ∗ atPos EX (barCell c) 1 ∅ 0 ∗ Lds m ρ c 16 16 16 ∗ R) (fun r => r.1 = c) := by
  rw [k0_part57_eq_skeleton]
  unfold k0_part57_skel
  refine @Piece.then_fst F _ m ρ K c _ _ _ _ _ _ _ _ _ _ (@part1 F _ m ρ _ K c ) fun b => ?_
  refine @Piece.then_fst F _ m ρ K c _ _ _ _ _ _ _ _ _ _ (@part2 F _ m ρ _ K c _) fun b => ?_
  obtain ⟨v50, v55, v56⟩ := b
  refine @Piece.then F _ m ρ K c _ _ _ _ _ _ _ _ _ (@part3 F _ m ρ _ K c _ _ _ _) fun r hr => ?_
  obtain ⟨v86, c32_i32_68, v87⟩ := r
  refine @Piece.then F _ m ρ K c _ _ _ _ _ _ _ _ _ (@part4 F _ m ρ _ K c _ _ _ _) fun r hr => ?_
  obtain ⟨v115, v120, v121⟩ := r
  refine @Piece.then F _ m ρ K c _ _ _ _ _ _ _ _ _ (@part5 F _ m ρ _ K c _ _ _ _) fun r hr => ?_
  obtain ⟨v151, c32_i32_113, v152⟩ := r
  refine @Piece.then F _ m ρ K c _ _ _ _ _ _ _ _ _ (@part6 F _ m ρ _ K c _ _ _ _) fun r hr => ?_
  obtain ⟨v180, v185, v186⟩ := r
  refine @Piece.then F _ m ρ K c _ _ _ _ _ _ _ _ _ (@part7 F _ m ρ _ K c _ _ _ _) fun r hr => ?_
  obtain ⟨v216, c32_i32_158, v217⟩ := r
  refine @Piece.then F _ m ρ K c _ _ _ _ _ _ _ _ _ (@part8 F _ m ρ _ K c _ _ _ _) fun r hr => ?_
  obtain ⟨v245, v250, v251⟩ := r
  refine @Piece.then F _ m ρ K c _ _ _ _ _ _ _ _ _ (@part9 F _ m ρ _ K c _ _ _ _) fun r hr => ?_
  obtain ⟨v281, c32_i32_203, v282⟩ := r
  refine @Piece.then F _ m ρ K c _ _ _ _ _ _ _ _ _ (@part10 F _ m ρ _ K c _ _ _ _) fun r hr => ?_
  obtain ⟨v310, v315, v316⟩ := r
  refine @Piece.then F _ m ρ K c _ _ _ _ _ _ _ _ _ (@part11 F _ m ρ _ K c _ _ _ _) fun r hr => ?_
  obtain ⟨v346, c32_i32_248, v347⟩ := r
  refine @Piece.then F _ m ρ K c _ _ _ _ _ _ _ _ _ (@part12 F _ m ρ _ K c _ _ _ _) fun r hr => ?_
  obtain ⟨v375, v380, v381⟩ := r
  refine @Piece.then F _ m ρ K c _ _ _ _ _ _ _ _ _ (@part13 F _ m ρ _ K c _ _ _ _) fun r hr => ?_
  obtain ⟨v411, c32_i32_293, v412⟩ := r
  refine @Piece.then_eq2 F _ m ρ K c _ _ _ _ _ _ _ _ _ _ _ (@part14 F _ m ρ _ K c _ _ _ _) ?_
  refine @Piece.then_eq1 F _ m ρ K c _ _ _ _ _ _ _ _ _ (@part15 F _ m ρ _ K c _) ?_
  refine @Piece.then_eq1 F _ m ρ K c _ _ _ _ _ _ _ _ _ (@part16 F _ m ρ _ K c _ _) ?_
  refine @Piece.then_eq2 F _ m ρ K c _ _ _ _ _ _ _ _ _ _ _ (@part17 F _ m ρ _ K c ) ?_
  refine @Piece.then F _ m ρ K c _ _ _ _ _ _ _ _ _ (@part18 F _ m ρ _ K c _) fun r hr => ?_
  obtain ⟨v563, v565⟩ := r
  refine @Piece.then F _ m ρ K c _ _ _ _ _ _ _ _ _ (@part19 F _ m ρ _ K c _ _ _) fun r hr => ?_
  refine @Piece.then_eq3 F _ m ρ K c _ _ _ _ _ _ _ _ _ _ _ _ _ (@part20 F _ m ρ _ K c _ _ _) ?_
  refine @Piece.then_eq1 F _ m ρ K c _ _ _ _ _ _ _ _ _ (@part21 F _ m ρ _ K c _ _ _ _) ?_
  refine @Piece.then_eq2 F _ m ρ K c _ _ _ _ _ _ _ _ _ _ _ (@part22 F _ m ρ _ K c ) ?_
  refine @Piece.then F _ m ρ K c _ _ _ _ _ _ _ _ _ (@part23 F _ m ρ _ K c _) fun r hr => ?_
  obtain ⟨v717, v719⟩ := r
  refine @Piece.then F _ m ρ K c _ _ _ _ _ _ _ _ _ (@part24 F _ m ρ _ K c _ _ _) fun r hr => ?_
  refine @Piece.then F _ m ρ K c _ _ _ _ _ _ _ _ _ (@part25 F _ m ρ _ K c _ _) fun r hr => ?_
  refine @Piece.then_eq1 F _ m ρ K c _ _ _ _ _ _ _ _ _ (@part26 F _ m ρ _ K c _) ?_
  refine @Piece.then_eq2 F _ m ρ K c _ _ _ _ _ _ _ _ _ _ _ (@part27 F _ m ρ _ K c ) ?_
  refine @Piece.then F _ m ρ K c _ _ _ _ _ _ _ _ _ (@part28 F _ m ρ _ K c ) fun r hr => ?_
  refine @Piece.then F _ m ρ K c _ _ _ _ _ _ _ _ _ (@part29 F _ m ρ _ K c _) fun r hr => ?_
  refine @Piece.then F _ m ρ K c _ _ _ _ _ _ _ _ _ (@part30 F _ m ρ _ K c _ _) fun r hr => ?_
  obtain ⟨v942, v944⟩ := r
  refine @Piece.then_eq1 F _ m ρ K c _ _ _ _ _ _ _ _ _ (@part31 F _ m ρ _ K c _ _ _ _) ?_
  refine @Piece.then_eq2 F _ m ρ K c _ _ _ _ _ _ _ _ _ _ _ (@part32 F _ m ρ _ K c ) ?_
  refine @Piece.then F _ m ρ K c _ _ _ _ _ _ _ _ _ (@part33 F _ m ρ _ K c _) fun r hr => ?_
  refine @Piece.then F _ m ρ K c _ _ _ _ _ _ _ _ _ (@part34 F _ m ρ _ K c _) fun r hr => ?_
  refine @Piece.then F _ m ρ K c _ _ _ _ _ _ _ _ _ (@part35 F _ m ρ _ K c _ _) fun r hr => ?_
  obtain ⟨v1103, v1104⟩ := r
  refine Piece.pre ?_ (to_tail m ρ c)
  refine @Piece.then F _ m ρ K c _ _ _ _ _ _ _ _ _ (@part36 F _ m ρ _ K c _ _ _) fun r hr => ?_
  refine @Piece.then F _ m ρ K c _ _ _ _ _ _ _ _ _ (@part37 F _ m ρ _ K c _) fun r hr => ?_
  obtain ⟨v1169, c0_i32_813⟩ := r
  refine @Piece.then F _ m ρ K c _ _ _ _ _ _ _ _ _ (@part38 F _ m ρ _ K c _ _ _) fun r hr => ?_
  obtain ⟨v1198, v1199, v1200, v1201, c0_i32_839⟩ := r
  refine @Piece.then F _ m ρ K c _ _ _ _ _ _ _ _ _ (@part39 F _ m ρ _ K c _ _ _ _ _ _) fun r hr => ?_
  obtain ⟨v1234, c32_i32_864⟩ := r
  refine @Piece.then F _ m ρ K c _ _ _ _ _ _ _ _ _ (@part40 F _ m ρ _ K c _ _ _) fun r hr => ?_
  refine @Piece.then F _ m ρ K c _ _ _ _ _ _ _ _ _ (@part41 F _ m ρ _ K c _) fun r hr => ?_
  refine @Piece.then F _ m ρ K c _ _ _ _ _ _ _ _ _ (@part42 F _ m ρ _ K c _ _) fun r hr => ?_
  obtain ⟨v1331, v1332⟩ := r
  refine @Piece.then F _ m ρ K c _ _ _ _ _ _ _ _ _ (@part43 F _ m ρ _ K c _ _ _) fun r hr => ?_
  refine @Piece.then F _ m ρ K c _ _ _ _ _ _ _ _ _ (@part44 F _ m ρ _ K c _) fun r hr => ?_
  obtain ⟨v1397, c0_i32_993⟩ := r
  refine @Piece.then F _ m ρ K c _ _ _ _ _ _ _ _ _ (@part45 F _ m ρ _ K c _ _ _) fun r hr => ?_
  obtain ⟨v1426, v1427, v1428, v1429, c0_i32_1019⟩ := r
  refine @Piece.then F _ m ρ K c _ _ _ _ _ _ _ _ _ (@part46 F _ m ρ _ K c _ _ _ _ _ _) fun r hr => ?_
  obtain ⟨v1462, c32_i32_1044⟩ := r
  refine @Piece.then F _ m ρ K c _ _ _ _ _ _ _ _ _ (@part47 F _ m ρ _ K c _ _ _) fun r hr => ?_
  refine @Piece.then F _ m ρ K c _ _ _ _ _ _ _ _ _ (@part48 F _ m ρ _ K c _) fun r hr => ?_
  refine @Piece.then F _ m ρ K c _ _ _ _ _ _ _ _ _ (@part49 F _ m ρ _ K c _ _) fun r hr => ?_
  obtain ⟨v1559, v1560⟩ := r
  refine @Piece.then F _ m ρ K c _ _ _ _ _ _ _ _ _ (@part50 F _ m ρ _ K c _ _ _) fun r hr => ?_
  refine @Piece.then F _ m ρ K c _ _ _ _ _ _ _ _ _ (@part51 F _ m ρ _ K c _) fun r hr => ?_
  obtain ⟨v1625, c0_i32_1173⟩ := r
  refine @Piece.then F _ m ρ K c _ _ _ _ _ _ _ _ _ (@part52 F _ m ρ _ K c _ _ _) fun r hr => ?_
  obtain ⟨v1654, v1655, v1656, v1657, c0_i32_1199⟩ := r
  refine @Piece.then F _ m ρ K c _ _ _ _ _ _ _ _ _ (@part53 F _ m ρ _ K c _ _ _ _ _ _) fun r hr => ?_
  refine @Piece.then F _ m ρ K c _ _ _ _ _ _ _ _ _ (@part54 F _ m ρ _ K c _ _) fun r hr => ?_
  refine @Piece.then F _ m ρ K c _ _ _ _ _ _ _ _ _ (@part55 F _ m ρ _ K c _ _) fun r hr => ?_
  refine @Piece.then F _ m ρ K c _ _ _ _ _ _ _ _ _ (@part56 F _ m ρ _ K c _ _) fun r hr => ?_
  simp (zeta := false) only [Prog.lift, Prog.bind_op, Prog.bind_ret, Prog.pure_eq_ret]
  refine p_sent (by decide) (by decide +kernel) (by rfl) ?_
  exact Piece.ret rfl

/-! ## The result -/

/-- What the kernel leaves in its result window. -/
abbrev outv (m : (ℓ : Loc nD τ sig) → Buf (Elt F) ℓ) (ρ : Dev nD → PrngReg) (c : Dev nD) : FVec F S4096x64 .f32 := k0_pay1 (rAll m ρ c)

/-- What is held once every wait is over. -/
def Done (m : (ℓ : Loc nD τ sig) → Buf (Elt F) ℓ) (ρ : Dev nD → PrngReg) (c : Dev nD) : sProp 𝕄 :=
  iprop(Ow c 32 32 ∗ (((c : Thread nD τ).loc cc0_scratch2) ↦{fullShare} rAll m ρ c) ∗ (((c : Thread nD τ).loc cc0_scratch1) ↦{fullShare} zAll m ρ c)
    ∗ semVal ((c : Thread nD τ), .dma copyS) 0
    ∗ (atPos EX (sendCell c c) 0 ∅ 0 ∗ bigSep (Finset.univ.erase c) fun s => atPos EX (sendCell c s) 1 ∅ 0)
    ∗ bigSep (Finset.univ.erase c) fun e => atPos EX (recvCell c e) 1 ∅ 0)

theorem back_peer (c : Dev nD) : bigSep (Finset.univ.erase c) (Back m ρ c)
    = iprop((bigSep (Finset.univ.erase c) fun s => atPos EX (sendCell c s) 1 ∅ 0) ∗ bigSep (Finset.univ.erase c) fun s => zPts c s (zAll m ρ c)) := by
  rw [← bigSep_sep']
  exact bigSep_congr fun s hs => by unfold Back; rw [if_neg (Finset.ne_of_mem_erase hs)]

theorem tail_done (c : Dev nD) : Tail m ρ c 32 32 ⊢ Done m ρ c := by
  unfold Tail Rcv Snt Done
  rw [Ring.pointsTo_blocks slotSet slotSet_disjoint slotSet_cover (ℓ := (c : Thread nD τ).loc cc0_scratch2) (rAll m ρ c),
    Ring.pointsTo_blocks slotSet slotSet_disjoint slotSet_cover (ℓ := (c : Thread nD τ).loc cc0_scratch1) (zAll m ρ c),
    ← bigSep_by dv_inj (Back m ρ c), bigSep_univ_at (Back m ρ c) c, back_peer,
    ← bigSep_by_erase (dn_inj c) (dn_zero c) (fun e => iprop(atPos EX (recvCell c e) 1 ∅ 0 ∗ rPts c e (rAll m ρ c))),
    bigSep_sep' (Finset.univ.erase c) (fun e => atPos EX (recvCell c e) 1 ∅ 0) (fun e => rPts c e (rAll m ρ c)),
    bigSep_univ_at _ c, bigSep_univ_at _ c]
  have h : Back m ρ c c ⊢ iprop(atPos EX (sendCell c c) 0 ∅ 0 ∗ rPts c c (rAll m ρ c) ∗ semVal ((c : Thread nD τ), .dma copyS) 0 ∗ zPts c c (zAll m ρ c)) := by
    unfold Back; rw [if_pos rfl]
  iintro ⟨HO, ⟨-, Hra, Hr⟩, -, Hb, Hsa, Hz⟩
  ihave Hb := h $$ Hb
  icases Hb with ⟨Hs0, Hr0, Hc, Hz0⟩
  isplitl [HO]; · iexact HO
  isplitl [Hr0 Hr]
  · isplitl [Hr0]
    · unfold rPts; iexact Hr0
    · unfold rPts; iexact Hr
  isplitl [Hz0 Hz]
  · isplitl [Hz0]
    · unfold zPts; iexact Hz0
    · unfold zPts; iexact Hz
  isplitl [Hc]; · iexact Hc
  isplitl [Hs0 Hsa]
  · isplitl [Hs0] <;> iassumption
  iexact Hra

/-- The result window at anything, at the result. -/
def OutE (c : Dev nD) : sProp 𝕄 := iprop(∃ f : Buf (Elt F) ((c : Thread nD τ).loc cc0_stg3_0), ((c : Thread nD τ).loc cc0_stg3_0) ↦{fullShare} f)

section Ends
variable {K : Cells → ℕ} {c : Dev nD} {β : Type} {V : β → Prop}

theorem hz3 : (![0, 0, 0] : Fin 3 → ℕ) = fun _ => 0 := by funext a; fin_cases a <;> rfl

theorem p_landed {C R : sProp 𝕄}
    {h : ∀ a, (![0, 0, 0] : Fin 3 → ℕ) a + S32x128x64.size a ≤ S32x128x64.size a}
    {hl : (rM : Memref sig .tc .vmem S32x128x64 .bf16).view.LoadsAt (Rect.unit (s := S32x128x64) ![0, 0, 0] S32x128x64.size h).toLoadRect}
    {k : Vec F S32x128x64 .bf16 → Prog (TpuEff nD τ sig (Elt F) Λ₀ .tc) β}
    (hk : Piece m ρ K c (k (rAll m ρ c)) iprop(Done m ρ c ∗ R) C V) :
    Piece m ρ K c (.op (.load rM (Rect.unit (s := S32x128x64) ![0, 0, 0] S32x128x64.size h).toLoadRect hl) k) iprop(Done m ρ c ∗ R) C V :=
  Piece.step (fun Q => by
    have hv : (rM : Memref sig .tc .vmem S32x128x64 .bf16).view.readAt (Elt F) (Rect.unit (s := S32x128x64) ![0, 0, 0] S32x128x64.size h).toLoadRect (rAll m ρ c) = rAll m ρ c :=
      Memref.readAt_unit_zero (Elt F) cc0_scratch2 hz3 _ _
    unfold Done
    iintro ⟨-, ⟨HO, Hr, HD⟩, HR⟩ Hk
    iapply (wp_load 𝒱₀ (c : Thread nD τ) none Set.univ (m := rM) (Finset.subset_univ _)) $$ Hr
    iintro Hr
    rw [hv]
    iapply Hk
    isplitr [HR]
    · isplitl [HO]; · iexact HO
      isplitl [Hr] <;> iassumption
    iexact HR) hk

theorem p_peek {C R : sProp 𝕄}
    {h : ∀ a, (![0, 0] : Fin 2 → ℕ) a + S4096x64.size a ≤ S4096x64.size a}
    {hl : (oM : Memref sig .tc .vmem S4096x64 .f32).view.LoadsAt (Rect.unit (s := S4096x64) ![0, 0] S4096x64.size h).toLoadRect}
    {k : Vec F S4096x64 .f32 → Prog (TpuEff nD τ sig (Elt F) Λ₀ .tc) β}
    (hk : ∀ v, Piece m ρ K c (k v) iprop(OutE c ∗ R) C V) :
    Piece m ρ K c (.op (.load oM (Rect.unit (s := S4096x64) ![0, 0] S4096x64.size h).toLoadRect hl) k) iprop(OutE c ∗ R) C V := fun Q => by
  unfold OutE
  iintro ⟨#HE, ⟨⟨%f, Ho⟩, HR⟩, HQ⟩
  iapply (wp_load 𝒱₀ (c : Thread nD τ) none Set.univ (m := oM) (Finset.subset_univ _)) $$ Ho
  iintro Ho
  iapply (hk _ Q)
  isplitr; · iexact HE
  isplitr [HQ]
  · isplitr [HR]
    · unfold OutE; iexists f; iexact Ho
    iexact HR
  iexact HQ

theorem p_out {C R : sProp 𝕄} {v : FVec F S4096x64 .f32}
    {h : ∀ a, (![0, 0] : Fin 2 → ℕ) a + S4096x64.size a ≤ S4096x64.size a}
    {hx : ((oM : Memref sig .tc .vmem S4096x64 .f32).access (Rect.unit (s := S4096x64) ![0, 0] S4096x64.size h)).Stores Finset.univ}
    {hm : (Finset.univ : Finset (Rect.unit (s := S4096x64) ![0, 0] S4096x64.size h).shape.Idx) = Finset.univ ∨ ∀ a, (Rect.unit (s := S4096x64) ![0, 0] S4096x64.size h).stride a = 1}
    {k : PUnit → Prog (TpuEff nD τ sig (Elt F) Λ₀ .tc) β}
    (hk : Piece m ρ K c (k ⟨⟩) iprop((((c : Thread nD τ).loc cc0_stg3_0) ↦{fullShare} v) ∗ R) C V) :
    Piece m ρ K c (.op (.store oM (Rect.unit (s := S4096x64) ![0, 0] S4096x64.size h) v Finset.univ hx hm) k) iprop(OutE c ∗ R) C V :=
  Piece.step (fun Q => by
    have hw (f : Buf (Elt F) ((c : Thread nD τ).loc cc0_stg3_0)) : ((oM : Memref sig .tc .vmem S4096x64 .f32).access (Rect.unit (s := S4096x64) ![0, 0] S4096x64.size h)).write (Elt F) f v Finset.univ = v :=
      Memref.write_access_unit_zero_univ (Elt F) cc0_stg3_0 hz2 _ f v
    unfold OutE
    iintro ⟨-, ⟨%f, Ho⟩, HR⟩ Hk
    iapply (wp_store 𝒱₀ (c : Thread nD τ) none Set.univ (m := oM) (r := Rect.unit (s := S4096x64) ![0, 0] S4096x64.size h) (Mk := Finset.univ) (S := Finset.univ) (f := f) (Finset.subset_univ _)) $$ Ho
    iintro Ho
    rw [hw f]
    iapply Hk
    isplitl [Ho] <;> iassumption) hk

end Ends

set_option maxRecDepth 65536 in
/-- The body, from its buffers and its part of the exchange to its result. -/
theorem body_piece {R : sProp 𝕄} {K : Cells → ℕ} {c : Dev nD} :
    Piece m ρ K c (cc0_body xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6)
      (Main m ρ c 1 0 iprop(Sigs c 1 ∗ Ops m ρ c ∗ BarR c ∗ TailR c ∗ OutE c ∗ R) 0 0 0 0 0)
      iprop((((c : Thread nD τ).loc cc0_stg3_0) ↦{fullShare} outv m ρ c) ∗ Done m ρ c ∗ Ops m ρ c ∗ atPos EX (barCell c) 1 ∅ 0 ∗ Lds m ρ c 16 16 16 ∗ R) (fun _ => True) := by
  rw [cc0_body_eq_skeleton]
  unfold cc0_body_skel
  refine @Piece.then F _ m ρ K c _ _ _ _ _ _ _ _ _ (@part57 F _ m ρ _ K c) ?_
  rintro ⟨d0, v2, c31⟩ hr
  obtain rfl : c = d0 := hr.symm
  simp (zeta := false) only [Prog.lift, Prog.bind_op, Prog.bind_ret, Prog.pure_eq_ret]
  refine p_sent (by decide) (by decide +kernel) (by rfl) ?_
  refine Piece.pre ?_ (sep_mono_left (tail_done c))
  refine p_landed ?_
  refine Piece.pre (A := iprop(OutE c ∗ Done m ρ c ∗ Ops m ρ c ∗ atPos EX (barCell c) 1 ∅ 0 ∗ Lds m ρ c 16 16 16 ∗ R)) ?_ ?_
  · refine p_peek fun _ => ?_
    refine p_out ?_
    exact Piece.ret trivial
  · iintro ⟨HD, HX, Hb, HL, HO, HR⟩
    isplitl [HO]; · iexact HO
    isplitl [HD]; · iexact HD
    isplitl [HX]; · iexact HX
    isplitl [Hb]; · iexact Hb
    isplitl [HL] <;> iassumption

end Cert.KernelIdealRun

end
-- ==== Proof.KernelIdealEnds.lean ====
/-
# From the launch to the body and back
-/
module

public import proofs.«01_k».proof.Proof.KernelIdealBody
public import proofs.«01_k».proof.Proof.Gen.KernelIdeal.Points

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts with -/

/-- A family at a device's own cells of the exchange. -/
def own {M : Type} [URA M] (Φ : GSem nD τ sig → sProp M) (c : Dev nD) : sProp M :=
  iprop(Φ (barCell c) ∗ (bigSep Finset.univ fun s : Dev nD => Φ (sendCell c s)) ∗ bigSep Finset.univ fun e : Dev nD => Φ (recvCell c e))

/-- The counters of the chunks' fetches. -/
def loads (c : Dev nD) : sProp 𝕄 := bigSep Finset.univ fun j : Fin 8 => semVal ((c : Thread nD τ), .dma (loadS j.val)) 0

/-- The duties `c` discharges (those towards itself are never used). -/
def pay (c : Dev nD) : sProp 𝕄 :=
  iprop((bigSep Finset.univ fun d : Dev nD => dutyTok EX (barCell d) 0 c) ∗ (bigSep Finset.univ fun d : Dev nD => dutyTok EX (sendCell c d) 0 c)
    ∗ bigSep Finset.univ fun d : Dev nD => dutyTok EX (recvCell d c) 0 c)

def linear (c : Dev nD) : sProp 𝕄 :=
  iprop((loads c ∗ semVal ((c : Thread nD τ), .dma copyS) 0) ∗ own (fun g => atPos EX g 0 ∅ 0) c ∗ pay c)

def creds (c : Dev nD) : sProp 𝕄 :=
  iprop(cred (tallyAt (barCell c) () 31) ∗ bigSep (Finset.univ.erase c) fun e => cred (tallyAt (recvCell c e) () N))

/-- A buffer of `c` whole at anything. -/
abbrev Any (c : Dev nD) (b : Ref sig .tc) : sProp 𝕄 := iprop(∃ f : Buf (Elt F) ((c : Thread nD τ).loc b), ((c : Thread nD τ).loc b) ↦{fullShare} f)
/-- `w` whole, and what is left of it once every chunk has its read share. -/
abbrev wAll (c : Dev nD) : sProp 𝕄 := ((c : Thread nD τ).loc main_arg1) ↦{fullShare} wBuf m ρ c
abbrev wLeft (c : Dev nD) : sProp 𝕄 := ((c : Thread nD τ).loc main_arg1) ↦{Transfers.shareDrop fullShare 16} wBuf m ρ c

def start (c : Dev nD) : sProp 𝕄 := iprop((∃ K, Env m ρ K) ∗ linear c ∗ creds c ∗ wAll m ρ c)

/-! ## Eight slots -/

theorem eight {M : Type} [URA M] (a : ℕ) (Φ : ℕ → sProp M) : (bigSep Finset.univ fun j : Fin 8 => Φ (a + j.val)) = bigSep (Finset.Ico a (a + 8)) Φ := by
  have h : Finset.Ico a (a + 8) = Finset.univ.map ⟨fun j : Fin 8 => a + j.val, fun x y e => Fin.ext (Nat.add_left_cancel e)⟩ := by
    ext x
    simp only [Finset.mem_Ico, Finset.mem_map, Finset.mem_univ, true_and, Function.Embedding.coeFn_mk]
    constructor
    · intro hx; exact ⟨⟨x - a, by omega⟩, by show a + (x - a) = x; omega⟩
    · rintro ⟨j, rfl⟩; have := j.isLt; show a ≤ a + j.val ∧ a + j.val < a + 8; omega
  rw [h, bigSep_map]; rfl

theorem mem_bSet {k : ℕ} {i : S8x1024x512.Idx} : i ∈ bSet k ↔ (i 0).val = k % 8 := by
  unfold bSet bR; rw [Rect.mem_set_unit]
  constructor
  · intro h; have := h 0; simp only [Matrix.cons_val_zero] at this; have h1 : S1x1024x512.size 0 = 1 := rfl; omega
  · intro h a; fin_cases a
    · show k % 8 ≤ (i 0).val ∧ (i 0).val < k % 8 + 1; omega
    · exact ⟨Nat.zero_le _, by have := (i 1).isLt; show (i 1).val < 0 + 1024; have e : S8x1024x512.size 1 = 1024 := rfl; omega⟩
    · exact ⟨Nat.zero_le _, by have := (i 2).isLt; show (i 2).val < 0 + 512; have e : S8x1024x512.size 2 = 512 := rfl; omega⟩
theorem bSet_disjoint (a : ℕ) (j j' : Fin 8) (h : j ≠ j') : Disjoint (bSet (a + j.val)) (bSet (a + j'.val)) :=
  Finset.disjoint_left.mpr fun i hi hi' => h (Fin.ext (by
    have e := (mem_bSet.mp hi).symm.trans (mem_bSet.mp hi')
    have h1 := j.isLt; have h2 := j'.isLt; omega))
theorem bSet_cover (a : ℕ) : (Finset.univ : Finset (Fin 8)).biUnion (fun j => bSet (a + j.val)) = Finset.univ :=
  Finset.eq_univ_iff_forall.mpr fun i => Finset.mem_biUnion.mpr ⟨⟨((i 0).val + 8 * a - a) % 8, Nat.mod_lt _ (by decide)⟩, Finset.mem_univ _, mem_bSet.mpr (by
    have h : (i 0).val < 8 := (i 0).isLt
    show (i 0).val = (a + ((i 0).val + 8 * a - a) % 8) % 8
    omega)⟩
theorem loadS_mod (a j : ℕ) (h : a % 8 = 0) : loadS (a + j) = loadS j := by
  unfold loadS; exact Fin.ext (by show 4 + (a + j) % 8 = 4 + j % 8; omega)

theorem enter_free (c : Dev nD) : iprop(Any c cc0_scratch0 ∗ loads c) ⊢ (bigSep (Finset.Ico 0 (0 + 8)) (Free c) : sProp 𝕄) := by
  have h : iprop((bigSep Finset.univ fun j : Fin 8 => iprop(∃ f : Buf (Elt F) ((c : Thread nD τ).loc cc0_scratch0), ((c : Thread nD τ).loc cc0_scratch0) ↦[bSet (0 + j.val)]{fullShare} f)) ∗ loads c)
      ⊢ (bigSep (Finset.Ico 0 (0 + 8)) (Free c) : sProp 𝕄) := by
    rw [← eight]; unfold loads Free
    rw [← bigSep_sep']
    refine bigSep_mono fun j _ => ?_
    rw [loadS_mod 0 j.val rfl]
    exact BI.Entails.refl _
  have h0 (f : Buf (Elt F) ((c : Thread nD τ).loc cc0_scratch0)) : (((c : Thread nD τ).loc cc0_scratch0) ↦{fullShare} f : sProp 𝕄)
      ⊢ bigSep Finset.univ fun j : Fin 8 => iprop(∃ f : Buf (Elt F) ((c : Thread nD τ).loc cc0_scratch0), ((c : Thread nD τ).loc cc0_scratch0) ↦[bSet (0 + j.val)]{fullShare} f) := by
    rw [Ring.pointsTo_blocks (fun j : Fin 8 => bSet (0 + j.val)) (bSet_disjoint 0) (bSet_cover 0) (ℓ := (c : Thread nD τ).loc cc0_scratch0) f]
    refine bigSep_mono fun j _ => ?_
    show BIBase.Entails (PROP := sProp 𝕄) _ _
    iintro H; iexists f; iexact H
  iintro ⟨⟨%f, H⟩, HL⟩
  iapply h
  isplitl [H]
  · iapply (h0 f); iexact H
  iexact HL

theorem exit_free (c : Dev nD) (f₀ : Buf (Elt F) ((c : Thread nD τ).loc cc0_scratch0)) :
    (bigSep (Finset.Ico 16 (16 + 8)) (Free c) : sProp 𝕄) ⊢ iprop(Any c cc0_scratch0 ∗ loads c) := by
  rw [← eight]; unfold loads Free
  rw [bigSep_sep']
  have h1 : (bigSep Finset.univ fun j : Fin 8 => iprop(∃ f : Buf (Elt F) ((c : Thread nD τ).loc cc0_scratch0), ((c : Thread nD τ).loc cc0_scratch0) ↦[bSet (16 + j.val)]{fullShare} f)) ⊢ (Any c cc0_scratch0 : sProp 𝕄) :=
    Ring.pointsTo_blocks_join_exists (ℓ := (c : Thread nD τ).loc cc0_scratch0) (fun j : Fin 8 => bSet (16 + j.val)) (bSet_disjoint 16) (bSet_cover 16) f₀
  have h2 : (bigSep Finset.univ fun j : Fin 8 => (semVal ((c : Thread nD τ), .dma (loadS (16 + j.val))) 0 : sProp 𝕄)) ⊢ bigSep Finset.univ fun j : Fin 8 => semVal ((c : Thread nD τ), .dma (loadS j.val)) 0 :=
    bigSep_mono fun j _ => by rw [loadS_mod 16 j.val rfl]; exact BI.Entails.refl _
  iintro ⟨H1, H2⟩
  isplitl [H1]
  · iapply h1; iexact H1
  iapply h2; iexact H2

theorem enter_lds (c : Dev nD) : iprop(Any c cc0_scratch0 ∗ loads c ∗ wAll m ρ c) ⊢ iprop(Lds m ρ c 0 0 0 ∗ wLeft m ρ c) := by
  have hw : wAll m ρ c ⊢ iprop(wLeft m ρ c ∗ bigSep (Finset.Ico 0 16) (Wtok m ρ c)) := by
    rw [← Finset.range_eq_Ico]; exact (Transfers.pointsTo_toks_range fullShare 16).1
  unfold Lds
  simp only [Finset.Ico_self, bigSep_empty]
  iintro ⟨Hf, Hl, Hw⟩
  ihave Hw := hw $$ Hw
  icases Hw with ⟨Hw, HW⟩
  isplitr [Hw]
  · isplitl [HW]; · iexact HW
    isplitl [Hf Hl]
    · iapply (enter_free c); isplitl [Hf] <;> iassumption
    isplitl [] <;> iempintro
  iexact Hw

/-! ## The landing and the outgoing buffer -/

theorem enter_sigs (c : Dev nD) : iprop((bigSep Finset.univ fun d : Dev nD => dutyTok EX (barCell d) 0 c) ∗ Any c cc0_scratch2)
    ⊢ (iprop(Sigs c 1 ∗ ∃ f, rPts c c f) : sProp 𝕄) := by
  have h0 (f : Buf (Elt F) ((c : Thread nD τ).loc cc0_scratch2)) : (((c : Thread nD τ).loc cc0_scratch2) ↦{fullShare} f : sProp 𝕄)
      ⊢ bigSep Finset.univ fun d : Dev nD => iprop(∃ f, rPts c d f) := by
    rw [Ring.pointsTo_blocks slotSet slotSet_disjoint slotSet_cover (ℓ := (c : Thread nD τ).loc cc0_scratch2) f]
    refine bigSep_mono fun d _ => ?_
    show BIBase.Entails (PROP := sProp 𝕄) _ _
    iintro H; iexists f; unfold rPts; iexact H
  have h1 : (Sigs c 1 : sProp 𝕄) = iprop((bigSep (Finset.univ.erase c) fun d => dutyTok EX (barCell d) 0 c) ∗ bigSep (Finset.univ.erase c) fun d => iprop(∃ f, rPts c d f)) := by
    rw [← bigSep_sep', bigSep_by_erase (up_inj c) (up_zero c)]; rfl
  rw [h1, bigSep_univ_at (fun d : Dev nD => (dutyTok EX (barCell d) 0 c : sProp 𝕄)) c]
  iintro ⟨⟨-, Ht⟩, %f, H⟩
  ihave H := (h0 f) $$ H
  ihave H := (Entails.of_eq (bigSep_univ_at (fun d : Dev nD => (iprop(∃ f, rPts c d f) : sProp 𝕄)) c)) $$ H
  icases H with ⟨H0, H⟩
  isplitr [H0]
  · isplitl [Ht] <;> iassumption
  iexact H0

theorem enter_zf (c : Dev nD) : Any c cc0_scratch1 ⊢ (ZF c 0 : sProp 𝕄) := by
  have h0 (f : Buf (Elt F) ((c : Thread nD τ).loc cc0_scratch1)) : (((c : Thread nD τ).loc cc0_scratch1) ↦{fullShare} f : sProp 𝕄)
      ⊢ bigSep Finset.univ fun d : Dev nD => iprop(∃ f, zPts c d f) := by
    rw [Ring.pointsTo_blocks slotSet slotSet_disjoint slotSet_cover (ℓ := (c : Thread nD τ).loc cc0_scratch1) f]
    refine bigSep_mono fun d _ => ?_
    show BIBase.Entails (PROP := sProp 𝕄) _ _
    iintro H; iexists f; unfold zPts; iexact H
  unfold ZF
  rw [← bigSep_by dv_inj (fun d => (iprop(∃ f, zPts c d f) : sProp 𝕄))]
  iintro ⟨%f, H⟩
  iapply (h0 f); iexact H

theorem enter_tail (c : Dev nD) :
    iprop((bigSep Finset.univ fun s : Dev nD => atPos EX (sendCell c s) 0 ∅ 0) ∗ (bigSep Finset.univ fun e : Dev nD => atPos EX (recvCell c e) 0 ∅ 0)
        ∗ bigSep (Finset.univ.erase c) fun e => cred (tallyAt (recvCell c e) () N))
      ⊢ (iprop(TailR c ∗ atPos EX (recvCell c c) 0 ∅ 0) : sProp 𝕄) := by
  unfold TailR
  rw [← bigSep_by dv_inj (fun s => (atPos EX (sendCell c s) 0 ∅ 0 : sProp 𝕄)),
    ← bigSep_by_erase (dn_inj c) (dn_zero c) (fun e => (iprop(atPos EX (recvCell c e) 0 ∅ 0 ∗ cred (tallyAt (recvCell c e) () N)) : sProp 𝕄)),
    bigSep_sep' (Finset.univ.erase c) (fun e => (atPos EX (recvCell c e) 0 ∅ 0 : sProp 𝕄)) (fun e => cred (tallyAt (recvCell c e) () N)),
    bigSep_univ_at (fun e : Dev nD => (atPos EX (recvCell c e) 0 ∅ 0 : sProp 𝕄)) c]
  iintro ⟨HS, ⟨H0, HR⟩, HC⟩
  isplitr [H0]
  · isplitl [HR HC]
    · isplitl [HR] <;> iassumption
    iexact HS
  iexact H0

theorem enter_toks (c : Dev nD) :
    iprop((bigSep Finset.univ fun d : Dev nD => dutyTok EX (sendCell c d) 0 c) ∗ bigSep Finset.univ fun d : Dev nD => dutyTok EX (recvCell d c) 0 c)
      ⊢ (bigSep (Finset.univ.erase c) fun d => iprop(dutyTok EX (sendCell c d) 0 c ∗ dutyTok EX (recvCell d c) 0 c) : sProp 𝕄) := by
  rw [bigSep_sep', bigSep_univ_at (fun d : Dev nD => (dutyTok EX (sendCell c d) 0 c : sProp 𝕄)) c,
    bigSep_univ_at (fun d : Dev nD => (dutyTok EX (recvCell d c) 0 c : sProp 𝕄)) c]
  iintro ⟨⟨-, H1⟩, -, H2⟩
  isplitl [H1] <;> iassumption

/-- What rides along unused. -/
def Keep (c : Dev nD) : sProp 𝕄 := iprop(atPos EX (recvCell c c) 0 ∅ 0 ∗ wLeft m ρ c)

theorem enter (c : Dev nD) :
    iprop(linear c ∗ creds c ∗ wAll m ρ c ∗ (Any c cc0_scratch0 ∗ Any c cc0_scratch1 ∗ Any c cc0_scratch2) ∗ Ow c 1 0 ∗ Ops m ρ c ∗ OutE c)
      ⊢ Main m ρ c 1 0 iprop(Sigs c 1 ∗ Ops m ρ c ∗ BarR c ∗ TailR c ∗ OutE c ∗ Keep m ρ c) 0 0 0 0 0 := by
  unfold linear creds own pay Main BarR Keep
  iintro ⟨⟨⟨Hl, Hc⟩, ⟨Hpb, Hps, Hpr⟩, Htb, Hts, Htr⟩, ⟨Hcb, Hcr⟩, Hw, ⟨H0, H1, H2⟩, HO, HX, HE⟩
  ihave HL := (enter_lds m ρ c) $$ [H0 Hl Hw]
  · isplitl [H0]; · iexact H0
    isplitl [Hl] <;> iassumption
  icases HL with ⟨HL, HwL⟩
  ihave HS := (enter_sigs (F := F) c) $$ [Htb H2]
  · isplitl [Htb] <;> iassumption
  icases HS with ⟨HS, Hr0⟩
  ihave HT := (enter_tail (F := F) c) $$ [Hps Hpr Hcr]
  · isplitl [Hps]; · iexact Hps
    isplitl [Hpr] <;> iassumption
  icases HT with ⟨HT, Hrp⟩
  isplitl [HO]; · iexact HO
  isplitr [HL H1]
  · isplitl [HS]; · iexact HS
    isplitl [HX]; · iexact HX
    isplitl [Hcb Hpb Hr0 Hc Hts Htr]
    · isplitl [Hcb]; · iexact Hcb
      isplitl [Hpb]; · iexact Hpb
      isplitl [Hr0 Hc]
      · isplitl [Hr0] <;> iassumption
      iapply (enter_toks (F := F) c)
      isplitl [Hts] <;> iassumption
    isplitl [HT]; · iexact HT
    isplitl [HE]; · iexact HE
    isplitl [Hrp] <;> iassumption
  isplitl [HL]; · iexact HL
  isplitl [H1]; · iapply (enter_zf (F := F) c); iexact H1
  unfold ZS; rw [Finset.Ico_self, bigSep_empty]; iempintro

/-! ## What a device ends with -/

theorem close_at (K : Cells → ℕ) (x : Cells) (R : ℕ) (h : ∀ r, R ≤ r → (Rd (F := F) m ρ).duties (rcell x) r = ∅) :
    iprop(Env m ρ K ∗ atPos EX (rcell x) R ∅ 0) ⊢ (|={Set.univ}=> semVal (rcell x) 0 : sProp 𝕄) := by
  iintro ⟨HE, H⟩
  iapply (Rounds.cell_close EX (Rd m ρ) (κ := K x) (Set.mem_univ _) (fun hu => hu) h)
  isplitl [HE]
  · iapply (env_inv m ρ K x); iexact HE
  iexact H

theorem close_fam (K : Cells → ℕ) {I : Type} [DecidableEq I] (S : Finset I) (x : I → Cells) :
    iprop(Env m ρ K ∗ bigSep S fun i => atPos EX (rcell (x i)) 1 ∅ 0) ⊢ (|={Set.univ}=> bigSep S fun i => semVal (rcell (x i)) 0 : sProp 𝕄) := by
  refine ((sep_mono_left (BI.bigSep_of_persistent S (Env m ρ K))).trans ?_).trans (bigSep_fupd S _)
  rw [← bigSep_sep']
  exact bigSep_mono fun i _ => close_at m ρ K (x i) 1 (duties_later m ρ _)

theorem close (K : Cells → ℕ) (c : Dev nD) :
    iprop(Env m ρ K ∗ atPos EX (barCell c) 1 ∅ 0
        ∗ (atPos EX (sendCell c c) 0 ∅ 0 ∗ bigSep (Finset.univ.erase c) fun s => atPos EX (sendCell c s) 1 ∅ 0)
        ∗ (atPos EX (recvCell c c) 0 ∅ 0 ∗ bigSep (Finset.univ.erase c) fun e => atPos EX (recvCell c e) 1 ∅ 0))
      ⊢ (|={Set.univ}=> own (fun g => semVal g 0) c : sProp 𝕄) := by
  unfold own
  rw [bigSep_univ_at (fun s : Dev nD => (semVal (sendCell c s) 0 : sProp 𝕄)) c, bigSep_univ_at (fun e : Dev nD => (semVal (recvCell c e) 0 : sProp 𝕄)) c]
  iintro ⟨#HE, Hb, ⟨Hs0, Hs⟩, Hr0, Hr⟩
  imod (close_at m ρ K (.inl c) 1 (duties_later m ρ _)) $$ [Hb] with Hb
  · isplitr; · iexact HE
    iexact Hb
  imod (close_at m ρ K (.inr (.inl (c, c))) 0 (duties_self_send m ρ c)) $$ [Hs0] with Hs0
  · isplitr; · iexact HE
    iexact Hs0
  imod (close_at m ρ K (.inr (.inr (c, c))) 0 (duties_self_recv m ρ c)) $$ [Hr0] with Hr0
  · isplitr; · iexact HE
    iexact Hr0
  imod (close_fam m ρ K (Finset.univ.erase c) (fun s => .inr (.inl (c, s)))) $$ [Hs] with Hs
  · isplitr; · iexact HE
    iexact Hs
  imod (close_fam m ρ K (Finset.univ.erase c) (fun e => .inr (.inr (c, e)))) $$ [Hr] with Hr
  · isplitr; · iexact HE
    iexact Hr
  imodintro
  isplitl [Hb]; · iexact Hb
  isplitl [Hs0 Hs]
  · isplitl [Hs0]; · iexact Hs0
    iexact Hs
  isplitl [Hr0]; · iexact Hr0
  iexact Hr

def Φ₀ (c : Dev nD) : sProp 𝕄 := iprop(start m ρ c ∗ (Any c cc0_scratch0 ∗ Any c cc0_scratch1 ∗ Any c cc0_scratch2))
def Φ₁ (c : Dev nD) : sProp 𝕄 :=
  iprop((own (fun g => semVal g 0) c ∗ loads c ∗ semVal ((c : Thread nD τ), .dma copyS) 0) ∗ (Any c cc0_scratch0 ∗ Any c cc0_scratch1 ∗ Any c cc0_scratch2) ∗ wLeft m ρ c)

theorem leave (K : Cells → ℕ) (c : Dev nD) (f₀ : Buf (Elt F) ((c : Thread nD τ).loc cc0_scratch0)) :
    iprop(Env m ρ K ∗ Done m ρ c ∗ atPos EX (barCell c) 1 ∅ 0 ∗ Lds m ρ c 16 16 16 ∗ Keep m ρ c) ⊢ (|={Set.univ}=> iprop(Φ₁ m ρ c ∗ Ow c 32 32) : sProp 𝕄) := by
  unfold Done Lds Keep Φ₁
  iintro ⟨HE, ⟨HO, H2, H1, Hc, Hs, Hr⟩, Hb, ⟨-, HF, -⟩, Hr0, Hw⟩
  imod (close m ρ K c) $$ [HE Hb Hs Hr Hr0] with Ho
  · isplitl [HE]; · iexact HE
    isplitl [Hb]; · iexact Hb
    isplitl [Hs]; · iexact Hs
    isplitl [Hr0] <;> iassumption
  ihave HF := (exit_free c f₀) $$ HF
  icases HF with ⟨H0, Hl⟩
  imodintro
  isplitr [HO]
  · isplitl [Ho Hl Hc]
    · isplitl [Ho]; · iexact Ho
      isplitl [Hl] <;> iassumption
    isplitr [Hw]
    · isplitl [H0]; · iexact H0
      isplitl [H1]; · iexists (zAll m ρ c); iexact H1
      iexists (rAll m ρ c); iexact H2
    iexact Hw
  iexact HO

/-! ## The body's obligation -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sastg m ρ c
    | ⟨2, _⟩ => sbstg m ρ c
    | ⟨3, _⟩ => outv m ρ c
  Φ t := match t with
    | ⟨0, _⟩ => Φ₀ m ρ c
    | ⟨_ + 1, _⟩ => Φ₁ m ρ c
  q _ := fullShare
  owed t := match t with
    | ⟨0, _⟩ => Ob c 1 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ m ρ c ∗ (dats m ρ 0 c).owesAt () t0_0.succ ∗ stg c cc0_stg0_0 (xstg m ρ c) ∗ stg c cc0_stg1_0 (sastg m ρ c) ∗ stg c cc0_stg2_0 (sbstg m ρ c)
    ∗ stg c cc0_stg3_0 (outv m ρ c))

/-- What the pipeline hands the body, in the body's own terms. -/
theorem bodyPre_open (c : Dev nD) : bodyPre m ρ c ⊢ iprop(∃ K, Env m ρ K ∗ Main m ρ c 1 0 iprop(Sigs c 1 ∗ Ops m ρ c ∗ BarR c ∗ TailR c ∗ OutE c ∗ Keep m ρ c) 0 0 0 0 0) := by
  have b0 (d) : (dats m ρ 0 c).before (0 : Fin 4) t0_0 d = xstg m ρ c := by unfold Dat.before; rw [if_pos (fetch0_0 t0_0)]; rfl
  have b1 (d) : (dats m ρ 0 c).before (1 : Fin 4) t0_0 d = sastg m ρ c := by unfold Dat.before; rw [if_pos (fetch0_1 t0_0)]; rfl
  have b2 (d) : (dats m ρ 0 c).before (2 : Fin 4) t0_0 d = sbstg m ρ c := by unfold Dat.before; rw [if_pos (fetch0_2 t0_0)]; rfl
  unfold bodyPre Φ₀ start
  simp only [b0, b1, b2]
  unfold Dat.owesAt Pipeline.owesWithin
  rw [show (dats m ρ 0 c).owed t0_0.castSucc = Ob c 1 0 from rfl]
  iintro ⟨⟨⟨⟨%K, #HE⟩, Hl, Hc, Hw⟩, Hs⟩, ⟨%W, -, HO⟩, ⟨%d0, %g0, %e0, Hx⟩, ⟨%d1, %g1, %e1, Ha⟩, ⟨%d2, %g2, %e2, Hb⟩, %d3, %g3, %e3, Ho⟩
  subst e0; subst e1; subst e2
  iexists K
  isplitr; · iexact HE
  iapply (enter m ρ c)
  isplitl [Hl]; · iexact Hl
  isplitl [Hc]; · iexact Hc
  isplitl [Hw]; · iexact Hw
  isplitl [Hs]; · iexact Hs
  isplitl [HO]; · unfold Ow; iexists W; iexact HO
  isplitl [Hx Ha Hb]
  · unfold Ops
    isplitl [Hx]; · iexact Hx
    isplitl [Ha] <;> iassumption
  unfold OutE; iexists g3; iexact Ho

theorem bodyPost_close (c : Dev nD) :
    iprop(Φ₁ m ρ c ∗ Ow c 32 32 ∗ Ops m ρ c ∗ ((c : Thread nD τ).loc cc0_stg3_0) ↦{fullShare} outv m ρ c) ⊢ bodyPost m ρ c := by
  unfold bodyPost Ow Ops Dat.owesAt Pipeline.owesWithin
  rw [Ob_done, show (dats m ρ 0 c).owed t0_0.succ = 0 from rfl]
  iintro ⟨HΦ, ⟨%W, HO⟩, ⟨Hx, Ha, Hb⟩, Ho⟩
  isplitl [HΦ]; · iexact HΦ
  isplitl [HO]
  · iexists W
    isplitr; · ipureintro; exact fun _ _ => Or.inl trivial
    iexact HO
  isplitl [Hx]
  · iexists _; isplitr; · ipureintro; rfl
    iexact Hx
  isplitl [Ha]
  · iexists _; isplitr; · ipureintro; rfl
    iexact Ha
  isplitl [Hb]
  · iexists _; isplitr; · ipureintro; rfl
    iexact Hb
  iexists _; isplitr; · ipureintro; rfl
  iexact Ho

theorem sound_body (c : Dev nD) : bodyPre m ρ c ⊢ wp frame (wpE (defs₀ (F := F)) 𝒱₀ (c : Thread nD τ) none) Set.univ
    (cc0_body xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6)
    (fun _ => bodyPost m ρ c) := by
  iintro H
  ihave H := (bodyPre_open m ρ c) $$ H
  icases H with ⟨%K, #HE, HM⟩
  iapply wp_fupd
  iapply (@body_piece F _ m ρ (Keep m ρ c) K c fun _ => iprop(|={Set.univ}=> bodyPost m ρ c))
  isplitr; · iexact HE
  isplitl [HM]; · iexact HM
  iintro %r - ⟨Ho, HD, HX, Hb, HL, HK⟩
  imod (leave m ρ K c (fun _ => (Nonempty.some inferInstance))) $$ [HD Hb HL HK] with H
  · isplitr; · iexact HE
    isplitl [HD]; · iexact HD
    isplitl [Hb]; · iexact Hb
    isplitl [HL] <;> iassumption
  icases H with ⟨HΦ, HO⟩
  imodintro
  iapply (bodyPost_close m ρ c)
  isplitl [HΦ]; · iexact HΦ
  isplitl [HO]; · iexact HO
  isplitl [HX] <;> iassumption

/-- The pipeline calls the kernel at the one point on its first staging buffers. -/
theorem prog_eq : (defs₀ (F := F)) Proc.tc 0 (t0_0, cfg0.slots t0_0)
    = cc0_body xM (Memref.isWhole_whole _) wM (Memref.isWhole_whole _) saM (Memref.isWhole_whole _) sbM (Memref.isWhole_whole _) oM (Memref.isWhole_whole _) bM (Memref.isWhole_whole _) zM (Memref.isWhole_whole _) rM (Memref.isWhole_whole _) cc0_scratch3 cc0_scratch4 cc0_scratch5 cc0_scratch6 := by
  with_unfolding_all rfl

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  have hs := sound_body m ρ c
  rw [← prog_eq] at hs
  revert hs
  generalize (defs₀ (F := F)) Proc.tc 0 (t0_0, cfg0.slots t0_0) = p
  intro hs
  exact hs

end Cert.KernelIdealRun

end
-- ==== Proof.KernelIdealRun.lean ====
/-
# The launch and the run
-/
module

public import proofs.«01_k».proof.Proof.KernelIdealEnds
public import Idealize.ShloMosaic.Lib.Pipeline.CollectiveSegs

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The counters and the cells -/

/-- The kernel's own counters: the chunks', the sends', the receives', the local copy's. -/
abbrev KS : Type := Fin 8 ⊕ (Dev nD ⊕ (Dev nD ⊕ Unit))
def osem : KS → SemLoc sig
  | .inl j => .dma (loadS j.val)
  | .inr (.inl s) => .dma (sendS s)
  | .inr (.inr (.inl e)) => .dma (recvS e)
  | .inr (.inr (.inr _)) => .dma copyS

set_option maxRecDepth 100000 in
theorem ownSemFacts : Pipeline.OwnSemFacts cfg0.spec osem := by decide +kernel

theorem share_eq (c : Dev nD) (w : Fin cfg0.W) : (dats m ρ 0 c).share w = fullShare := by unfold Dat.share; split <;> rfl

theorem sendS_inj {s s' : Dev nD} (h : sendS s = sendS s') : s = s' := Fin.ext (by
  have e : 12 + s.val = 12 + s'.val := congrArg Fin.val h; omega)
theorem recvS_inj {s s' : Dev nD} (h : recvS s = recvS s') : s = s' := Fin.ext (by
  have e : 44 + s.val = 44 + s'.val := congrArg Fin.val h; omega)
theorem send_ne_recv (s e : Dev nD) : sendS s ≠ recvS e := fun h => by
  have e1 : 12 + s.val = 44 + e.val := congrArg Fin.val h
  have h1 : s.val < 32 := s.isLt
  omega

theorem cell_dev {g g' : GSem nD τ sig} (h : g = g') : g.1.1 = g'.1.1 := by rw [h]
theorem cell_dma {c c' : Dev nD} {q q' : DmaSem sig} (h : (((c : Thread nD τ), .dma q) : GSem nD τ sig) = ((c' : Thread nD τ), .dma q')) : q = q' :=
  SemLoc.dma.inj (congrArg Prod.snd h)
theorem bar_ne_dma {c c' : Dev nD} {q : DmaSem sig} : (((c : Thread nD τ), .dma q) : GSem nD τ sig) ≠ barCell c' := fun h => by
  have := congrArg Prod.snd h; cases this

theorem rcell_injective : Function.Injective rcell := by
  rintro (c | ⟨⟨c, s⟩ | ⟨c, s⟩⟩) (c' | ⟨⟨c', s'⟩ | ⟨c', s'⟩⟩) h
  · exact congrArg Sum.inl (cell_dev h)
  · exact absurd h.symm bar_ne_dma
  · exact absurd h.symm bar_ne_dma
  · exact absurd h bar_ne_dma
  · have h1 : c = c' := cell_dev h
    have h2 : s = s' := sendS_inj (cell_dma h)
    subst h1; subst h2; rfl
  · exact absurd (cell_dma h) (send_ne_recv _ _)
  · exact absurd h bar_ne_dma
  · exact absurd (cell_dma h).symm (send_ne_recv _ _)
  · have h1 : c = c' := cell_dev h
    have h2 : s = s' := recvS_inj (cell_dma h)
    subst h1; subst h2; rfl
def exCells : Finset (GSem nD τ sig) := Finset.univ.map ⟨rcell, rcell_injective⟩

/-- A family over the cells, listed per device. -/
theorem cells_own {M : Type} [URA M] (Φ : GSem nD τ sig → sProp M) : (bigSep Finset.univ fun x : Cells => Φ (rcell x)) = bigSep Finset.univ fun c : Dev nD => own Φ c := by
  unfold own
  rw [bigSep_sep', bigSep_sep']
  refine (bigSep_univ_sum (α := Dev nD) (β := (Dev nD × Dev nD) ⊕ (Dev nD × Dev nD)) _).trans (congrArg _ ((bigSep_univ_sum (α := Dev nD × Dev nD) (β := Dev nD × Dev nD) _).trans ?_))
  rw [bigSep_univ_prod, bigSep_univ_prod]; rfl

/-- The duty tokens, minted per cell and payer: a barrier's for every payer, a send's for its own device, a receive's for the sender. -/
abbrev TX : Type := (Dev nD × Dev nD) ⊕ ((Dev nD × Dev nD) ⊕ (Dev nD × Dev nD))
def tokOf : TX → GSem nD τ sig × ℕ × Dev nD
  | .inl p => (barCell p.1, 0, p.2)
  | .inr (.inl p) => (sendCell p.1 p.2, 0, p.1)
  | .inr (.inr p) => (recvCell p.1 p.2, 0, p.2)
theorem tokOf_injective : Function.Injective tokOf := by
  rintro (⟨c, s⟩ | ⟨⟨c, s⟩ | ⟨c, s⟩⟩) (⟨c', s'⟩ | ⟨⟨c', s'⟩ | ⟨c', s'⟩⟩) h
  · have h1 : c = c' := cell_dev (congrArg Prod.fst h)
    have h2 : s = s' := congrArg (fun x => x.2.2) h
    subst h1; subst h2; rfl
  · exact absurd (congrArg Prod.fst h).symm bar_ne_dma
  · exact absurd (congrArg Prod.fst h).symm bar_ne_dma
  · exact absurd (congrArg Prod.fst h) bar_ne_dma
  · have h1 : c = c' := cell_dev (congrArg Prod.fst h)
    have h2 : s = s' := sendS_inj (cell_dma (congrArg Prod.fst h))
    subst h1; subst h2; rfl
  · exact absurd (cell_dma (congrArg Prod.fst h)) (send_ne_recv _ _)
  · exact absurd (congrArg Prod.fst h) bar_ne_dma
  · exact absurd (cell_dma (congrArg Prod.fst h)).symm (send_ne_recv _ _)
  · have h1 : c = c' := cell_dev (congrArg Prod.fst h)
    have h2 : s = s' := recvS_inj (cell_dma (congrArg Prod.fst h))
    subst h1; subst h2; rfl
def exToks : Finset (GSem nD τ sig × ℕ × Dev nD) := Finset.univ.map ⟨tokOf, tokOf_injective⟩

/-- The launch's element: the pipeline's, the exchange's, no counter yet. -/
def u₀ : UU := (initOf (Pipeline.cells cfgs cellOf_inj) (Pipeline.launchToks cfgs cellOf_inj), (initOf exCells exToks, 1))

theorem split_u₀ (a : UR sig nD τ) (b : UX) : (ownU ((a, (b, 1)) : UU) : sProp 𝕄) ⊢ iprop(BI.own (EP a) ∗ BI.own (EX b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- A family over the pairs of devices, by its second member. -/
theorem pairs_swap {M : Type} [URA M] (Φ : Dev nD → Dev nD → sProp M) : (bigSep Finset.univ fun c => bigSep Finset.univ fun d => Φ c d) = bigSep Finset.univ fun d => bigSep Finset.univ fun c => Φ c d := by
  rw [← bigSep_univ_prod (fun p : Dev nD × Dev nD => Φ p.1 p.2), ← bigSep_univ_prod (fun p : Dev nD × Dev nD => Φ p.2 p.1),
    bigSep_univ_equiv (Equiv.prodComm (Dev nD) (Dev nD)) (fun p : Dev nD × Dev nD => Φ p.1 p.2)]
  rfl

/-- The tokens minted, each with its payer. -/
theorem toks_pay : bigSep exToks (fun x => (dutyTok EX x.1 x.2.1 x.2.2 : sProp 𝕄)) = bigSep Finset.univ fun c : Dev nD => pay c := by
  unfold exToks pay
  rw [bigSep_map, bigSep_sep', bigSep_sep']
  refine (bigSep_univ_sum (α := Dev nD × Dev nD) (β := (Dev nD × Dev nD) ⊕ (Dev nD × Dev nD)) _).trans
    ((congrArg _ (bigSep_univ_sum (α := Dev nD × Dev nD) (β := Dev nD × Dev nD) _)).trans ?_)
  rw [bigSep_univ_prod, bigSep_univ_prod, bigSep_univ_prod]
  refine congrArg₂ _ ?_ (congrArg₂ _ rfl ?_)
  · exact pairs_swap fun (c d : Dev nD) => (dutyTok EX (barCell c) 0 d : sProp 𝕄)
  · exact pairs_swap fun (c d : Dev nD) => (dutyTok EX (recvCell c d) 0 d : sProp 𝕄)

/-- What the launch deals each device. -/
def G (c : Dev nD) : sProp 𝕄 :=
  iprop(own (fun g => roundState EX (Rd m ρ) g 0) c ∗ own (fun g => atPos EX g 0 ∅ 0) c ∗ own (fun g => reached EX g 0) c ∗ pay c)

theorem fund_ex : BI.own (EX (initOf exCells exToks)) ⊢ (|==> bigSep Finset.univ (G m ρ) : sProp 𝕄) := by
  have hX (Φ : GSem nD τ sig → sProp 𝕄) : bigSep exCells Φ = bigSep Finset.univ fun c : Dev nD => own Φ c := by
    unfold exCells; rw [bigSep_map]; exact cells_own Φ
  iintro HX
  imod (Rounds.fund EX (Rd m ρ) exCells exToks) $$ HX with ⟨Hst, Hr, Hat, Htok⟩
  imodintro
  ihave Hst' := (Entails.of_eq (hX fun g => roundState EX (Rd m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq toks_pay) $$ Htok
  unfold G
  rw [bigSep_sep', bigSep_sep', bigSep_sep']
  isplitl [Hst']; · iexact Hst'
  isplitl [Hat']; · iexact Hat'
  isplitl [Hr']; · iexact Hr'
  iexact Htok'

/-! ## The invariants, allocated -/

theorem ownSems0_eq (c : Dev nD) : (Pipeline.ownSems0 (Ix := Unit) (Name := ℕ) (U := UU) (Lvl := ℕ) (Val := Elt F) (τ := τ) osem c : sProp 𝕄)
    = iprop(loads c ∗ (bigSep Finset.univ fun s : Dev nD => semVal (sendCell c s) 0) ∗ (bigSep Finset.univ fun e : Dev nD => semVal (recvCell c e) 0)
      ∗ semVal ((c : Thread nD τ), .dma copyS) 0) := by
  unfold Pipeline.ownSems0 loads
  refine (bigSep_univ_sum (α := Fin 8) (β := Dev nD ⊕ (Dev nD ⊕ Unit)) _).trans (congrArg _ ((bigSep_univ_sum (α := Dev nD) (β := Dev nD ⊕ Unit) _).trans
    (congrArg _ ((bigSep_univ_sum (α := Dev nD) (β := Unit) _).trans (congrArg _ ?_)))))
  rw [Finset.univ_unique, bigSep_singleton]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop(own (fun g => semVal g 0) c ∗ loads c ∗ semVal ((c : Thread nD τ), .dma copyS) 0) : sProp 𝕄) := by
  rw [ownSems0_eq, unscopedSems0_eq]; unfold own
  iintro ⟨⟨Hl, Hs, Hr, Hc⟩, Hb⟩
  isplitr [Hl Hc]
  · isplitl [Hb]; · iexact Hb
    isplitl [Hs] <;> iassumption
  isplitl [Hl] <;> iassumption

/-- What the global step makes of it. -/
def G' (c : Dev nD) : sProp 𝕄 :=
  iprop((∃ K : Cells → ℕ, (bigSep Finset.univ fun x : Cells => cellInv EX (Rd m ρ) (K x) (rcell x)) ∗ bigSep Finset.univ fun x : Cells => reached EX (rcell x) 0) ∗ linear c)

theorem alloc : iprop((bigSep Finset.univ fun x : Cells => (semVal (rcell x) 0 : sProp 𝕄)) ∗ bigSep Finset.univ fun x : Cells => roundState EX (Rd m ρ) (rcell x) 0)
    ⊢ (|={Set.univ}=> iprop(∃ K : Cells → ℕ, bigSep Finset.univ fun x : Cells => cellInv EX (Rd m ρ) (K x) (rcell x)) : sProp 𝕄) := by
  rw [← bigSep_sep']
  have h : (bigSep Finset.univ fun x : Cells => (iprop(semVal (rcell x) 0 ∗ roundState EX (Rd m ρ) (rcell x) 0) : sProp 𝕄))
      ⊢ (|={Set.univ}=> bigSep Finset.univ fun x : Cells => iprop(∃ κ : ℕ, cellInv EX (Rd m ρ) κ (rcell x)) : sProp 𝕄) :=
    (bigSep_mono fun x _ => (Rounds.body_intro EX (Rd m ρ) (rcell x)).trans inv_alloc).trans (bigSep_fupd _ _)
  iintro H
  imod h $$ H with H
  imodintro
  iapply (BI.bigSep_exists_pi Finset.univ (fun (x : Cells) (κ : ℕ) => (cellInv EX (Rd m ρ) κ (rcell x) : sProp 𝕄)))
  iexact H

theorem deal {I : Type} [DecidableEq I] {S : Finset I} {R : sProp 𝕄} [BI.Persistent R] {Φ : I → sProp 𝕄} :
    iprop(R ∗ bigSep S Φ) ⊢ bigSep S fun i => iprop(R ∗ Φ i) := by
  rw [bigSep_sep']; exact sep_mono_left (BI.bigSep_of_persistent S R)

/-- The own and unscoped counters of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) := by
  have h1 : (bigSep Finset.univ fun c => iprop(Pipeline.ownSems0 (Ix := Unit) (Name := ℕ) (U := UU) (Lvl := ℕ) (Val := Elt F) (τ := τ) osem c ∗ unscopedSems0 c ∗ G m ρ c) : sProp 𝕄)
      ⊢ bigSep Finset.univ fun c : Dev nD => iprop(own (fun g => semVal g 0) c ∗ own (fun g => roundState EX (Rd m ρ) g 0) c ∗ own (fun g => reached EX g 0) c ∗ linear c) :=
    bigSep_mono fun c _ => by
      unfold G linear
      show BIBase.Entails (PROP := sProp 𝕄) _ _
      iintro ⟨Ho, Hu, Hst, Hat, Hr, Hp⟩
      ihave H := (sems0_eq (F := F) c) $$ [Ho Hu]
      · isplitl [Ho] <;> iassumption
      icases H with ⟨Hv, Hl, Hc⟩
      isplitl [Hv]; · iexact Hv
      isplitl [Hst]; · iexact Hst
      isplitl [Hr]; · iexact Hr
      isplitl [Hl Hc]
      · isplitl [Hl] <;> iassumption
      isplitl [Hat] <;> iassumption
  refine h1.trans ?_
  rw [bigSep_sep', bigSep_sep', bigSep_sep', ← cells_own (fun g => (semVal g 0 : sProp 𝕄)), ← cells_own (fun g => roundState EX (Rd m ρ) g 0), ← cells_own (fun g => (reached EX g 0 : sProp 𝕄))]
  have h2 (K : Cells → ℕ) : iprop(((bigSep Finset.univ fun x : Cells => cellInv EX (Rd m ρ) (K x) (rcell x)) ∗ bigSep Finset.univ fun x : Cells => reached EX (rcell x) 0) ∗ bigSep Finset.univ linear)
      ⊢ bigSep Finset.univ (G' m ρ) :=
    deal.trans (bigSep_mono fun c _ => by
      unfold G'
      show BIBase.Entails (PROP := sProp 𝕄) _ _
      iintro ⟨H, Hl⟩
      isplitl [H]; · iexists K; iexact H
      iexact Hl)
  iintro ⟨Hv, Hst, Hr, Hl⟩
  imod (alloc m ρ) $$ [Hv Hst] with HI
  · isplitl [Hv] <;> iassumption
  icases HI with ⟨%K, HI⟩
  imodintro
  iapply (h2 K)
  isplitr [Hl]
  · isplitl [HI] <;> iassumption
  iexact Hl

/-! ## The launch credit -/

def O₀ (d : Dev nD) : CellTallies nD τ sig Unit := Ob d 1 0

theorem bar_eq_iff {a b : Dev nD} : barCell a = barCell b ↔ a = b := ⟨cell_dev, fun h => h ▸ rfl⟩

/-- A device owes every other device's barrier one signal, -/
theorem owed_bar (d c : Dev nD) : O₀ d (barCell c) () = if d = c then 0 else 1 := by
  have hs : (∑ t ∈ Finset.Ico 0 32, sndTally d t) (barCell c) () = 0 := by
    rcases Nat.eq_zero_or_pos ((∑ t ∈ Finset.Ico 0 32, sndTally d t) (barCell c) ()) with h | h
    · exact h
    · obtain ⟨t, _, ht⟩ := sum_pos_at h
      obtain ⟨e, he⟩ := sndTally_pos ht
      exact absurd he.symm bar_ne_dma
  have hf : (∑ h ∈ Finset.Ico 0 32, barTally d h) (barCell c) () = 1 := by
    have e := sum_by_erase (up_inj d) (fun e => (tallyAt (barCell e) () 1 : CellTallies nD τ sig Unit))
    rw [show (∑ h ∈ Finset.Ico 0 32, barTally d h) = ∑ e : Dev nD, (tallyAt (barCell e) () 1 : CellTallies nD τ sig Unit) from e.symm,
      Finset.sum_apply, Finsupp.finset_sum_apply, Finset.sum_congr rfl fun e _ => tallyAt_apply .., Finset.sum_eq_single c]
    · rw [if_pos ⟨rfl, rfl⟩]
    · exact fun e _ he => if_neg fun h => he (bar_eq_iff.mp h.1).symm
    · exact fun h => absurd (Finset.mem_univ c) h
  have h0 : barTally d 0 (barCell c) () = if d = c then 1 else 0 := by
    unfold barTally; rw [up_zero, tallyAt_apply]
    by_cases h : d = c
    · subst h; rw [if_pos ⟨rfl, rfl⟩, if_pos rfl]
    · rw [if_neg (fun h' => h (bar_eq_iff.mp h'.1).symm), if_neg h]
  rw [sum_bot (show 0 < 32 by decide), Pi.add_apply, Finsupp.add_apply, show Finset.Ico (0 + 1) 32 = Finset.Ico 1 32 from rfl] at hf
  unfold O₀ Ob
  rw [Pi.add_apply, Finsupp.add_apply, hs]
  by_cases h : d = c
  · rw [if_pos h] at h0 ⊢
    rw [h0] at hf; omega
  · have h1 : barTally d 0 (barCell c) () = 0 := h0.trans (if_neg h)
    rw [h1] at hf
    rw [if_neg h]; omega

/-- and the receive cell of every other device for itself one slot's worth. -/
theorem owed_recv (d c e : Dev nD) (hec : e ≠ c) : O₀ d (recvCell c e) () = if d = e then N else 0 := by
  have hb : (∑ h ∈ Finset.Ico 1 32, barTally d h) (recvCell c e) () = 0 := by
    rcases Nat.eq_zero_or_pos ((∑ h ∈ Finset.Ico 1 32, barTally d h) (recvCell c e) ()) with h | h
    · exact h
    · obtain ⟨t, _, ht⟩ := sum_pos_at h
      obtain ⟨x, hx⟩ := barTally_pos ht
      exact absurd hx bar_ne_dma
  unfold O₀ Ob
  rw [Pi.add_apply, Finsupp.add_apply, hb, Nat.add_zero]
  have h := sum_by_erase (tgt_inj d) (fun x => (if x = d then 0 else tallyAt (recvCell x d) () N : CellTallies nD τ sig Unit))
  rw [show (∑ t ∈ Finset.Ico 0 32, sndTally d t) = ∑ x : Dev nD, (if x = d then 0 else tallyAt (recvCell x d) () N : CellTallies nD τ sig Unit) from h.symm,
    Finset.sum_apply, Finsupp.finset_sum_apply, Finset.sum_eq_single c]
  · by_cases hd : d = e
    · subst hd
      rw [if_neg hec.symm, tallyAt_apply, if_pos ⟨rfl, rfl⟩, if_pos rfl]
    · rw [if_neg hd]
      by_cases hcd : c = d
      · rw [if_pos hcd]; rfl
      · rw [if_neg hcd, tallyAt_apply, if_neg fun h => hd (recvS_inj (cell_dma h.1)).symm]
  · intro x _ hx
    by_cases hxd : x = d
    · rw [if_pos hxd]; rfl
    · rw [if_neg hxd, tallyAt_apply, if_neg fun h => hx (cell_dev h.1).symm]
  · exact fun h => absurd (Finset.mem_univ c) h

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, ← Finset.add_sum_erase _ _ (Finset.mem_univ c), if_pos rfl,
    Finset.sum_congr rfl fun d hd => if_neg (Finset.ne_of_mem_erase hd), Finset.sum_const, Finset.card_erase_of_mem (Finset.mem_univ _), Finset.card_univ]
  rfl
theorem launch_recv (c e : Dev nD) (h : e ≠ c) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, Finset.sum_congr rfl fun d _ => owed_recv d c e h, Finset.sum_ite_eq' Finset.univ e fun _ => N,
    if_pos (Finset.mem_univ _)]

theorem launch_creds (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := (Finset.univ.erase c).image fun e => SemLoc.dma (recvS e)) ?_).trans ?_
  · intro x hx
    obtain ⟨e, _, rfl⟩ := Finset.mem_image.mp hx
    exact Finset.mem_erase.mpr ⟨(fun h => by cases h), Finset.mem_univ _⟩
  · rw [bigSep_image_of_injOn (fun a _ b _ h => recvS_inj (SemLoc.dma.inj h))]
    exact bigSep_mono fun e he => by rw [launch_recv c e (Finset.ne_of_mem_erase he)]; exact BI.Entails.refl _

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold G' start Env Lev
  iintro ⟨Hw, Hlev, Hcr, -, ⟨%K, HI⟩, Hl⟩
  ihave Hc := (launch_creds (F := F) c) $$ Hcr
  imodintro
  isplitl
  · isplitl [HI Hlev]
    · iexists K
      isplitl [HI] <;> iassumption
    isplitl [Hl]; · iexact Hl
    isplitl [Hc]; · iexact Hc
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop((unscopedSems0 c ∗ wLeft m ρ c) ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ own
  iintro ⟨⟨⟨Hb, Hs, Hr⟩, Hl, Hc⟩, HA, Hw⟩
  isplitl [Hb Hw]
  · isplitl [Hb] <;> iassumption
  isplitr [HA]
  · isplitl [Hl]; · iexact Hl
    isplitl [Hs]; · iexact Hs
    isplitl [Hr] <;> iassumption
  iexact HA

theorem stage_low : ∀ w : Fin cfg0.W, ∀ s, useOf (.dma ((cfg0.win w).sem s)) = .other := by
  intro w s; fin_cases w <;> fin_cases s <;> rfl
theorem waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), .dma ((cfg0.win w).sem s)) () = 0 := by unfold lv; rw [stage_low w s]
    rcases t with ⟨_ | _, ht⟩
    · exact mayWait_low c _ hl 1 0
    · have h := mayWait_low (F := F) c _ hl 32 32
      rw [Ob_done] at h
      exact h

/-! ## The run -/

def finalA (c : Dev nD) (w : Fin cfg0.W) : Buf (Elt F) ((cfg0.win w).arr.view.loc (c : Thread nD τ)) := (dats m ρ 0 c).arrAt w cfg0.N

/-- Every window's array at its final contents, `w` as it was. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem main_eq (c : Dev nD) : main (F := F) c = .op (.customCall (Pipeline.entry (0 : Fin 1)) ()) fun _ => .ret ⟨⟩ := rfl

set_option maxRecDepth 8000 in
set_option maxHeartbeats 4000000 in
/-- On 32 devices, for any float values, from any memory with zero counters: every fair execution of the program ends, every final
    state has each device's result at the computed contents, the arguments unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := main_eq)
    (hbody := fun c => body_obligation m ρ c) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (split_u₀ (F := F) _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => iprop(unscopedSems0 c ∗ wLeft m ρ c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨⟨Hu, Hw⟩, -, HSI⟩
      ihave H := (persistent_entails_right (SI_pointsTo_agree (st := s') (ℓ := (c : Thread nD τ).loc main_arg1) (I := Finset.univ) (q := Transfers.shareDrop fullShare 16) (f := wBuf m ρ c))) $$ [HSI Hw]
      · isplitl [HSI] <;> iassumption
      icases H with ⟨%h, HSI, -⟩
      imod (Pipeline.unscopedSems0_read (X := unscopedSems0 c) (c := c) fupd_intro s') $$ [Hu HSI] with ⟨%h', HSI⟩
      · isplitl [Hu] <;> iassumption
      imodintro
      isplitr
      · ipureintro; exact ⟨h', funext fun i => h i (Finset.mem_univ i)⟩
      iexact HSI)
    (hQ := fun _ h hs => ⟨fun c => ⟨fun w => (h c).1 w, (h c).2.2.2⟩, sem_eq_zero hs fun c => (h c).2.2.1⟩)

end Cert.KernelIdealRun

end
-- ==== Proof.Frames.lean ====
/-
# The frames

What the runs say of the arguments: every device's four argument arrays end as they were launched.
-/
module

public import proofs.«01_k».proof.Defs
public import proofs.«01_k».proof.Proof.KernelRun
public import proofs.«01_k».proof.Proof.KernelIdealRun
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

/-- The kernel's frame, on words. -/
theorem kernel_frame : Cert.quiescent_Kernel := fun m g _ =>
  (θ_run Cert.Kernel.defs _ _).mono (fun _ h => ⟨fun c =>
    ⟨((h.1 c).1 0).trans ((Cert.KernelRun.dats (F := Bits) m g 0 c).arrAt_in 0 rfl _), (h.1 c).2,
      ((h.1 c).1 1).trans ((Cert.KernelRun.dats (F := Bits) m g 0 c).arrAt_in 1 rfl _),
      ((h.1 c).1 2).trans ((Cert.KernelRun.dats (F := Bits) m g 0 c).arrAt_in 2 rfl _)⟩, h.2⟩)
    (Cert.KernelRun.run_main (F := Bits) m g)

/-- The ideal kernel's frame. -/
theorem kernelIdeal_frame : Cert.quiescent_KernelIdeal := fun m g _ =>
  (θ_run Cert.KernelIdeal.defs _ _).mono (fun _ h => ⟨fun c =>
    ⟨((h.1 c).1 0).trans ((Cert.KernelIdealRun.dats (F := Ideal) m g 0 c).arrAt_in 0 rfl _), (h.1 c).2,
      ((h.1 c).1 1).trans ((Cert.KernelIdealRun.dats (F := Ideal) m g 0 c).arrAt_in 1 rfl _),
      ((h.1 c).1 2).trans ((Cert.KernelIdealRun.dats (F := Ideal) m g 0 c).arrAt_in 2 rfl _)⟩, h.2⟩)
    (Cert.KernelIdealRun.run_main (F := Ideal) m g)

/-- The reference's frame: it has no semaphore. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Values.lean ====
/-
# What the kernel's result holds over the extended reals

One element of a column block is a sum over the whole contracted axis, chunk by chunk; scaled, multiplied by its logistic,
and carried by the exchange to the device whose columns it belongs to.
-/
module

public import proofs.«01_k».proof.Proof.KernelIdealRun
public import Idealize.ShloMosaic.Lib.Pointwise

@[expose] public section

set_option maxRecDepth 16384

noncomputable section

namespace Cert.KernelIdealRun

open Cert.KernelIdeal Cert.KernelIdeal.Gen
open Idealize.ShloMosaic Idealize.ShloMosaic.TcCoe Idealize.SL.Sem

/-- One chunk's product at an element: the sum over the chunk's 1024 positions. -/
theorem mm_apply (k : ℕ) (hk : k + 1024 ≤ 4096) (h : S128x4096.Slices ![0, k] S128x1024) (x : FVec Ideal S128x4096 .bf16) (w : Vec Ideal S1x1024x512 .f32)
    (r : Fin 128) (j : Fin 512) :
    mm (F := Ideal) k h x w (ix2 r j) = ∑ i : Fin 1024, x (ix2 r ⟨k + i.val, by omega⟩) * w (ix3 0 i j) := by
  pointwise [mm]

/-- The block of `x`, as the products read it, is `x` itself. -/
theorem pay2_apply (x : Vec Ideal S128x4096 .f32) (i : S128x4096.Idx) : k0_pay2 (F := Ideal) x i = x i := by
  pointwise [k0_pay2]

/-- The slots laid one under the other. -/
theorem pay1_apply (v : Vec Ideal S32x128x64 .bf16) (R : Fin 4096) (l : Fin 64) :
    k0_pay1 (F := Ideal) v (ix2 R l) = v (ix3 ⟨R.val / 128, by omega⟩ ⟨R.val % 128, by omega⟩ l) := by
  pointwise [k0_pay1]

variable (m : (ℓ : Loc nD τ sig) → Buf (Elt Ideal) ℓ) (ρ : Dev nD → PrngReg)

/-- `x`, `w` and the two scales on a device, as arrays of extended reals. -/
def xa (c : Dev nD) : S128x4096.Idx → EReal := m ((c : Thread nD τ).loc main_arg0)
def wa (c : Dev nD) : S4096x2048.Idx → EReal := m ((c : Thread nD τ).loc main_arg1)
def sa (c : Dev nD) : S1.Idx → EReal := m ((c : Thread nD τ).loc main_arg2)
def sb (c : Dev nD) : S1.Idx → EReal := m ((c : Thread nD τ).loc main_arg3)

theorem xstg_eq (c : Dev nD) : xstg (F := Ideal) m ρ c = xa m c :=
  Memref.read_access_unit_zero (Elt Ideal) main_arg0 (funext fun a => by fin_cases a <;> rfl) (fun a => by fin_cases a <;> decide) _
theorem sastg_eq (c : Dev nD) : sastg (F := Ideal) m ρ c = sa m c :=
  Memref.read_access_unit_zero (Elt Ideal) main_arg2 (funext fun a => by fin_cases a <;> rfl) (fun a => by fin_cases a <;> decide) _
theorem sbstg_eq (c : Dev nD) : sbstg (F := Ideal) m ρ c = sb m c :=
  Memref.read_access_unit_zero (Elt Ideal) main_arg3 (funext fun a => by fin_cases a <;> rfl) (fun a => by fin_cases a <;> decide) _

/-- The product of row `r` of `x` with column `j` of `w`, over the whole contracted axis. -/
def dotv (c : Dev nD) (r : Fin 128) (j : Fin 2048) : EReal := ∑ k : Fin 4096, xa m c (ix2 r k) * wa m c (ix2 k j)
/-- That, scaled. -/
def yv (c : Dev nD) (r : Fin 128) (j : Fin 2048) : EReal := dotv m c r j * (sa m c (ix1 0) * sb m c (ix1 0))

theorem sc_eq (c : Dev nD) : sc (F := Ideal) m ρ c = sa m c (ix1 0) * sb m c (ix1 0) := by
  unfold sc
  rw [sastg_eq, sbstg_eq, show (Shape.Idx.first (s := S1) (by decide)) = ix1 0 from funext fun a => by fin_cases a; rfl]
  rfl

/-- An element of chunk `i` of `w`. -/
theorem wch_apply (c : Dev nD) (i : ℕ) (k : Fin 1024) (j : Fin 512) :
    wch (F := Ideal) m ρ c i (ix3 0 k j) = wa m c (ix2 ⟨1024 * (i % 4) + k.val, by omega⟩ ⟨512 * (i / 4 % 4) + j.val, by omega⟩) := by
  unfold wch
  refine congrArg (wa m c) (funext fun a => Fin.ext ?_)
  rw [Rect.emb_apply]
  have e : Shape.reshapeEquiv (s := S1024x512) (by decide) (ix3 0 k j : S1x1024x512.Idx) = ix2 k j := by pointwise
  rw [e]
  fin_cases a
  · show 1024 * (i % 4) + 1 * k.val = 1024 * (i % 4) + k.val; omega
  · show 512 * (i / 4 % 4) + 1 * j.val = 512 * (i / 4 % 4) + j.val; omega

/-- The sum over the contracted axis, as the four chunks' sums. -/
theorem sum_chunks (f : Fin 4096 → EReal) : ∑ k, f k
    = (((∑ i : Fin 1024, f ⟨0 + i.val, by omega⟩) + ∑ i : Fin 1024, f ⟨1024 + i.val, by omega⟩) + ∑ i : Fin 1024, f ⟨2048 + i.val, by omega⟩)
      + ∑ i : Fin 1024, f ⟨3072 + i.val, by omega⟩ := by
  rw [Fin.sum_univ_tiles 4 1024 rfl, Fin.sum_univ_four]
  rfl

theorem mm_chunk (c : Dev nD) (q : ℕ) (t : ℕ) (ht : t < 4) (k : ℕ) (hk : k = 1024 * t) (h : S128x4096.Slices ![0, k] S128x1024) (r : Fin 128) (j : Fin 512) :
    mm (F := Ideal) k h (xb m ρ c) (wch m ρ c (4 * q + t)) (ix2 r j)
      = ∑ i : Fin 1024, xa m c (ix2 r ⟨k + i.val, by omega⟩) * wa m c (ix2 ⟨k + i.val, by omega⟩ ⟨512 * (q % 4) + j.val, by omega⟩) := by
  rw [mm_apply k (by omega)]
  refine Finset.sum_congr rfl fun i _ => ?_
  rw [xb, pay2_apply, xstg_eq, wch_apply]
  subst hk
  have e1 : (4 * q + t) % 4 = t := by omega
  have e2 : (4 * q + t) / 4 % 4 = q % 4 := by omega
  simp only [e1, e2]

/-- An element of column block `q`, before the scale. -/
theorem acc_apply (c : Dev nD) (q : ℕ) (r : Fin 128) (j : Fin 512) :
    acc (F := Ideal) m ρ c q (ix2 r j) = dotv m c r ⟨512 * (q % 4) + j.val, by omega⟩ := by
  unfold acc dotv
  rw [sum_chunks, ← mm_chunk m ρ c q 0 (by decide) 0 rfl slices_S128x4096_o0_0_S128x1024, ← mm_chunk m ρ c q 1 (by decide) 1024 rfl slices_S128x4096_o0_1024_S128x1024,
    ← mm_chunk m ρ c q 2 (by decide) 2048 rfl slices_S128x4096_o0_2048_S128x1024, ← mm_chunk m ρ c q 3 (by decide) 3072 rfl slices_S128x4096_o0_3072_S128x1024]
  rfl

theorem yblk_apply (c : Dev nD) (q : ℕ) (r : Fin 128) (j : Fin 512) :
    yblk (F := Ideal) m ρ c q (ix2 r j) = yv m c r ⟨512 * (q % 4) + j.val, by omega⟩ := by
  unfold yv
  rw [← acc_apply m ρ, ← sc_eq m ρ]
  rfl

/-- `y` times its logistic. -/
def silu (y : EReal) : EReal := y * Ideal.logistic y

theorem zblk_apply (c : Dev nD) (q : ℕ) (r : Fin 128) (j : Fin 512) :
    zblk (F := Ideal) m ρ c q (ix2 r j) = silu (yv m c r ⟨512 * (q % 4) + j.val, by omega⟩) := by
  rw [← yblk_apply m ρ]
  rfl

/-- An element of what goes into slot `s`. -/
theorem zpay_apply (c : Dev nD) (s : Fin 32) (r : Fin 128) (l : Fin 64) :
    zpay (F := Ideal) m ρ c s.val (ix3 0 r l) = silu (yv m c r ⟨64 * s.val + l.val, by omega⟩) := by
  have e : zpay (F := Ideal) m ρ c s.val (ix3 0 r l) = zblk (F := Ideal) m ρ c (s.val / 8) (ix2 r ⟨64 * (s.val % 8) + l.val, by omega⟩) := by
    pointwise [zpay]
  rw [e, zblk_apply]
  refine congrArg (fun j => silu (yv m c r j)) (Fin.ext ?_)
  show 512 * (s.val / 8 % 4) + (64 * (s.val % 8) + l.val) = 64 * s.val + l.val
  omega

/-- An element of the kernel's result: row `R` is row `R % 128` of device `R / 128`, the columns are this device's. -/
theorem outv_apply (c : Dev nD) (R : Fin 4096) (l : Fin 64) :
    outv (F := Ideal) m ρ c (ix2 R l)
      = silu (yv m (dv (R.val / 128)) ⟨R.val % 128, by omega⟩ ⟨64 * c.val + l.val, by have h : c.val < 32 := c.isLt; omega⟩) := by
  unfold outv
  rw [pay1_apply]
  exact (congrArg (zpay (F := Ideal) m ρ (dv (R.val / 128)) c.val) (funext fun a => by fin_cases a <;> rfl)).trans
    (zpay_apply m ρ (dv (R.val / 128)) ⟨c.val, c.isLt⟩ ⟨R.val % 128, _⟩ l)

/-- The result array at the end: what the body left in its window. -/
theorem final_out (c : Dev nD) : finalA (F := Ideal) m ρ c (3 : Fin 4) = outv (F := Ideal) m ρ c := by
  have ho : (win0_3.blk (0 : Fin 1)).view.read (Elt Ideal) (finalA (F := Ideal) m ρ c (3 : Fin 4)) = outv (F := Ideal) m ρ c := by
    unfold finalA
    rw [show cfg0.N = ((0 : Fin 1) : Fin cfg0.N).val + 1 from rfl, (dats m ρ 0 c).arrAt_succ (3 : Fin 4) (0 : Fin 1),
      show (cfg0.win (3 : Fin 4)).flush (0 : Fin 1) = true from by decide, if_pos rfl]
    exact View.read_write_univ _ _
  exact (Memref.read_access_unit_zero (Elt Ideal) main_v1 (funext fun a => by fin_cases a <;> rfl) (fun a => by fin_cases a <;> decide) _).symm.trans ho

end Cert.KernelIdealRun

end
-- ==== Proof.Equation.lean ====
/-
# The kernel's function is the reference's

`y` times the logistic of `y` is `y / (1 + exp (-y))`, for every extended real; a device's result is its block of columns
of the reference's result.
-/
module

public import proofs.«01_k».proof.Proof.Values
public import proofs.«01_k».proof.Proof.Gen.ReferenceIdeal.Run
public import proofs.«01_k».proof.Defs
public import Idealize.ShloMosaic.Lib.Layout

@[expose] public section

set_option maxRecDepth 16384

noncomputable section

namespace Cert.Equation

open Idealize.ShloMosaic Idealize.ShloMosaic.TcCoe Idealize.SL.Sem

/-- `exp` is nowhere negative. -/
theorem exp_nonneg (x : EReal) : 0 ≤ Ideal.exp x := by
  induction x using EReal.rec with
  | bot => exact le_refl _
  | top => exact le_top
  | coe r => exact EReal.coe_nonneg.2 (Real.exp_pos r).le

/-- The denominator is not zero. -/
theorem denom_ne (x : EReal) : 1 + Ideal.exp x ≠ 0 := by
  have h : (1 : EReal) ≤ 1 + Ideal.exp x := le_add_of_nonneg_right (exp_nonneg x)
  exact (lt_of_lt_of_le zero_lt_one h).ne'

/-- `y` times its logistic, as a quotient. -/
theorem silu_eq (y : EReal) : Cert.KernelIdealRun.silu y = Ideal.div y (1 + Ideal.exp (-y)) := by
  unfold Cert.KernelIdealRun.silu Ideal.logistic Ideal.div
  rw [if_neg (denom_ne _), if_neg (denom_ne _)]
  simp

/-- The reference's result as a function of its arguments. -/
def refOut (x : Cert.ReferenceIdeal.S4096x4096.Idx → EReal) (w : Cert.ReferenceIdeal.S4096x2048.Idx → EReal) (a b : Cert.ReferenceIdeal.S1.Idx → EReal)
    (R : Fin 4096) (J : Fin 2048) : EReal :=
  Ideal.div ((∑ k : Fin 4096, x (ix2 R k) * w (ix2 k J)) * (a (ix1 0) * b (ix1 0)))
    (1 + Ideal.exp (-((∑ k : Fin 4096, x (ix2 R k) * w (ix2 k J)) * (a (ix1 0) * b (ix1 0)))))

section
open Cert.ReferenceIdeal Cert.ReferenceIdeal.Gen Idealize.ShloMosaic.StableHlo
/-- What the reference's operations compose to, at an element. -/
theorem ref_apply (x : FVec Ideal S4096x4096 .f32) (w : FVec Ideal S4096x2048 .f32) (a b : FVec Ideal S1 .f32) (R : Fin 4096) (J : Fin 2048) :
    (Host.divf (mulf (Host.dotGeneral dot_S4096x4096_S4096x2048_S4096x2048_1_0_0_1_n_n none x w) (broadcastInDim S4096x2048 ![0, 1] bcast_S1x1_S4096x2048_0_1 (broadcastInDim S1x1 ![1] bcast_S1_S1x1_1 (mulf a b)))) (addf (broadcastInDim S4096x2048 ![] bcast_S_S4096x2048 (constant S_ .f32 0x3F800000#32)) (Host.exp (Host.negf (mulf (Host.dotGeneral dot_S4096x4096_S4096x2048_S4096x2048_1_0_0_1_n_n none x w) (broadcastInDim S4096x2048 ![0, 1] bcast_S1x1_S4096x2048_0_1 (broadcastInDim S1x1 ![1] bcast_S1_S1x1_1 (mulf a b))))))) : FVec Ideal S4096x2048 .f32) (ix2 R J)
      = refOut x w a b R J := by
  pointwise [refOut]
end

/-! ## A device's block -/

section
open Cert.KernelIdeal Cert.KernelIdealRun

variable (m : (ℓ : Loc nD τ sig) → Buf (Elt Ideal) ℓ) (ρ : Dev nD → PrngReg)
  (X : (⟨2, ![4096, 4096]⟩ : Shape).Idx → EReal) (W : (⟨2, ![4096, 2048]⟩ : Shape).Idx → EReal) (A B : (⟨1, ![1]⟩ : Shape).Idx → EReal)

/-- The devices' memories hold the whole arguments: `X` in blocks of rows, the others as they are. -/
def Agrees : Prop := ∀ c : Dev nD, xa m c = Layout.block ⟨2, ![128, 4096]⟩ ⟨2, ![4096, 4096]⟩ 0 32 c X ∧ wa m c = W ∧ sa m c = A ∧ sb m c = B

variable {m X W A B}

/-- Row `r` of device `e`'s block against column `J`: row `128 e + r` of the whole product. -/
theorem yv_whole (h : Agrees m X W A B) (R : Fin 4096) (J : Fin 2048) :
    yv m (dv (R.val / 128)) ⟨R.val % 128, by omega⟩ J = (∑ k : Fin 4096, X (ix2 R k) * W (ix2 k J)) * (A (ix1 0) * B (ix1 0)) := by
  obtain ⟨hx, hw, ha, hb⟩ := h (dv (R.val / 128))
  unfold yv dotv
  rw [hx, hw, ha, hb]
  refine congrArg (· * _) (Finset.sum_congr rfl fun k _ => congrArg (X · * _) (funext fun a => Fin.ext ?_))
  fin_cases a
  · show R.val / 128 % 32 * 128 + R.val % 128 = R.val; omega
  · rfl

/-- A device's result is its block of columns of any array that holds the reference's function. -/
theorem outv_block (h : Agrees m X W A B) (V : (⟨2, ![4096, 2048]⟩ : Shape).Idx → EReal) (hV : ∀ R J, V (ix2 R J) = refOut X W A B R J) (c : Dev nD) :
    outv (F := Ideal) m ρ c = Layout.block ⟨2, ![4096, 64]⟩ ⟨2, ![4096, 2048]⟩ 1 32 c V := by
  funext i
  obtain ⟨R, l, rfl⟩ : ∃ (R : Fin 4096) (l : Fin 64), i = ix2 R l := ⟨i 0, i 1, eq_ix2 i⟩
  have hc : c.val < 32 := c.isLt
  rw [outv_apply, yv_whole h, silu_eq, Layout.block_apply]
  have e : (by decide : Layout.Tiles ⟨2, ![4096, 64]⟩ ⟨2, ![4096, 2048]⟩ 1 32).idx c (ix2 R l) = ix2 R ⟨64 * c.val + l.val, by omega⟩ := by
    refine funext fun a => Fin.ext ?_
    fin_cases a
    · rfl
    · show c.val * 64 + l.val = 64 * c.val + l.val; omega
  rw [e, hV]
  rfl
end

/-- Device `c`'s result is block `c` of the reference's. -/
theorem algebraic : Cert.algebraic_KernelIdeal_ReferenceIdeal := by
  intro m g m' g' _ hag
  have h : Agrees m _ _ _ _ := hag
  refine ⟨_, (θ_run Cert.KernelIdeal.defs _ _).mono (fun r hr c => ⟨?_,
      ((hr.1 c).1 0).trans ((Cert.KernelIdealRun.dats (F := Ideal) m g 0 c).arrAt_in 0 rfl _), (hr.1 c).2,
      ((hr.1 c).1 1).trans ((Cert.KernelIdealRun.dats (F := Ideal) m g 0 c).arrAt_in 1 rfl _),
      ((hr.1 c).1 2).trans ((Cert.KernelIdealRun.dats (F := Ideal) m g 0 c).arrAt_in 2 rfl _)⟩)
    (Cert.KernelIdealRun.run_main (F := Ideal) m g),
    (θ_run Cert.ReferenceIdeal.defs _ _).mono (fun _ hr => hr 0) (Cert.ReferenceIdeal.Value.run (F := Ideal) m' g')⟩
  exact ((hr.1 c).1 3).trans ((Cert.KernelIdealRun.final_out m g c).trans (outv_block g h _ (ref_apply _ _ _ _) c))

end Cert.Equation

end
-- ==== Proof.Clipped.lean ====
/-
# The kernel against the reference with its clip

Where no pre-activation is beyond ±60 the clip inside the exponential is the identity, and the two references are one.
-/
module

public import proofs.«01_k».proof.Proof.Equation
public import proofs.«01_k».proof.Proof.Gen.ClippedIdeal.Run
public import proofs.«01_k».proof.Proof.Gen.Pre_within_KernelIdeal
public import proofs.«01_k».proof.Proof.Gen.Pre_within_ClippedIdeal
public import Idealize.ShloMosaic.Lib.Quiescent

@[expose] public section

set_option maxRecDepth 16384

noncomputable section

namespace Cert.Clipped

open Idealize.ShloMosaic Idealize.ShloMosaic.TcCoe Idealize.SL.Sem

/-- The clip's upper bound is 60, -/
theorem hi_eq : Ideal.ofBits .f32 0x42700000#32 = ((60 : ℝ) : EReal) := by
  simp [Ideal.ofBits, Ideal.ieee, -EReal.coe_mul]
  norm_num
/-- its lower bound the negative of that. -/
theorem lo_eq : Ideal.ofBits .f32 0xC2700000#32 = -((60 : ℝ) : EReal) := by
  simp [Ideal.ofBits, Ideal.ieee, -EReal.coe_mul]
  norm_num

/-- The clip does nothing within its bounds. -/
theorem clip_eq (y : EReal) (h : max y (-y) ≤ ((60 : ℝ) : EReal)) :
    min (Ideal.ofBits .f32 0x42700000#32) (max (Ideal.ofBits .f32 0xC2700000#32) y) = y := by
  rw [hi_eq, lo_eq, max_eq_right (EReal.neg_le.1 ((le_max_right _ _).trans h)), min_eq_right ((le_max_left _ _).trans h)]

section
open Cert.Pre_within_KernelIdeal Cert.KernelIdealRun
/-- What the precondition says of a device's rows. -/
theorem within_apply (x : FVec Ideal S128x4096 .f32) (w : FVec Ideal S4096x2048 .f32) (a b : FVec Ideal S1 .f32) (h : fn (F := Ideal) x w a b = fun _ => 1#1)
    (r : Fin 128) (J : Fin 2048) :
    max ((∑ k : Fin 4096, x (ix2 r k) * w (ix2 k J)) * (a (ix1 0) * b (ix1 0))) (-((∑ k : Fin 4096, x (ix2 r k) * w (ix2 k J)) * (a (ix1 0) * b (ix1 0))))
      ≤ ((60 : ℝ) : EReal) := by
  have e := congrFun h (ix2 r J)
  pointwise [fn] at e
  have e' := of_decide_eq_true ((BitVec.ofBool_eq_iff_eq.1 (e.trans BitVec.ofBool_true.symm) : _ = true))
  rw [hi_eq] at e'
  exact e'
end

section
open Cert.ClippedIdeal Cert.ClippedIdeal.Gen Idealize.ShloMosaic.StableHlo
/-- What the clipped reference's operations compose to, at an element within the bounds. -/
theorem clipped_apply (x : FVec Ideal S4096x4096 .f32) (w : FVec Ideal S4096x2048 .f32) (a b : FVec Ideal S1 .f32) (R : Fin 4096) (J : Fin 2048)
    (h : max ((∑ k : Fin 4096, x (ix2 R k) * w (ix2 k J)) * (a (ix1 0) * b (ix1 0))) (-((∑ k : Fin 4096, x (ix2 R k) * w (ix2 k J)) * (a (ix1 0) * b (ix1 0))))
      ≤ ((60 : ℝ) : EReal)) :
    (Host.divf (mulf (Host.dotGeneral dot_S4096x4096_S4096x2048_S4096x2048_1_0_0_1_n_n none x w) (broadcastInDim S4096x2048 ![0, 1] bcast_S1x1_S4096x2048_0_1 (broadcastInDim S1x1 ![1] bcast_S1_S1x1_1 (mulf a b)))) (addf (broadcastInDim S4096x2048 ![] bcast_S_S4096x2048 (constant S_ .f32 0x3F800000#32)) (Host.exp (Host.negf (minimumf (broadcastInDim S4096x2048 ![] bcast_S_S4096x2048 (id (constant S_ .f32 0x42700000#32))) (maximumf (broadcastInDim S4096x2048 ![] bcast_S_S4096x2048 (id (constant S_ .f32 0xC2700000#32))) (mulf (Host.dotGeneral dot_S4096x4096_S4096x2048_S4096x2048_1_0_0_1_n_n none x w) (broadcastInDim S4096x2048 ![0, 1] bcast_S1x1_S4096x2048_0_1 (broadcastInDim S1x1 ![1] bcast_S1_S1x1_1 (mulf a b))))))))) : FVec Ideal S4096x2048 .f32) (ix2 R J)
      = Equation.refOut x w a b R J := by
  pointwise [Equation.refOut]
  exact congrArg (fun t => Ideal.div _ (1 + Ideal.exp (-t))) (clip_eq _ h)
end

/-- The clipped reference's frame. -/
theorem frame : Cert.quiescent_ClippedIdeal := fun m g _ =>
  (θ_run Cert.ClippedIdeal.defs _ _).mono (fun r h => ⟨fun c => (h c).2, sem_eq_zero_of_no_sems (by decide) r.2⟩)
    (Cert.ClippedIdeal.Value.run (F := Ideal) m g)

/-- Within the clip's bounds, device `c`'s result is block `c` of the clipped reference's. -/
theorem algebraic : Cert.algebraic_KernelIdeal_ClippedIdeal_pre_within_KernelIdeal := by
  intro m g m' g' hpre hag
  have h : Equation.Agrees m _ _ _ _ := hag
  refine ⟨_, (θ_run Cert.KernelIdeal.defs _ _).mono (fun r hr c => ⟨?_,
      ((hr.1 c).1 0).trans ((Cert.KernelIdealRun.dats (F := Ideal) m g 0 c).arrAt_in 0 rfl _), (hr.1 c).2,
      ((hr.1 c).1 1).trans ((Cert.KernelIdealRun.dats (F := Ideal) m g 0 c).arrAt_in 1 rfl _),
      ((hr.1 c).1 2).trans ((Cert.KernelIdealRun.dats (F := Ideal) m g 0 c).arrAt_in 2 rfl _)⟩)
    (Cert.KernelIdealRun.run_main (F := Ideal) m g),
    (θ_run Cert.ClippedIdeal.defs _ _).mono (fun _ hr => hr 0) (Cert.ClippedIdeal.Value.run (F := Ideal) m' g')⟩
  refine ((hr.1 c).1 3).trans ((Cert.KernelIdealRun.final_out m g c).trans (Equation.outv_block g h _ (fun R J => clipped_apply _ _ _ _ R J ?_) c))
  have hb := within_apply _ _ _ _ (hpre (Cert.KernelIdealRun.dv (R.val / 128))) ⟨R.val % 128, by omega⟩ J
  have hy := Equation.yv_whole h R J
  rw [← hy]
  exact hb

end Cert.Clipped

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal.Run
public import proofs.«01_k».proof.Proof.Gen.Pre_within_KernelIdeal
public import proofs.«01_k».proof.Proof.Gen.Pre_within_ClippedIdeal
public import proofs.«01_k».proof.Proof.Frames
public import proofs.«01_k».proof.Proof.Equation
public import proofs.«01_k».proof.Proof.Clipped
public import Idealize.ShloMosaic.Adequacy
public import Idealize.ShloMosaic.Init

@[expose] public section

noncomputable section

namespace Cert.Proof

open Idealize.ShloMosaic Idealize.SL.Sem Cert.Kernel

/-- Every claim, from the frames, the value against the plain reference and the value against the clipped one. -/
theorem claim : Cert.Claim :=
  ⟨Cert.Kernel.Gen.facts, Cert.KernelIdeal.Gen.facts, Cert.ReferenceIdeal.Gen.facts, Cert.ClippedIdeal.Gen.facts,
    Cert.Pre_within_KernelIdeal.Gen.facts, Cert.Pre_within_ClippedIdeal.Gen.facts,
    kernel_frame, kernelIdeal_frame, fun m g _ => kernelIdeal_frame m g trivial, reference_frame, Cert.Clipped.frame,
    fun m g _ => Cert.Clipped.frame m g trivial, trivial, Cert.Equation.algebraic, Cert.Clipped.algebraic⟩

end Cert.Proof

end
